-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S384x2048 : Shape := ⟨2, ![384, 2048]⟩
abbrev S192x2048 : Shape := ⟨2, ![192, 2048]⟩
abbrev S96x2048 : Shape := ⟨2, ![96, 2048]⟩
abbrev S320x2048 : Shape := ⟨2, ![320, 2048]⟩
abbrev S160x2048 : Shape := ⟨2, ![160, 2048]⟩
abbrev S80x2048 : Shape := ⟨2, ![80, 2048]⟩
abbrev S15 : Shape := ⟨1, ![15]⟩
abbrev S21 : Shape := ⟨1, ![21]⟩
abbrev S_ : Shape := ⟨0, ![]⟩
abbrev S192x1024 : Shape := ⟨2, ![192, 1024]⟩
abbrev S1 : Shape := ⟨1, ![1]⟩
abbrev S384x1024 : Shape := ⟨2, ![384, 1024]⟩
abbrev S160x1024 : Shape := ⟨2, ![160, 1024]⟩
abbrev S320x1024 : Shape := ⟨2, ![320, 1024]⟩

abbrev nBuf : Space → Nat
  | .hbm => 3
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S384x2048, .bf16⟩
  | .local _ .vmem, ⟨5, _⟩ => ⟨S192x2048, .bf16⟩
  | .local _ .vmem, ⟨6, _⟩ => ⟨S96x2048, .bf16⟩
  | .local _ .vmem, ⟨7, _⟩ => ⟨S320x2048, .bf16⟩
  | .local _ .vmem, ⟨8, _⟩ => ⟨S160x2048, .bf16⟩
  | .local _ .vmem, ⟨9, _⟩ => ⟨S80x2048, .bf16⟩
  | .local _ .vmem, ⟨10, _⟩ => ⟨S320x2048, .bf16⟩
  | .local _ .vmem, ⟨11, _⟩ => ⟨S160x2048, .bf16⟩
  | .local _ .vmem, ⟨12, _⟩ => ⟨S80x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v16 : BitVec 32 := Scalar.xori v2 c1_i32_7
  let c1_i32_9 : BitVec 32 := 1#32
  let v17 : BitVec 32 := Scalar.muli v16 c1_i32_9
  let v18 : BitVec 32 := Scalar.addi c0_i32 v17
  v18.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 32 := Scalar.xori v2 c3_i32
  let c1_i32_11 : BitVec 32 := 1#32
  let v20 : BitVec 32 := Scalar.muli v19 c1_i32_11
  let v21 : BitVec 32 := Scalar.addi c0_i32_12 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 32 := Scalar.xori v2 c4_i32
  let c1_i32_14 : BitVec 32 := 1#32
  let v23 : BitVec 32 := Scalar.muli v22 c1_i32_14
  let v24 : BitVec 32 := Scalar.addi c0_i32_15 v23
  v24.toNat
def k0_off1 (d0 : Dev nD) : Fin 2 → Nat :=
  let c0_i32_18 : BitVec 32 := 0#32
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_17 v8
  let c384_i32 : BitVec 32 := 384#32
  let v26 : BitVec 32 := Scalar.muli v25 c384_i32
  let v27 : BitVec 32 := Scalar.addi c0_i32_18 v26
  let c1_i32_23 : BitVec 32 := 1#32
  let c1_i32_21 : BitVec 32 := 1#32
  let v30 : BitVec 32 := Scalar.xori v2 c1_i32_21
  let c1_i32_22 : BitVec 32 := 1#32
  let v31 : BitVec 32 := Scalar.andi v30 c1_i32_22
  let v32 : BitVec 32 := Scalar.subi c1_i32_23 v31
  let c192_i32 : BitVec 32 := 192#32
  let v33 : BitVec 32 := Scalar.muli v32 c192_i32
  let v35 : BitVec 32 := Scalar.addi v27 v33
  let v36 : Index := Scalar.indexCast v35
  let c0_25 : Index := 0#32
  ![v36.toNat, 0]
def k0_off2 (d0 : Dev nD) : Fin 2 → Nat :=
  let c0_i32_18 : BitVec 32 := 0#32
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_17 v8
  let c384_i32 : BitVec 32 := 384#32
  let v26 : BitVec 32 := Scalar.muli v25 c384_i32
  let v27 : BitVec 32 := Scalar.addi c0_i32_18 v26
  let c1_i32_23 : BitVec 32 := 1#32
  let c1_i32_21 : BitVec 32 := 1#32
  let v30 : BitVec 32 := Scalar.xori v2 c1_i32_21
  let c1_i32_22 : BitVec 32 := 1#32
  let v31 : BitVec 32 := Scalar.andi v30 c1_i32_22
  let v32 : BitVec 32 := Scalar.subi c1_i32_23 v31
  let c192_i32 : BitVec 32 := 192#32
  let v33 : BitVec 32 := Scalar.muli v32 c192_i32
  let v35 : BitVec 32 := Scalar.addi v27 v33
  let v42 : Index := Scalar.indexCast v35
  let c0_28 : Index := 0#32
  ![v42.toNat, 0]
def k0_off3 (d0 : Dev nD) : Fin 2 → Nat :=
  let c1_i32_23 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v30 : BitVec 32 := Scalar.xori v2 c1_i32_21
  let c1_i32_22 : BitVec 32 := 1#32
  let v31 : BitVec 32 := Scalar.andi v30 c1_i32_22
  let v32 : BitVec 32 := Scalar.subi c1_i32_23 v31
  let c192_i32 : BitVec 32 := 192#32
  let v33 : BitVec 32 := Scalar.muli v32 c192_i32
  let c0_i32_33 : BitVec 32 := 0#32
  ![v33.toNat, 0]
def k0_off4 (d0 : Dev nD) : Fin 2 → Nat :=
  let c0_i32_18 : BitVec 32 := 0#32
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_17 v8
  let c384_i32 : BitVec 32 := 384#32
  let v26 : BitVec 32 := Scalar.muli v25 c384_i32
  let v27 : BitVec 32 := Scalar.addi c0_i32_18 v26
  let c1_i32_23 : BitVec 32 := 1#32
  let c1_i32_21 : BitVec 32 := 1#32
  let v30 : BitVec 32 := Scalar.xori v2 c1_i32_21
  let c1_i32_22 : BitVec 32 := 1#32
  let v31 : BitVec 32 := Scalar.andi v30 c1_i32_22
  let v32 : BitVec 32 := Scalar.subi c1_i32_23 v31
  let c192_i32 : BitVec 32 := 192#32
  let v33 : BitVec 32 := Scalar.muli v32 c192_i32
  let v44 : BitVec 32 := Scalar.addi v27 v33
  let c0_i32_34 : BitVec 32 := 0#32
  ![v44.toNat, 0]
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v30 : BitVec 32 := Scalar.xori v2 c1_i32_21
  let c1_i32_31 : BitVec 32 := 1#32
  let v45 : BitVec 32 := Scalar.muli v30 c1_i32_31
  let v46 : BitVec 32 := Scalar.addi c0_i32_32 v45
  v46.toNat
def k0_off5 (d0 : Dev nD) : Fin 2 → Nat :=
  let c0_i32_18 : BitVec 32 := 0#32
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_17 v8
  let c384_i32 : BitVec 32 := 384#32
  let v26 : BitVec 32 := Scalar.muli v25 c384_i32
  let v27 : BitVec 32 := Scalar.addi c0_i32_18 v26
  let c1_i32_21 : BitVec 32 := 1#32
  let v30 : BitVec 32 := Scalar.xori v2 c1_i32_21
  let c1_i32_22 : BitVec 32 := 1#32
  let v31 : BitVec 32 := Scalar.andi v30 c1_i32_22
  let c192_i32_24 : BitVec 32 := 192#32
  let v34 : BitVec 32 := Scalar.muli v31 c192_i32_24
  let v53 : BitVec 32 := Scalar.addi v27 v34
  let v54 : Index := Scalar.indexCast v53
  let c0_35 : Index := 0#32
  ![v54.toNat, 0]
def k0_off6 (d0 : Dev nD) : Fin 2 → Nat :=
  let c0_i32_18 : BitVec 32 := 0#32
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_17 v8
  let c384_i32 : BitVec 32 := 384#32
  let v26 : BitVec 32 := Scalar.muli v25 c384_i32
  let v27 : BitVec 32 := Scalar.addi c0_i32_18 v26
  let c1_i32_21 : BitVec 32 := 1#32
  let v30 : BitVec 32 := Scalar.xori v2 c1_i32_21
  let c1_i32_22 : BitVec 32 := 1#32
  let v31 : BitVec 32 := Scalar.andi v30 c1_i32_22
  let c192_i32_24 : BitVec 32 := 192#32
  let v34 : BitVec 32 := Scalar.muli v31 c192_i32_24
  let v53 : BitVec 32 := Scalar.addi v27 v34
  let v60 : Index := Scalar.indexCast v53
  let c0_39 : Index := 0#32
  ![v60.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v30 : BitVec 32 := Scalar.xori v2 c1_i32_21
  let c1_i32_22 : BitVec 32 := 1#32
  let v31 : BitVec 32 := Scalar.andi v30 c1_i32_22
  let c192_i32_24 : BitVec 32 := 192#32
  let v34 : BitVec 32 := Scalar.muli v31 c192_i32_24
  let c0_i32_44 : BitVec 32 := 0#32
  ![v34.toNat, 0]
def k0_off8 (d0 : Dev nD) : Fin 2 → Nat :=
  let c0_i32_18 : BitVec 32 := 0#32
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v25 : BitVec 32 := Scalar.subi c1_i32_17 v8
  let c384_i32 : BitVec 32 := 384#32
  let v26 : BitVec 32 := Scalar.muli v25 c384_i32
  let v27 : BitVec 32 := Scalar.addi c0_i32_18 v26
  let c1_i32_21 : BitVec 32 := 1#32
  let v30 : BitVec 32 := Scalar.xori v2 c1_i32_21
  let c1_i32_22 : BitVec 32 := 1#32
  let v31 : BitVec 32 := Scalar.andi v30 c1_i32_22
  let c192_i32_24 : BitVec 32 := 192#32
  let v34 : BitVec 32 := Scalar.muli v31 c192_i32_24
  let v62 : BitVec 32 := Scalar.addi v27 v34
  let c0_i32_45 : BitVec 32 := 0#32
  ![v62.toNat, 0]
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v30 : BitVec 32 := Scalar.xori v2 c1_i32_21
  let c1_i32_42 : BitVec 32 := 1#32
  let v63 : BitVec 32 := Scalar.muli v30 c1_i32_42
  let v64 : BitVec 32 := Scalar.addi c0_i32_43 v63
  v64.toNat
def k0_off9 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let v71 : Index := Scalar.indexCast v29
  let c0_46 : Index := 0#32
  ![v71.toNat, 0]
def k0_off10 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let v77 : Index := Scalar.indexCast v29
  let c0_50 : Index := 0#32
  ![v77.toNat, 0]
def k0_off11 (d0 : Dev nD) : Fin 2 → Nat :=
  let c768_i32 : BitVec 32 := 768#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v79 : BitVec 32 := Scalar.subi c1_i32_51 v5
  let c320_i32 : BitVec 32 := 320#32
  let v80 : BitVec 32 := Scalar.muli v79 c320_i32
  let v81 : BitVec 32 := Scalar.addi c768_i32 v80
  let c1_i32_57 : BitVec 32 := 1#32
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let v87 : BitVec 32 := Scalar.subi c1_i32_57 v86
  let c160_i32 : BitVec 32 := 160#32
  let v88 : BitVec 32 := Scalar.muli v87 c160_i32
  let v90 : BitVec 32 := Scalar.addi v81 v88
  let v91 : Index := Scalar.indexCast v90
  let c0_59 : Index := 0#32
  ![v91.toNat, 0]
def k0_off12 (d0 : Dev nD) : Fin 2 → Nat :=
  let c768_i32 : BitVec 32 := 768#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v79 : BitVec 32 := Scalar.subi c1_i32_51 v5
  let c320_i32 : BitVec 32 := 320#32
  let v80 : BitVec 32 := Scalar.muli v79 c320_i32
  let v81 : BitVec 32 := Scalar.addi c768_i32 v80
  let c1_i32_57 : BitVec 32 := 1#32
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let v87 : BitVec 32 := Scalar.subi c1_i32_57 v86
  let c160_i32 : BitVec 32 := 160#32
  let v88 : BitVec 32 := Scalar.muli v87 c160_i32
  let v90 : BitVec 32 := Scalar.addi v81 v88
  let v97 : Index := Scalar.indexCast v90
  let c0_63 : Index := 0#32
  ![v97.toNat, 0]
def k0_off13 (d0 : Dev nD) : Fin 2 → Nat :=
  let c1_i32_57 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let v87 : BitVec 32 := Scalar.subi c1_i32_57 v86
  let c160_i32 : BitVec 32 := 160#32
  let v88 : BitVec 32 := Scalar.muli v87 c160_i32
  let c0_i32_67 : BitVec 32 := 0#32
  ![v88.toNat, 0]
def k0_off14 (d0 : Dev nD) : Fin 2 → Nat :=
  let c768_i32 : BitVec 32 := 768#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v79 : BitVec 32 := Scalar.subi c1_i32_51 v5
  let c320_i32 : BitVec 32 := 320#32
  let v80 : BitVec 32 := Scalar.muli v79 c320_i32
  let v81 : BitVec 32 := Scalar.addi c768_i32 v80
  let c1_i32_57 : BitVec 32 := 1#32
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let v87 : BitVec 32 := Scalar.subi c1_i32_57 v86
  let c160_i32 : BitVec 32 := 160#32
  let v88 : BitVec 32 := Scalar.muli v87 c160_i32
  let v99 : BitVec 32 := Scalar.addi v81 v88
  let c0_i32_68 : BitVec 32 := 0#32
  ![v99.toNat, 0]
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v84 : BitVec 32 := Scalar.xori v2 c3_i32_54
  let c1_i32_65 : BitVec 32 := 1#32
  let v100 : BitVec 32 := Scalar.muli v84 c1_i32_65
  let v101 : BitVec 32 := Scalar.addi c0_i32_66 v100
  v101.toNat
def k0_off15 (d0 : Dev nD) : Fin 2 → Nat :=
  let c768_i32 : BitVec 32 := 768#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v79 : BitVec 32 := Scalar.subi c1_i32_51 v5
  let c320_i32 : BitVec 32 := 320#32
  let v80 : BitVec 32 := Scalar.muli v79 c320_i32
  let v81 : BitVec 32 := Scalar.addi c768_i32 v80
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let c160_i32_58 : BitVec 32 := 160#32
  let v89 : BitVec 32 := Scalar.muli v86 c160_i32_58
  let v108 : BitVec 32 := Scalar.addi v81 v89
  let v109 : Index := Scalar.indexCast v108
  let c0_69 : Index := 0#32
  ![v109.toNat, 0]
def k0_off16 (d0 : Dev nD) : Fin 2 → Nat :=
  let c768_i32 : BitVec 32 := 768#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v79 : BitVec 32 := Scalar.subi c1_i32_51 v5
  let c320_i32 : BitVec 32 := 320#32
  let v80 : BitVec 32 := Scalar.muli v79 c320_i32
  let v81 : BitVec 32 := Scalar.addi c768_i32 v80
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let c160_i32_58 : BitVec 32 := 160#32
  let v89 : BitVec 32 := Scalar.muli v86 c160_i32_58
  let v108 : BitVec 32 := Scalar.addi v81 v89
  let v115 : Index := Scalar.indexCast v108
  let c0_73 : Index := 0#32
  ![v115.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let c160_i32_58 : BitVec 32 := 160#32
  let v89 : BitVec 32 := Scalar.muli v86 c160_i32_58
  let c0_i32_77 : BitVec 32 := 0#32
  ![v89.toNat, 0]
def k0_off18 (d0 : Dev nD) : Fin 2 → Nat :=
  let c768_i32 : BitVec 32 := 768#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v79 : BitVec 32 := Scalar.subi c1_i32_51 v5
  let c320_i32 : BitVec 32 := 320#32
  let v80 : BitVec 32 := Scalar.muli v79 c320_i32
  let v81 : BitVec 32 := Scalar.addi c768_i32 v80
  let c3_i32_54 : BitVec 32 := 3#32
  let v84 : BitVec 32 := Scalar.xori v2 c3_i32_54
  let c2_i32_55 : BitVec 32 := 2#32
  let v85 : BitVec 32 := Scalar.shrsi v84 c2_i32_55
  let c1_i32_56 : BitVec 32 := 1#32
  let v86 : BitVec 32 := Scalar.andi v85 c1_i32_56
  let c160_i32_58 : BitVec 32 := 160#32
  let v89 : BitVec 32 := Scalar.muli v86 c160_i32_58
  let v117 : BitVec 32 := Scalar.addi v81 v89
  let c0_i32_78 : BitVec 32 := 0#32
  ![v117.toNat, 0]
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v84 : BitVec 32 := Scalar.xori v2 c3_i32_54
  let c1_i32_75 : BitVec 32 := 1#32
  let v118 : BitVec 32 := Scalar.muli v84 c1_i32_75
  let v119 : BitVec 32 := Scalar.addi c0_i32_76 v118
  v119.toNat
def k0_off19 (d0 : Dev nD) (c768_i32_53 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let v126 : Index := Scalar.indexCast v83
  let c0_79 : Index := 0#32
  ![v126.toNat, 0]
def k0_off19_at (r : Fin 2) : BitVec 32 × BitVec 32 :=
  if r.val < 1 then
    (768#32, 1#32)
  else
    (1408#32, 2#32)
def k0_off20 (d0 : Dev nD) (c768_i32_53 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let v132 : Index := Scalar.indexCast v83
  let c0_83 : Index := 0#32
  ![v132.toNat, 0]
def k0_off20_at (r : Fin 2) : BitVec 32 × BitVec 32 :=
  if r.val < 1 then
    (768#32, 1#32)
  else
    (1408#32, 2#32)
def k0_off21 (d0 : Dev nD) : Fin 2 → Nat :=
  let c1408_i32 : BitVec 32 := 1408#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v134 : BitVec 32 := Scalar.subi c1_i32_84 v7
  let c320_i32_85 : BitVec 32 := 320#32
  let v135 : BitVec 32 := Scalar.muli v134 c320_i32_85
  let v136 : BitVec 32 := Scalar.addi c1408_i32 v135
  let c1_i32_92 : BitVec 32 := 1#32
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let v144 : BitVec 32 := Scalar.subi c1_i32_92 v143
  let c160_i32_93 : BitVec 32 := 160#32
  let v145 : BitVec 32 := Scalar.muli v144 c160_i32_93
  let v147 : BitVec 32 := Scalar.addi v136 v145
  let v148 : Index := Scalar.indexCast v147
  let c0_95 : Index := 0#32
  ![v148.toNat, 0]
def k0_off22 (d0 : Dev nD) : Fin 2 → Nat :=
  let c1408_i32 : BitVec 32 := 1408#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v134 : BitVec 32 := Scalar.subi c1_i32_84 v7
  let c320_i32_85 : BitVec 32 := 320#32
  let v135 : BitVec 32 := Scalar.muli v134 c320_i32_85
  let v136 : BitVec 32 := Scalar.addi c1408_i32 v135
  let c1_i32_92 : BitVec 32 := 1#32
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let v144 : BitVec 32 := Scalar.subi c1_i32_92 v143
  let c160_i32_93 : BitVec 32 := 160#32
  let v145 : BitVec 32 := Scalar.muli v144 c160_i32_93
  let v147 : BitVec 32 := Scalar.addi v136 v145
  let v154 : Index := Scalar.indexCast v147
  let c0_99 : Index := 0#32
  ![v154.toNat, 0]
def k0_off23 (d0 : Dev nD) : Fin 2 → Nat :=
  let c1_i32_92 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let v144 : BitVec 32 := Scalar.subi c1_i32_92 v143
  let c160_i32_93 : BitVec 32 := 160#32
  let v145 : BitVec 32 := Scalar.muli v144 c160_i32_93
  let c0_i32_103 : BitVec 32 := 0#32
  ![v145.toNat, 0]
def k0_off24 (d0 : Dev nD) : Fin 2 → Nat :=
  let c1408_i32 : BitVec 32 := 1408#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v134 : BitVec 32 := Scalar.subi c1_i32_84 v7
  let c320_i32_85 : BitVec 32 := 320#32
  let v135 : BitVec 32 := Scalar.muli v134 c320_i32_85
  let v136 : BitVec 32 := Scalar.addi c1408_i32 v135
  let c1_i32_92 : BitVec 32 := 1#32
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let v144 : BitVec 32 := Scalar.subi c1_i32_92 v143
  let c160_i32_93 : BitVec 32 := 160#32
  let v145 : BitVec 32 := Scalar.muli v144 c160_i32_93
  let v156 : BitVec 32 := Scalar.addi v136 v145
  let c0_i32_104 : BitVec 32 := 0#32
  ![v156.toNat, 0]
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v139 : BitVec 32 := Scalar.xori v2 c4_i32_88
  let c1_i32_101 : BitVec 32 := 1#32
  let v157 : BitVec 32 := Scalar.muli v139 c1_i32_101
  let v158 : BitVec 32 := Scalar.addi c0_i32_102 v157
  v158.toNat
def k0_off25 (d0 : Dev nD) : Fin 2 → Nat :=
  let c1408_i32 : BitVec 32 := 1408#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v134 : BitVec 32 := Scalar.subi c1_i32_84 v7
  let c320_i32_85 : BitVec 32 := 320#32
  let v135 : BitVec 32 := Scalar.muli v134 c320_i32_85
  let v136 : BitVec 32 := Scalar.addi c1408_i32 v135
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let c160_i32_94 : BitVec 32 := 160#32
  let v146 : BitVec 32 := Scalar.muli v143 c160_i32_94
  let v165 : BitVec 32 := Scalar.addi v136 v146
  let v166 : Index := Scalar.indexCast v165
  let c0_105 : Index := 0#32
  ![v166.toNat, 0]
def k0_off26 (d0 : Dev nD) : Fin 2 → Nat :=
  let c1408_i32 : BitVec 32 := 1408#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v134 : BitVec 32 := Scalar.subi c1_i32_84 v7
  let c320_i32_85 : BitVec 32 := 320#32
  let v135 : BitVec 32 := Scalar.muli v134 c320_i32_85
  let v136 : BitVec 32 := Scalar.addi c1408_i32 v135
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let c160_i32_94 : BitVec 32 := 160#32
  let v146 : BitVec 32 := Scalar.muli v143 c160_i32_94
  let v165 : BitVec 32 := Scalar.addi v136 v146
  let v172 : Index := Scalar.indexCast v165
  let c0_109 : Index := 0#32
  ![v172.toNat, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let c160_i32_94 : BitVec 32 := 160#32
  let v146 : BitVec 32 := Scalar.muli v143 c160_i32_94
  let c0_i32_113 : BitVec 32 := 0#32
  ![v146.toNat, 0]
def k0_off28 (d0 : Dev nD) : Fin 2 → Nat :=
  let c1408_i32 : BitVec 32 := 1408#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v134 : BitVec 32 := Scalar.subi c1_i32_84 v7
  let c320_i32_85 : BitVec 32 := 320#32
  let v135 : BitVec 32 := Scalar.muli v134 c320_i32_85
  let v136 : BitVec 32 := Scalar.addi c1408_i32 v135
  let c4_i32_88 : BitVec 32 := 4#32
  let v139 : BitVec 32 := Scalar.xori v2 c4_i32_88
  let c1_i32_89 : BitVec 32 := 1#32
  let v140 : BitVec 32 := Scalar.andi v139 c1_i32_89
  let c1_i32_90 : BitVec 32 := 1#32
  let v141 : BitVec 32 := Scalar.shrsi v139 c1_i32_90
  let c1_i32_91 : BitVec 32 := 1#32
  let v142 : BitVec 32 := Scalar.andi v141 c1_i32_91
  let v143 : BitVec 32 := Scalar.xori v140 v142
  let c160_i32_94 : BitVec 32 := 160#32
  let v146 : BitVec 32 := Scalar.muli v143 c160_i32_94
  let v174 : BitVec 32 := Scalar.addi v136 v146
  let c0_i32_114 : BitVec 32 := 0#32
  ![v174.toNat, 0]
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v139 : BitVec 32 := Scalar.xori v2 c4_i32_88
  let c1_i32_111 : BitVec 32 := 1#32
  let v175 : BitVec 32 := Scalar.muli v139 c1_i32_111
  let v176 : BitVec 32 := Scalar.addi c0_i32_112 v175
  v176.toNat
def k0_off29 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let c1_i32_120 : BitVec 32 := 1#32
  let v191 : BitVec 32 := Scalar.subi c1_i32_120 v3
  let c192_i32_121 : BitVec 32 := 192#32
  let v192 : BitVec 32 := Scalar.muli v191 c192_i32_121
  let v200 : BitVec 32 := Scalar.addi v29 v192
  let v201 : Index := Scalar.indexCast v200
  let c0_129 : Index := 0#32
  ![v201.toNat, 0]
def k0_off30 (d0 : Dev nD) : Fin 2 → Nat :=
  let c1_i32_120 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let v191 : BitVec 32 := Scalar.subi c1_i32_120 v3
  let c192_i32_121 : BitVec 32 := 192#32
  let v192 : BitVec 32 := Scalar.muli v191 c192_i32_121
  let v204 : Index := Scalar.indexCast v192
  let c0_130 : Index := 0#32
  ![v204.toNat, 0]
def k0_off31 (d0 : Dev nD) : Fin 2 → Nat :=
  let c1_i32_138 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v215 : BitVec 32 := Scalar.xori v2 c3_i32_135
  let c2_i32_136 : BitVec 32 := 2#32
  let v216 : BitVec 32 := Scalar.shrsi v215 c2_i32_136
  let c1_i32_137 : BitVec 32 := 1#32
  let v217 : BitVec 32 := Scalar.andi v216 c1_i32_137
  let v218 : BitVec 32 := Scalar.subi c1_i32_138 v217
  let c96_i32 : BitVec 32 := 96#32
  let v219 : BitVec 32 := Scalar.muli v218 c96_i32
  let c0_i32_144 : BitVec 32 := 0#32
  ![v219.toNat, 0]
def k0_off32 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let c1_i32_133 : BitVec 32 := 1#32
  let v212 : BitVec 32 := Scalar.subi c1_i32_133 v3
  let c192_i32_134 : BitVec 32 := 192#32
  let v213 : BitVec 32 := Scalar.muli v212 c192_i32_134
  let v214 : BitVec 32 := Scalar.addi v29 v213
  let c1_i32_138 : BitVec 32 := 1#32
  let c3_i32_135 : BitVec 32 := 3#32
  let v215 : BitVec 32 := Scalar.xori v2 c3_i32_135
  let c2_i32_136 : BitVec 32 := 2#32
  let v216 : BitVec 32 := Scalar.shrsi v215 c2_i32_136
  let c1_i32_137 : BitVec 32 := 1#32
  let v217 : BitVec 32 := Scalar.andi v216 c1_i32_137
  let v218 : BitVec 32 := Scalar.subi c1_i32_138 v217
  let c96_i32 : BitVec 32 := 96#32
  let v219 : BitVec 32 := Scalar.muli v218 c96_i32
  let v221 : BitVec 32 := Scalar.addi v214 v219
  let c0_i32_145 : BitVec 32 := 0#32
  ![v221.toNat, 0]
def k0_dev10 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v215 : BitVec 32 := Scalar.xori v2 c3_i32_135
  let c1_i32_142 : BitVec 32 := 1#32
  let v222 : BitVec 32 := Scalar.muli v215 c1_i32_142
  let v223 : BitVec 32 := Scalar.addi c0_i32_143 v222
  v223.toNat
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v215 : BitVec 32 := Scalar.xori v2 c3_i32_135
  let c2_i32_136 : BitVec 32 := 2#32
  let v216 : BitVec 32 := Scalar.shrsi v215 c2_i32_136
  let c1_i32_137 : BitVec 32 := 1#32
  let v217 : BitVec 32 := Scalar.andi v216 c1_i32_137
  let c96_i32_139 : BitVec 32 := 96#32
  let v220 : BitVec 32 := Scalar.muli v217 c96_i32_139
  let c0_i32_150 : BitVec 32 := 0#32
  ![v220.toNat, 0]
def k0_off34 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let c1_i32_133 : BitVec 32 := 1#32
  let v212 : BitVec 32 := Scalar.subi c1_i32_133 v3
  let c192_i32_134 : BitVec 32 := 192#32
  let v213 : BitVec 32 := Scalar.muli v212 c192_i32_134
  let v214 : BitVec 32 := Scalar.addi v29 v213
  let c3_i32_135 : BitVec 32 := 3#32
  let v215 : BitVec 32 := Scalar.xori v2 c3_i32_135
  let c2_i32_136 : BitVec 32 := 2#32
  let v216 : BitVec 32 := Scalar.shrsi v215 c2_i32_136
  let c1_i32_137 : BitVec 32 := 1#32
  let v217 : BitVec 32 := Scalar.andi v216 c1_i32_137
  let c96_i32_139 : BitVec 32 := 96#32
  let v220 : BitVec 32 := Scalar.muli v217 c96_i32_139
  let v230 : BitVec 32 := Scalar.addi v214 v220
  let c0_i32_151 : BitVec 32 := 0#32
  ![v230.toNat, 0]
def k0_dev11 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_135 : BitVec 32 := 3#32
  let v215 : BitVec 32 := Scalar.xori v2 c3_i32_135
  let c1_i32_148 : BitVec 32 := 1#32
  let v231 : BitVec 32 := Scalar.muli v215 c1_i32_148
  let v232 : BitVec 32 := Scalar.addi c0_i32_149 v231
  v232.toNat
def k0_off35 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let c192_i32_122 : BitVec 32 := 192#32
  let v193 : BitVec 32 := Scalar.muli v3 c192_i32_122
  let v245 : BitVec 32 := Scalar.addi v29 v193
  let v246 : Index := Scalar.indexCast v245
  let c0_158 : Index := 0#32
  ![v246.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c192_i32_122 : BitVec 32 := 192#32
  let v193 : BitVec 32 := Scalar.muli v3 c192_i32_122
  let v249 : Index := Scalar.indexCast v193
  let c0_159 : Index := 0#32
  ![v249.toNat, 0]
def k0_off37 (d0 : Dev nD) : Fin 2 → Nat :=
  let c768_i32_53 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let c1_i32_161 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v255 : BitVec 32 := Scalar.subi c1_i32_161 v7
  let c160_i32_162 : BitVec 32 := 160#32
  let v256 : BitVec 32 := Scalar.muli v255 c160_i32_162
  let v264 : BitVec 32 := Scalar.addi v83 v256
  let v265 : Index := Scalar.indexCast v264
  let c0_170 : Index := 0#32
  ![v265.toNat, 0]
def k0_off38 (d0 : Dev nD) : Fin 2 → Nat :=
  let c1_i32_161 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v255 : BitVec 32 := Scalar.subi c1_i32_161 v7
  let c160_i32_162 : BitVec 32 := 160#32
  let v256 : BitVec 32 := Scalar.muli v255 c160_i32_162
  let v268 : Index := Scalar.indexCast v256
  let c0_171 : Index := 0#32
  ![v268.toNat, 0]
def k0_off39 (d0 : Dev nD) (c4_i32_176 : BitVec 32) : Fin 2 → Nat :=
  let c1_i32_178 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v279 : BitVec 32 := Scalar.xori v2 c4_i32_176
  let c1_i32_177 : BitVec 32 := 1#32
  let v280 : BitVec 32 := Scalar.andi v279 c1_i32_177
  let v281 : BitVec 32 := Scalar.subi c1_i32_178 v280
  let c80_i32 : BitVec 32 := 80#32
  let v282 : BitVec 32 := Scalar.muli v281 c80_i32
  let c0_i32_183 : BitVec 32 := 0#32
  ![v282.toNat, 0]
def k0_off40 (d0 : Dev nD) : Fin 2 → Nat :=
  let c768_i32_53 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let c1_i32_174 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v276 : BitVec 32 := Scalar.subi c1_i32_174 v7
  let c160_i32_175 : BitVec 32 := 160#32
  let v277 : BitVec 32 := Scalar.muli v276 c160_i32_175
  let v278 : BitVec 32 := Scalar.addi v83 v277
  let c1_i32_178 : BitVec 32 := 1#32
  let c4_i32_176 : BitVec 32 := 4#32
  let v279 : BitVec 32 := Scalar.xori v2 c4_i32_176
  let c1_i32_177 : BitVec 32 := 1#32
  let v280 : BitVec 32 := Scalar.andi v279 c1_i32_177
  let v281 : BitVec 32 := Scalar.subi c1_i32_178 v280
  let c80_i32 : BitVec 32 := 80#32
  let v282 : BitVec 32 := Scalar.muli v281 c80_i32
  let v284 : BitVec 32 := Scalar.addi v278 v282
  let c0_i32_184 : BitVec 32 := 0#32
  ![v284.toNat, 0]
def k0_dev12 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_176 : BitVec 32 := 4#32
  let v279 : BitVec 32 := Scalar.xori v2 c4_i32_176
  let c1_i32_181 : BitVec 32 := 1#32
  let v285 : BitVec 32 := Scalar.muli v279 c1_i32_181
  let v286 : BitVec 32 := Scalar.addi c0_i32_182 v285
  v286.toNat
def k0_off41 (d0 : Dev nD) (c4_i32_176 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v279 : BitVec 32 := Scalar.xori v2 c4_i32_176
  let c1_i32_177 : BitVec 32 := 1#32
  let v280 : BitVec 32 := Scalar.andi v279 c1_i32_177
  let c80_i32_179 : BitVec 32 := 80#32
  let v283 : BitVec 32 := Scalar.muli v280 c80_i32_179
  let c0_i32_189 : BitVec 32 := 0#32
  ![v283.toNat, 0]
def k0_off42 (d0 : Dev nD) : Fin 2 → Nat :=
  let c768_i32_53 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let c1_i32_174 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v276 : BitVec 32 := Scalar.subi c1_i32_174 v7
  let c160_i32_175 : BitVec 32 := 160#32
  let v277 : BitVec 32 := Scalar.muli v276 c160_i32_175
  let v278 : BitVec 32 := Scalar.addi v83 v277
  let c4_i32_176 : BitVec 32 := 4#32
  let v279 : BitVec 32 := Scalar.xori v2 c4_i32_176
  let c1_i32_177 : BitVec 32 := 1#32
  let v280 : BitVec 32 := Scalar.andi v279 c1_i32_177
  let c80_i32_179 : BitVec 32 := 80#32
  let v283 : BitVec 32 := Scalar.muli v280 c80_i32_179
  let v293 : BitVec 32 := Scalar.addi v278 v283
  let c0_i32_190 : BitVec 32 := 0#32
  ![v293.toNat, 0]
def k0_dev13 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_176 : BitVec 32 := 4#32
  let v279 : BitVec 32 := Scalar.xori v2 c4_i32_176
  let c1_i32_187 : BitVec 32 := 1#32
  let v294 : BitVec 32 := Scalar.muli v279 c1_i32_187
  let v295 : BitVec 32 := Scalar.addi c0_i32_188 v294
  v295.toNat
def k0_off43 (d0 : Dev nD) : Fin 2 → Nat :=
  let c768_i32_53 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let c2_i32 : BitVec 32 := 2#32
  let v6 : BitVec 32 := Scalar.shrsi v2 c2_i32
  let c1_i32_3 : BitVec 32 := 1#32
  let v7 : BitVec 32 := Scalar.andi v6 c1_i32_3
  let c160_i32_163 : BitVec 32 := 160#32
  let v257 : BitVec 32 := Scalar.muli v7 c160_i32_163
  let v308 : BitVec 32 := Scalar.addi v83 v257
  let v309 : Index := Scalar.indexCast v308
  let c0_197 : Index := 0#32
  ![v309.toNat, 0]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_163 : BitVec 32 := 160#32
  let v257 : BitVec 32 := Scalar.muli v7 c160_i32_163
  let v312 : Index := Scalar.indexCast v257
  let c0_198 : Index := 0#32
  ![v312.toNat, 0]
def k0_off45 (d0 : Dev nD) : Fin 2 → Nat :=
  let c1408_i32_87 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_86 : BitVec 32 := 320#32
  let v137 : BitVec 32 := Scalar.muli v7 c320_i32_86
  let v138 : BitVec 32 := Scalar.addi c1408_i32_87 v137
  let c1_i32_200 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let v318 : BitVec 32 := Scalar.subi c1_i32_200 v9
  let c160_i32_201 : BitVec 32 := 160#32
  let v319 : BitVec 32 := Scalar.muli v318 c160_i32_201
  let v327 : BitVec 32 := Scalar.addi v138 v319
  let v328 : Index := Scalar.indexCast v327
  let c0_209 : Index := 0#32
  ![v328.toNat, 0]
def k0_off46 (d0 : Dev nD) : Fin 2 → Nat :=
  let c1_i32_200 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let v318 : BitVec 32 := Scalar.subi c1_i32_200 v9
  let c160_i32_201 : BitVec 32 := 160#32
  let v319 : BitVec 32 := Scalar.muli v318 c160_i32_201
  let v331 : Index := Scalar.indexCast v319
  let c0_210 : Index := 0#32
  ![v331.toNat, 0]
def k0_off47 (d0 : Dev nD) : Fin 2 → Nat :=
  let c1408_i32_87 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_86 : BitVec 32 := 320#32
  let v137 : BitVec 32 := Scalar.muli v7 c320_i32_86
  let v138 : BitVec 32 := Scalar.addi c1408_i32_87 v137
  let c1_i32_213 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let v339 : BitVec 32 := Scalar.subi c1_i32_213 v9
  let c160_i32_214 : BitVec 32 := 160#32
  let v340 : BitVec 32 := Scalar.muli v339 c160_i32_214
  let v341 : BitVec 32 := Scalar.addi v138 v340
  let c1_i32_217 : BitVec 32 := 1#32
  let c1_i32_215 : BitVec 32 := 1#32
  let v342 : BitVec 32 := Scalar.xori v2 c1_i32_215
  let c1_i32_216 : BitVec 32 := 1#32
  let v343 : BitVec 32 := Scalar.andi v342 c1_i32_216
  let v344 : BitVec 32 := Scalar.subi c1_i32_217 v343
  let c80_i32_218 : BitVec 32 := 80#32
  let v345 : BitVec 32 := Scalar.muli v344 c80_i32_218
  let v347 : BitVec 32 := Scalar.addi v341 v345
  let c0_i32_224 : BitVec 32 := 0#32
  ![v347.toNat, 0]
def k0_dev14 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v342 : BitVec 32 := Scalar.xori v2 c1_i32_215
  let c1_i32_221 : BitVec 32 := 1#32
  let v348 : BitVec 32 := Scalar.muli v342 c1_i32_221
  let v349 : BitVec 32 := Scalar.addi c0_i32_222 v348
  v349.toNat
def k0_off48 (d0 : Dev nD) : Fin 2 → Nat :=
  let c1408_i32_87 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_86 : BitVec 32 := 320#32
  let v137 : BitVec 32 := Scalar.muli v7 c320_i32_86
  let v138 : BitVec 32 := Scalar.addi c1408_i32_87 v137
  let c1_i32_213 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let v339 : BitVec 32 := Scalar.subi c1_i32_213 v9
  let c160_i32_214 : BitVec 32 := 160#32
  let v340 : BitVec 32 := Scalar.muli v339 c160_i32_214
  let v341 : BitVec 32 := Scalar.addi v138 v340
  let c1_i32_215 : BitVec 32 := 1#32
  let v342 : BitVec 32 := Scalar.xori v2 c1_i32_215
  let c1_i32_216 : BitVec 32 := 1#32
  let v343 : BitVec 32 := Scalar.andi v342 c1_i32_216
  let c80_i32_219 : BitVec 32 := 80#32
  let v346 : BitVec 32 := Scalar.muli v343 c80_i32_219
  let v356 : BitVec 32 := Scalar.addi v341 v346
  let c0_i32_229 : BitVec 32 := 0#32
  ![v356.toNat, 0]
def k0_dev15 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v342 : BitVec 32 := Scalar.xori v2 c1_i32_215
  let c1_i32_226 : BitVec 32 := 1#32
  let v357 : BitVec 32 := Scalar.muli v342 c1_i32_226
  let v358 : BitVec 32 := Scalar.addi c0_i32_227 v357
  v358.toNat
def k0_off49 (d0 : Dev nD) : Fin 2 → Nat :=
  let c1408_i32_87 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_86 : BitVec 32 := 320#32
  let v137 : BitVec 32 := Scalar.muli v7 c320_i32_86
  let v138 : BitVec 32 := Scalar.addi c1408_i32_87 v137
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c160_i32_202 : BitVec 32 := 160#32
  let v320 : BitVec 32 := Scalar.muli v9 c160_i32_202
  let v371 : BitVec 32 := Scalar.addi v138 v320
  let v372 : Index := Scalar.indexCast v371
  let c0_236 : Index := 0#32
  ![v372.toNat, 0]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c160_i32_202 : BitVec 32 := 160#32
  let v320 : BitVec 32 := Scalar.muli v9 c160_i32_202
  let v375 : Index := Scalar.indexCast v320
  let c0_237 : Index := 0#32
  ![v375.toNat, 0]
def k0_off51 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let c192_i32_132 : BitVec 32 := 192#32
  let v210 : BitVec 32 := Scalar.muli v3 c192_i32_132
  let v211 : BitVec 32 := Scalar.addi v29 v210
  let c1_i32_239 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v381 : BitVec 32 := Scalar.subi c1_i32_239 v7
  let c96_i32_240 : BitVec 32 := 96#32
  let v382 : BitVec 32 := Scalar.muli v381 c96_i32_240
  let v390 : BitVec 32 := Scalar.addi v211 v382
  let v391 : Index := Scalar.indexCast v390
  let c0_248 : Index := 0#32
  ![v391.toNat, 0]
def k0_off52 (d0 : Dev nD) : Fin 2 → Nat :=
  let c1_i32_239 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v381 : BitVec 32 := Scalar.subi c1_i32_239 v7
  let c96_i32_240 : BitVec 32 := 96#32
  let v382 : BitVec 32 := Scalar.muli v381 c96_i32_240
  let v394 : Index := Scalar.indexCast v382
  let c0_249 : Index := 0#32
  ![v394.toNat, 0]
def k0_off53 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let c192_i32_132 : BitVec 32 := 192#32
  let v210 : BitVec 32 := Scalar.muli v3 c192_i32_132
  let v211 : BitVec 32 := Scalar.addi v29 v210
  let c1_i32_252 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v402 : BitVec 32 := Scalar.subi c1_i32_252 v7
  let c96_i32_253 : BitVec 32 := 96#32
  let v403 : BitVec 32 := Scalar.muli v402 c96_i32_253
  let v404 : BitVec 32 := Scalar.addi v211 v403
  let c0_i32_259 : BitVec 32 := 0#32
  ![v404.toNat, 0]
def k0_dev16 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_254 : BitVec 32 := 4#32
  let v405 : BitVec 32 := Scalar.xori v2 c4_i32_254
  let c1_i32_257 : BitVec 32 := 1#32
  let v406 : BitVec 32 := Scalar.muli v405 c1_i32_257
  let v407 : BitVec 32 := Scalar.addi c0_i32_258 v406
  v407.toNat
def k0_off54 (d0 : Dev nD) : Fin 2 → Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32_19 : BitVec 32 := 384#32
  let v28 : BitVec 32 := Scalar.muli v8 c384_i32_19
  let v29 : BitVec 32 := Scalar.addi c0_i32_20 v28
  let c192_i32_132 : BitVec 32 := 192#32
  let v210 : BitVec 32 := Scalar.muli v3 c192_i32_132
  let v211 : BitVec 32 := Scalar.addi v29 v210
  let c2_i32 : BitVec 32 := 2#32
  let v6 : BitVec 32 := Scalar.shrsi v2 c2_i32
  let c1_i32_3 : BitVec 32 := 1#32
  let v7 : BitVec 32 := Scalar.andi v6 c1_i32_3
  let c96_i32_241 : BitVec 32 := 96#32
  let v383 : BitVec 32 := Scalar.muli v7 c96_i32_241
  let v419 : BitVec 32 := Scalar.addi v211 v383
  let v420 : Index := Scalar.indexCast v419
  let c0_266 : Index := 0#32
  ![v420.toNat, 0]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c96_i32_241 : BitVec 32 := 96#32
  let v383 : BitVec 32 := Scalar.muli v7 c96_i32_241
  let v423 : Index := Scalar.indexCast v383
  let c0_267 : Index := 0#32
  ![v423.toNat, 0]
def k0_off56 (d0 : Dev nD) : Fin 2 → Nat :=
  let c768_i32_53 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let c2_i32 : BitVec 32 := 2#32
  let v6 : BitVec 32 := Scalar.shrsi v2 c2_i32
  let c1_i32_3 : BitVec 32 := 1#32
  let v7 : BitVec 32 := Scalar.andi v6 c1_i32_3
  let c160_i32_173 : BitVec 32 := 160#32
  let v274 : BitVec 32 := Scalar.muli v7 c160_i32_173
  let v275 : BitVec 32 := Scalar.addi v83 v274
  let c1_i32_269 : BitVec 32 := 1#32
  let c1_i32_0 : BitVec 32 := 1#32
  let v3 : BitVec 32 := Scalar.andi v2 c1_i32_0
  let v429 : BitVec 32 := Scalar.subi c1_i32_269 v3
  let c80_i32_270 : BitVec 32 := 80#32
  let v430 : BitVec 32 := Scalar.muli v429 c80_i32_270
  let v438 : BitVec 32 := Scalar.addi v275 v430
  let v439 : Index := Scalar.indexCast v438
  let c0_278 : Index := 0#32
  ![v439.toNat, 0]
def k0_off57 (d0 : Dev nD) : Fin 2 → Nat :=
  let c1_i32_269 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let v429 : BitVec 32 := Scalar.subi c1_i32_269 v3
  let c80_i32_270 : BitVec 32 := 80#32
  let v430 : BitVec 32 := Scalar.muli v429 c80_i32_270
  let v442 : Index := Scalar.indexCast v430
  let c0_279 : Index := 0#32
  ![v442.toNat, 0]
def k0_off58 (d0 : Dev nD) : Fin 2 → Nat :=
  let c768_i32_53 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let c2_i32 : BitVec 32 := 2#32
  let v6 : BitVec 32 := Scalar.shrsi v2 c2_i32
  let c1_i32_3 : BitVec 32 := 1#32
  let v7 : BitVec 32 := Scalar.andi v6 c1_i32_3
  let c160_i32_173 : BitVec 32 := 160#32
  let v274 : BitVec 32 := Scalar.muli v7 c160_i32_173
  let v275 : BitVec 32 := Scalar.addi v83 v274
  let c1_i32_282 : BitVec 32 := 1#32
  let c1_i32_0 : BitVec 32 := 1#32
  let v3 : BitVec 32 := Scalar.andi v2 c1_i32_0
  let v450 : BitVec 32 := Scalar.subi c1_i32_282 v3
  let c80_i32_283 : BitVec 32 := 80#32
  let v451 : BitVec 32 := Scalar.muli v450 c80_i32_283
  let v452 : BitVec 32 := Scalar.addi v275 v451
  let c0_i32_288 : BitVec 32 := 0#32
  ![v452.toNat, 0]
def k0_dev17 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_284 : BitVec 32 := 1#32
  let v453 : BitVec 32 := Scalar.xori v2 c1_i32_284
  let c1_i32_286 : BitVec 32 := 1#32
  let v454 : BitVec 32 := Scalar.muli v453 c1_i32_286
  let v455 : BitVec 32 := Scalar.addi c0_i32_287 v454
  v455.toNat
def k0_off59 (d0 : Dev nD) : Fin 2 → Nat :=
  let c768_i32_53 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32_52 : BitVec 32 := 320#32
  let v82 : BitVec 32 := Scalar.muli v5 c320_i32_52
  let v83 : BitVec 32 := Scalar.addi c768_i32_53 v82
  let c2_i32 : BitVec 32 := 2#32
  let v6 : BitVec 32 := Scalar.shrsi v2 c2_i32
  let c1_i32_3 : BitVec 32 := 1#32
  let v7 : BitVec 32 := Scalar.andi v6 c1_i32_3
  let c160_i32_173 : BitVec 32 := 160#32
  let v274 : BitVec 32 := Scalar.muli v7 c160_i32_173
  let v275 : BitVec 32 := Scalar.addi v83 v274
  let c1_i32_0 : BitVec 32 := 1#32
  let v3 : BitVec 32 := Scalar.andi v2 c1_i32_0
  let c80_i32_271 : BitVec 32 := 80#32
  let v431 : BitVec 32 := Scalar.muli v3 c80_i32_271
  let v467 : BitVec 32 := Scalar.addi v275 v431
  let v468 : Index := Scalar.indexCast v467
  let c0_295 : Index := 0#32
  ![v468.toNat, 0]
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c80_i32_271 : BitVec 32 := 80#32
  let v431 : BitVec 32 := Scalar.muli v3 c80_i32_271
  let v471 : Index := Scalar.indexCast v431
  let c0_296 : Index := 0#32
  ![v471.toNat, 0]
def k0_off61 (d0 : Dev nD) : Fin 2 → Nat :=
  let c1408_i32_87 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_86 : BitVec 32 := 320#32
  let v137 : BitVec 32 := Scalar.muli v7 c320_i32_86
  let v138 : BitVec 32 := Scalar.addi c1408_i32_87 v137
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c160_i32_212 : BitVec 32 := 160#32
  let v337 : BitVec 32 := Scalar.muli v9 c160_i32_212
  let v338 : BitVec 32 := Scalar.addi v138 v337
  let c1_i32_298 : BitVec 32 := 1#32
  let v477 : BitVec 32 := Scalar.subi c1_i32_298 v3
  let c80_i32_299 : BitVec 32 := 80#32
  let v478 : BitVec 32 := Scalar.muli v477 c80_i32_299
  let v486 : BitVec 32 := Scalar.addi v338 v478
  let v487 : Index := Scalar.indexCast v486
  let c0_307 : Index := 0#32
  ![v487.toNat, 0]
def k0_off62 (d0 : Dev nD) : Fin 2 → Nat :=
  let c1408_i32_87 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_86 : BitVec 32 := 320#32
  let v137 : BitVec 32 := Scalar.muli v7 c320_i32_86
  let v138 : BitVec 32 := Scalar.addi c1408_i32_87 v137
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c160_i32_212 : BitVec 32 := 160#32
  let v337 : BitVec 32 := Scalar.muli v9 c160_i32_212
  let v338 : BitVec 32 := Scalar.addi v138 v337
  let c1_i32_311 : BitVec 32 := 1#32
  let v498 : BitVec 32 := Scalar.subi c1_i32_311 v3
  let c80_i32_312 : BitVec 32 := 80#32
  let v499 : BitVec 32 := Scalar.muli v498 c80_i32_312
  let v500 : BitVec 32 := Scalar.addi v338 v499
  let c0_i32_317 : BitVec 32 := 0#32
  ![v500.toNat, 0]
def k0_dev18 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_313 : BitVec 32 := 3#32
  let v501 : BitVec 32 := Scalar.xori v2 c3_i32_313
  let c1_i32_315 : BitVec 32 := 1#32
  let v502 : BitVec 32 := Scalar.muli v501 c1_i32_315
  let v503 : BitVec 32 := Scalar.addi c0_i32_316 v502
  v503.toNat
def k0_off63 (d0 : Dev nD) : Fin 2 → Nat :=
  let c1408_i32_87 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_86 : BitVec 32 := 320#32
  let v137 : BitVec 32 := Scalar.muli v7 c320_i32_86
  let v138 : BitVec 32 := Scalar.addi c1408_i32_87 v137
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v9 : BitVec 32 := Scalar.xori v3 v5
  let c160_i32_212 : BitVec 32 := 160#32
  let v337 : BitVec 32 := Scalar.muli v9 c160_i32_212
  let v338 : BitVec 32 := Scalar.addi v138 v337
  let c80_i32_300 : BitVec 32 := 80#32
  let v479 : BitVec 32 := Scalar.muli v3 c80_i32_300
  let v515 : BitVec 32 := Scalar.addi v338 v479
  let v516 : Index := Scalar.indexCast v515
  let c0_324 : Index := 0#32
  ![v516.toNat, 0]
def k0_off64 (d0 : Dev nD) : Fin 2 → Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_337 : BitVec 32 := 1#32
  let v538 : BitVec 32 := Scalar.andi v2 c1_i32_337
  let c1_i32_338 : BitVec 32 := 1#32
  let v539 : BitVec 32 := Scalar.shrsi v2 c1_i32_338
  let c1_i32_339 : BitVec 32 := 1#32
  let v540 : BitVec 32 := Scalar.andi v539 c1_i32_339
  let v543 : BitVec 32 := Scalar.xori v538 v540
  let c384_i32_342 : BitVec 32 := 384#32
  let v544 : BitVec 32 := Scalar.muli v543 c384_i32_342
  let v545 : BitVec 32 := Scalar.addi c0_i32_343 v544
  let c192_i32_344 : BitVec 32 := 192#32
  let v546 : BitVec 32 := Scalar.muli v538 c192_i32_344
  let v547 : BitVec 32 := Scalar.addi v545 v546
  let c2_i32_340 : BitVec 32 := 2#32
  let v541 : BitVec 32 := Scalar.shrsi v2 c2_i32_340
  let c1_i32_341 : BitVec 32 := 1#32
  let v542 : BitVec 32 := Scalar.andi v541 c1_i32_341
  let c96_i32_345 : BitVec 32 := 96#32
  let v548 : BitVec 32 := Scalar.muli v542 c96_i32_345
  let v549 : BitVec 32 := Scalar.addi v547 v548
  let c0_i32_350 : BitVec 32 := 0#32
  ![v549.toNat, 0]
def k0_dev19 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_336 : BitVec 32 := 4#32
  let v537 : BitVec 32 := Scalar.xori v2 c4_i32_336
  let c1_i32_348 : BitVec 32 := 1#32
  let v550 : BitVec 32 := Scalar.muli v537 c1_i32_348
  let v551 : BitVec 32 := Scalar.addi c0_i32_349 v550
  v551.toNat
def k0_dev20 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_352 : BitVec 32 := 3#32
  let v558 : BitVec 32 := Scalar.xori v2 c3_i32_352
  let c1_i32_364 : BitVec 32 := 1#32
  let v571 : BitVec 32 := Scalar.muli v558 c1_i32_364
  let v572 : BitVec 32 := Scalar.addi c0_i32_365 v571
  v572.toNat
def k0_dev21 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v579 : BitVec 32 := Scalar.xori v2 c1_i32_368
  let c1_i32_380 : BitVec 32 := 1#32
  let v592 : BitVec 32 := Scalar.muli v579 c1_i32_380
  let v593 : BitVec 32 := Scalar.addi c0_i32_381 v592
  v593.toNat
def k0_off65 (d0 : Dev nD) : Fin 2 → Nat :=
  let c768_i32_400 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v614 : BitVec 32 := Scalar.shrsi v2 c1_i32_395
  let c1_i32_396 : BitVec 32 := 1#32
  let v615 : BitVec 32 := Scalar.andi v614 c1_i32_396
  let c320_i32_399 : BitVec 32 := 320#32
  let v618 : BitVec 32 := Scalar.muli v615 c320_i32_399
  let v619 : BitVec 32 := Scalar.addi c768_i32_400 v618
  let c2_i32_397 : BitVec 32 := 2#32
  let v616 : BitVec 32 := Scalar.shrsi v2 c2_i32_397
  let c1_i32_398 : BitVec 32 := 1#32
  let v617 : BitVec 32 := Scalar.andi v616 c1_i32_398
  let c160_i32_401 : BitVec 32 := 160#32
  let v620 : BitVec 32 := Scalar.muli v617 c160_i32_401
  let v621 : BitVec 32 := Scalar.addi v619 v620
  let c1_i32_394 : BitVec 32 := 1#32
  let v613 : BitVec 32 := Scalar.andi v2 c1_i32_394
  let c80_i32_402 : BitVec 32 := 80#32
  let v622 : BitVec 32 := Scalar.muli v613 c80_i32_402
  let v623 : BitVec 32 := Scalar.addi v621 v622
  let c0_i32_407 : BitVec 32 := 0#32
  ![v623.toNat, 0]
def k0_dev22 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_393 : BitVec 32 := 1#32
  let v612 : BitVec 32 := Scalar.xori v2 c1_i32_393
  let c1_i32_405 : BitVec 32 := 1#32
  let v624 : BitVec 32 := Scalar.muli v612 c1_i32_405
  let v625 : BitVec 32 := Scalar.addi c0_i32_406 v624
  v625.toNat
def k0_dev23 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_409 : BitVec 32 := 4#32
  let v632 : BitVec 32 := Scalar.xori v2 c4_i32_409
  let c1_i32_421 : BitVec 32 := 1#32
  let v644 : BitVec 32 := Scalar.muli v632 c1_i32_421
  let v645 : BitVec 32 := Scalar.addi c0_i32_422 v644
  v645.toNat
def k0_dev24 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_425 : BitVec 32 := 3#32
  let v652 : BitVec 32 := Scalar.xori v2 c3_i32_425
  let c1_i32_437 : BitVec 32 := 1#32
  let v664 : BitVec 32 := Scalar.muli v652 c1_i32_437
  let v665 : BitVec 32 := Scalar.addi c0_i32_438 v664
  v665.toNat
def k0_off66 (d0 : Dev nD) : Fin 2 → Nat :=
  let c1408_i32_457 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_454 : BitVec 32 := 2#32
  let v688 : BitVec 32 := Scalar.shrsi v2 c2_i32_454
  let c1_i32_455 : BitVec 32 := 1#32
  let v689 : BitVec 32 := Scalar.andi v688 c1_i32_455
  let c320_i32_456 : BitVec 32 := 320#32
  let v691 : BitVec 32 := Scalar.muli v689 c320_i32_456
  let v692 : BitVec 32 := Scalar.addi c1408_i32_457 v691
  let c1_i32_451 : BitVec 32 := 1#32
  let v685 : BitVec 32 := Scalar.andi v2 c1_i32_451
  let c1_i32_452 : BitVec 32 := 1#32
  let v686 : BitVec 32 := Scalar.shrsi v2 c1_i32_452
  let c1_i32_453 : BitVec 32 := 1#32
  let v687 : BitVec 32 := Scalar.andi v686 c1_i32_453
  let v690 : BitVec 32 := Scalar.xori v685 v687
  let c160_i32_458 : BitVec 32 := 160#32
  let v693 : BitVec 32 := Scalar.muli v690 c160_i32_458
  let v694 : BitVec 32 := Scalar.addi v692 v693
  let c80_i32_459 : BitVec 32 := 80#32
  let v695 : BitVec 32 := Scalar.muli v685 c80_i32_459
  let v696 : BitVec 32 := Scalar.addi v694 v695
  let c0_i32_464 : BitVec 32 := 0#32
  ![v696.toNat, 0]
def k0_dev25 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_450 : BitVec 32 := 3#32
  let v684 : BitVec 32 := Scalar.xori v2 c3_i32_450
  let c1_i32_462 : BitVec 32 := 1#32
  let v697 : BitVec 32 := Scalar.muli v684 c1_i32_462
  let v698 : BitVec 32 := Scalar.addi c0_i32_463 v697
  v698.toNat
def k0_dev26 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_466 : BitVec 32 := 1#32
  let v705 : BitVec 32 := Scalar.xori v2 c1_i32_466
  let c1_i32_477 : BitVec 32 := 1#32
  let v718 : BitVec 32 := Scalar.muli v705 c1_i32_477
  let v719 : BitVec 32 := Scalar.addi c0_i32_478 v718
  v719.toNat
def k0_dev27 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_481 : BitVec 32 := 4#32
  let v726 : BitVec 32 := Scalar.xori v2 c4_i32_481
  let c1_i32_492 : BitVec 32 := 1#32
  let v739 : BitVec 32 := Scalar.muli v726 c1_i32_492
  let v740 : BitVec 32 := Scalar.addi c0_i32_493 v739
  v740.toNat
def k0_off67 (d0 : Dev nD) (c4_i32_504 : BitVec 32) : Fin 2 → Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v753 : BitVec 32 := Scalar.xori v2 c4_i32_504
  let c1_i32_506 : BitVec 32 := 1#32
  let v755 : BitVec 32 := Scalar.andi v753 c1_i32_506
  let c1_i32_507 : BitVec 32 := 1#32
  let v756 : BitVec 32 := Scalar.shrsi v753 c1_i32_507
  let c1_i32_508 : BitVec 32 := 1#32
  let v757 : BitVec 32 := Scalar.andi v756 c1_i32_508
  let v760 : BitVec 32 := Scalar.xori v755 v757
  let c384_i32_511 : BitVec 32 := 384#32
  let v761 : BitVec 32 := Scalar.muli v760 c384_i32_511
  let v762 : BitVec 32 := Scalar.addi c0_i32_512 v761
  let c192_i32_513 : BitVec 32 := 192#32
  let v763 : BitVec 32 := Scalar.muli v755 c192_i32_513
  let v764 : BitVec 32 := Scalar.addi v762 v763
  let c2_i32_509 : BitVec 32 := 2#32
  let v758 : BitVec 32 := Scalar.shrsi v753 c2_i32_509
  let c1_i32_510 : BitVec 32 := 1#32
  let v759 : BitVec 32 := Scalar.andi v758 c1_i32_510
  let c96_i32_514 : BitVec 32 := 96#32
  let v765 : BitVec 32 := Scalar.muli v759 c96_i32_514
  let v766 : BitVec 32 := Scalar.addi v764 v765
  let c0_i32_519 : BitVec 32 := 0#32
  ![v766.toNat, 0]
def k0_dev28 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_505 : BitVec 32 := 3#32
  let v754 : BitVec 32 := Scalar.xori v2 c3_i32_505
  let c1_i32_517 : BitVec 32 := 1#32
  let v767 : BitVec 32 := Scalar.muli v754 c1_i32_517
  let v768 : BitVec 32 := Scalar.addi c0_i32_518 v767
  v768.toNat
def k0_dev29 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_522 : BitVec 32 := 1#32
  let v776 : BitVec 32 := Scalar.xori v2 c1_i32_522
  let c1_i32_534 : BitVec 32 := 1#32
  let v789 : BitVec 32 := Scalar.muli v776 c1_i32_534
  let v790 : BitVec 32 := Scalar.addi c0_i32_535 v789
  v790.toNat
def k0_off68 (d0 : Dev nD) (c1_i32_546 : BitVec 32) : Fin 2 → Nat :=
  let c768_i32_554 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v803 : BitVec 32 := Scalar.xori v2 c1_i32_546
  let c1_i32_549 : BitVec 32 := 1#32
  let v806 : BitVec 32 := Scalar.shrsi v803 c1_i32_549
  let c1_i32_550 : BitVec 32 := 1#32
  let v807 : BitVec 32 := Scalar.andi v806 c1_i32_550
  let c320_i32_553 : BitVec 32 := 320#32
  let v810 : BitVec 32 := Scalar.muli v807 c320_i32_553
  let v811 : BitVec 32 := Scalar.addi c768_i32_554 v810
  let c2_i32_551 : BitVec 32 := 2#32
  let v808 : BitVec 32 := Scalar.shrsi v803 c2_i32_551
  let c1_i32_552 : BitVec 32 := 1#32
  let v809 : BitVec 32 := Scalar.andi v808 c1_i32_552
  let c160_i32_555 : BitVec 32 := 160#32
  let v812 : BitVec 32 := Scalar.muli v809 c160_i32_555
  let v813 : BitVec 32 := Scalar.addi v811 v812
  let c1_i32_548 : BitVec 32 := 1#32
  let v805 : BitVec 32 := Scalar.andi v803 c1_i32_548
  let c80_i32_556 : BitVec 32 := 80#32
  let v814 : BitVec 32 := Scalar.muli v805 c80_i32_556
  let v815 : BitVec 32 := Scalar.addi v813 v814
  let c0_i32_561 : BitVec 32 := 0#32
  ![v815.toNat, 0]
def k0_dev30 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_547 : BitVec 32 := 4#32
  let v804 : BitVec 32 := Scalar.xori v2 c4_i32_547
  let c1_i32_559 : BitVec 32 := 1#32
  let v816 : BitVec 32 := Scalar.muli v804 c1_i32_559
  let v817 : BitVec 32 := Scalar.addi c0_i32_560 v816
  v817.toNat
def k0_dev31 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_564 : BitVec 32 := 3#32
  let v825 : BitVec 32 := Scalar.xori v2 c3_i32_564
  let c1_i32_576 : BitVec 32 := 1#32
  let v837 : BitVec 32 := Scalar.muli v825 c1_i32_576
  let v838 : BitVec 32 := Scalar.addi c0_i32_577 v837
  v838.toNat
def k0_off69 (d0 : Dev nD) (c3_i32_588 : BitVec 32) : Fin 2 → Nat :=
  let c1408_i32_596 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v851 : BitVec 32 := Scalar.xori v2 c3_i32_588
  let c2_i32_593 : BitVec 32 := 2#32
  let v856 : BitVec 32 := Scalar.shrsi v851 c2_i32_593
  let c1_i32_594 : BitVec 32 := 1#32
  let v857 : BitVec 32 := Scalar.andi v856 c1_i32_594
  let c320_i32_595 : BitVec 32 := 320#32
  let v859 : BitVec 32 := Scalar.muli v857 c320_i32_595
  let v860 : BitVec 32 := Scalar.addi c1408_i32_596 v859
  let c1_i32_590 : BitVec 32 := 1#32
  let v853 : BitVec 32 := Scalar.andi v851 c1_i32_590
  let c1_i32_591 : BitVec 32 := 1#32
  let v854 : BitVec 32 := Scalar.shrsi v851 c1_i32_591
  let c1_i32_592 : BitVec 32 := 1#32
  let v855 : BitVec 32 := Scalar.andi v854 c1_i32_592
  let v858 : BitVec 32 := Scalar.xori v853 v855
  let c160_i32_597 : BitVec 32 := 160#32
  let v861 : BitVec 32 := Scalar.muli v858 c160_i32_597
  let v862 : BitVec 32 := Scalar.addi v860 v861
  let c80_i32_598 : BitVec 32 := 80#32
  let v863 : BitVec 32 := Scalar.muli v853 c80_i32_598
  let v864 : BitVec 32 := Scalar.addi v862 v863
  let c0_i32_602 : BitVec 32 := 0#32
  ![v864.toNat, 0]
def k0_dev32 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_589 : BitVec 32 := 1#32
  let v852 : BitVec 32 := Scalar.xori v2 c1_i32_589
  let c1_i32_600 : BitVec 32 := 1#32
  let v865 : BitVec 32 := Scalar.muli v852 c1_i32_600
  let v866 : BitVec 32 := Scalar.addi c0_i32_601 v865
  v866.toNat
def k0_dev33 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_605 : BitVec 32 := 4#32
  let v874 : BitVec 32 := Scalar.xori v2 c4_i32_605
  let c1_i32_616 : BitVec 32 := 1#32
  let v887 : BitVec 32 := Scalar.muli v874 c1_i32_616
  let v888 : BitVec 32 := Scalar.addi c0_i32_617 v887
  v888.toNat
def k0_dev34 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_629 : BitVec 32 := 1#32
  let v902 : BitVec 32 := Scalar.xori v2 c1_i32_629
  let c1_i32_641 : BitVec 32 := 1#32
  let v915 : BitVec 32 := Scalar.muli v902 c1_i32_641
  let v916 : BitVec 32 := Scalar.addi c0_i32_642 v915
  v916.toNat
def k0_off70 (d0 : Dev nD) : Fin 2 → Nat :=
  let c0_i32_662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_653 : BitVec 32 := 3#32
  let v929 : BitVec 32 := Scalar.xori v2 c3_i32_653
  let c4_i32_654 : BitVec 32 := 4#32
  let v930 : BitVec 32 := Scalar.xori v929 c4_i32_654
  let c1_i32_656 : BitVec 32 := 1#32
  let v932 : BitVec 32 := Scalar.andi v930 c1_i32_656
  let c1_i32_657 : BitVec 32 := 1#32
  let v933 : BitVec 32 := Scalar.shrsi v930 c1_i32_657
  let c1_i32_658 : BitVec 32 := 1#32
  let v934 : BitVec 32 := Scalar.andi v933 c1_i32_658
  let v937 : BitVec 32 := Scalar.xori v932 v934
  let c384_i32_661 : BitVec 32 := 384#32
  let v938 : BitVec 32 := Scalar.muli v937 c384_i32_661
  let v939 : BitVec 32 := Scalar.addi c0_i32_662 v938
  let c192_i32_663 : BitVec 32 := 192#32
  let v940 : BitVec 32 := Scalar.muli v932 c192_i32_663
  let v941 : BitVec 32 := Scalar.addi v939 v940
  let c2_i32_659 : BitVec 32 := 2#32
  let v935 : BitVec 32 := Scalar.shrsi v930 c2_i32_659
  let c1_i32_660 : BitVec 32 := 1#32
  let v936 : BitVec 32 := Scalar.andi v935 c1_i32_660
  let c96_i32_664 : BitVec 32 := 96#32
  let v942 : BitVec 32 := Scalar.muli v936 c96_i32_664
  let v943 : BitVec 32 := Scalar.addi v941 v942
  let c0_i32_669 : BitVec 32 := 0#32
  ![v943.toNat, 0]
def k0_dev35 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_655 : BitVec 32 := 1#32
  let v931 : BitVec 32 := Scalar.xori v2 c1_i32_655
  let c1_i32_667 : BitVec 32 := 1#32
  let v944 : BitVec 32 := Scalar.muli v931 c1_i32_667
  let v945 : BitVec 32 := Scalar.addi c0_i32_668 v944
  v945.toNat
def k0_dev36 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_680 : BitVec 32 := 3#32
  let v959 : BitVec 32 := Scalar.xori v2 c3_i32_680
  let c1_i32_692 : BitVec 32 := 1#32
  let v971 : BitVec 32 := Scalar.muli v959 c1_i32_692
  let v972 : BitVec 32 := Scalar.addi c0_i32_693 v971
  v972.toNat
def k0_off71 (d0 : Dev nD) : Fin 2 → Nat :=
  let c768_i32_713 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_704 : BitVec 32 := 4#32
  let v985 : BitVec 32 := Scalar.xori v2 c4_i32_704
  let c1_i32_705 : BitVec 32 := 1#32
  let v986 : BitVec 32 := Scalar.xori v985 c1_i32_705
  let c1_i32_708 : BitVec 32 := 1#32
  let v989 : BitVec 32 := Scalar.shrsi v986 c1_i32_708
  let c1_i32_709 : BitVec 32 := 1#32
  let v990 : BitVec 32 := Scalar.andi v989 c1_i32_709
  let c320_i32_712 : BitVec 32 := 320#32
  let v993 : BitVec 32 := Scalar.muli v990 c320_i32_712
  let v994 : BitVec 32 := Scalar.addi c768_i32_713 v993
  let c2_i32_710 : BitVec 32 := 2#32
  let v991 : BitVec 32 := Scalar.shrsi v986 c2_i32_710
  let c1_i32_711 : BitVec 32 := 1#32
  let v992 : BitVec 32 := Scalar.andi v991 c1_i32_711
  let c160_i32_714 : BitVec 32 := 160#32
  let v995 : BitVec 32 := Scalar.muli v992 c160_i32_714
  let v996 : BitVec 32 := Scalar.addi v994 v995
  let c1_i32_707 : BitVec 32 := 1#32
  let v988 : BitVec 32 := Scalar.andi v986 c1_i32_707
  let c80_i32_715 : BitVec 32 := 80#32
  let v997 : BitVec 32 := Scalar.muli v988 c80_i32_715
  let v998 : BitVec 32 := Scalar.addi v996 v997
  let c0_i32_720 : BitVec 32 := 0#32
  ![v998.toNat, 0]
def k0_dev37 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_706 : BitVec 32 := 3#32
  let v987 : BitVec 32 := Scalar.xori v2 c3_i32_706
  let c1_i32_718 : BitVec 32 := 1#32
  let v999 : BitVec 32 := Scalar.muli v987 c1_i32_718
  let v1000 : BitVec 32 := Scalar.addi c0_i32_719 v999
  v1000.toNat
def k0_dev38 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_731 : BitVec 32 := 4#32
  let v1014 : BitVec 32 := Scalar.xori v2 c4_i32_731
  let c1_i32_742 : BitVec 32 := 1#32
  let v1027 : BitVec 32 := Scalar.muli v1014 c1_i32_742
  let v1028 : BitVec 32 := Scalar.addi c0_i32_743 v1027
  v1028.toNat
def k0_off72 (d0 : Dev nD) : Fin 2 → Nat :=
  let c1408_i32_763 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_754 : BitVec 32 := 1#32
  let v1041 : BitVec 32 := Scalar.xori v2 c1_i32_754
  let c3_i32_755 : BitVec 32 := 3#32
  let v1042 : BitVec 32 := Scalar.xori v1041 c3_i32_755
  let c2_i32_760 : BitVec 32 := 2#32
  let v1047 : BitVec 32 := Scalar.shrsi v1042 c2_i32_760
  let c1_i32_761 : BitVec 32 := 1#32
  let v1048 : BitVec 32 := Scalar.andi v1047 c1_i32_761
  let c320_i32_762 : BitVec 32 := 320#32
  let v1050 : BitVec 32 := Scalar.muli v1048 c320_i32_762
  let v1051 : BitVec 32 := Scalar.addi c1408_i32_763 v1050
  let c1_i32_757 : BitVec 32 := 1#32
  let v1044 : BitVec 32 := Scalar.andi v1042 c1_i32_757
  let c1_i32_758 : BitVec 32 := 1#32
  let v1045 : BitVec 32 := Scalar.shrsi v1042 c1_i32_758
  let c1_i32_759 : BitVec 32 := 1#32
  let v1046 : BitVec 32 := Scalar.andi v1045 c1_i32_759
  let v1049 : BitVec 32 := Scalar.xori v1044 v1046
  let c160_i32_764 : BitVec 32 := 160#32
  let v1052 : BitVec 32 := Scalar.muli v1049 c160_i32_764
  let v1053 : BitVec 32 := Scalar.addi v1051 v1052
  let c80_i32_765 : BitVec 32 := 80#32
  let v1054 : BitVec 32 := Scalar.muli v1044 c80_i32_765
  let v1055 : BitVec 32 := Scalar.addi v1053 v1054
  let c0_i32_769 : BitVec 32 := 0#32
  ![v1055.toNat, 0]
def k0_dev39 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_756 : BitVec 32 := 4#32
  let v1043 : BitVec 32 := Scalar.xori v2 c4_i32_756
  let c1_i32_767 : BitVec 32 := 1#32
  let v1056 : BitVec 32 := Scalar.muli v1043 c1_i32_767
  let v1057 : BitVec 32 := Scalar.addi c0_i32_768 v1056
  v1057.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | .hbm, ⟨5, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Geometry.lean ====
/-
# The geometry of the cube: which device, which rows, which copy

Eight devices, named by three bits.  The 2048 output rows are cut into three groups; every group is halved
three times, each time along one direction of the cube, and a direction is a mask that is xored to the device's
number.  A group takes its three directions in its own order, so that the groups use different links at the
same time.  This file holds the numbers: the neighbours, the row blocks, and the table of the 36 copies a device
sends, in the order of the program.
-/
module

public import proofs.«01_k».proof.Proof.Gen.KernelIdeal

@[expose] public section

namespace Cert.CubeProof

open Cert.KernelIdeal Cert.KernelIdeal.Gen
open Idealize.ShloMosaic

/-- The device across the mask `x` from `c`. -/
def px (x : ℕ) (c : Dev nD) : Dev nD := ⟨(c.val ^^^ x) % 8, Nat.mod_lt _ (by decide)⟩

/-- First row of group `g`. -/
def off : Fin 3 → ℕ := ![0, 768, 1408]
/-- Rows of one piece of group `g`, an eighth of the group. -/
def wd : Fin 3 → ℕ := ![96, 80, 80]
/-- The mask of group `g` at stage `t`. -/
def dir : Fin 3 → Fin 3 → ℕ := ![![1, 3, 4], ![3, 4, 1], ![4, 1, 3]]

/-- Bit `i` of a device's number. -/
def bt (i : ℕ) (c : Dev nD) : ℕ := c.val / 2 ^ i % 2

/-- On which side of the halving of stage `t` device `c`'s piece of group `g` lies. -/
def side : Fin 3 → Fin 3 → Dev nD → ℕ :=
  ![![fun c => (bt 0 c + bt 1 c) % 2, bt 0, bt 2],
    ![bt 1, bt 2, bt 0],
    ![bt 2, fun c => (bt 0 c + bt 1 c) % 2, bt 0]]

/-- First row of the half, the quarter and the piece of group `g` that hold device `q`'s piece. -/
def hb (g : Fin 3) (q : Dev nD) : ℕ := off g + 4 * wd g * side g 0 q
def qb (g : Fin 3) (q : Dev nD) : ℕ := hb g q + 2 * wd g * side g 1 q
def pb (g : Fin 3) (q : Dev nD) : ℕ := qb g q + wd g * side g 2 q

/-! ## The copies

Copies 0–14 are the reduction's (three groups, two copies at stages 0 and 1, one at stage 2), copies 15–35 the
distribution's (three groups, seven copies each). -/

/-- The group of copy `k`. -/
def kg : Fin 36 → Fin 3 :=
  ![0,0,1,1,2,2, 0,0,1,1,2,2, 0,1,2, 0,0,0,1,1,1,2,2,2, 0,0,1,1,2,2, 0,0,1,1,2,2]
/-- The role of copy `k` in its group: 0–4 the reduction's copies, 5–11 the distribution's slots. -/
def kr : Fin 36 → Fin 12 :=
  ![0,1,0,1,0,1, 2,3,2,3,2,3, 4,4,4, 5,6,8,5,6,8,5,6,8, 7,9,7,9,7,9, 10,11,10,11,10,11]
/-- The stage of the reduction copy `k`. -/
def kt : Fin 36 → ℕ :=
  ![0,0,0,0,0,0, 1,1,1,1,1,1, 2,2,2, 3,3,3,3,3,3,3,3,3, 3,3,3,3,3,3, 3,3,3,3,3,3]
/-- The device whose piece the copied rows hold, as a mask on the sender. -/
def om : Fin 36 → ℕ :=
  ![2,1,7,3,5,4, 7,3,5,4,2,1, 4,1,3, 0,0,0,0,0,0,0,0,0, 4,4,1,1,3,3, 3,7,4,5,1,2]
/-- The receiver, as a mask on the sender. -/
def dm : Fin 36 → ℕ :=
  ![1,1,3,3,4,4, 3,3,4,4,1,1, 4,1,3, 4,3,1,1,4,3,3,1,4, 3,1,4,3,1,4, 1,1,3,3,4,4]
/-- The device whose piece the copied rows hold, as a mask on the receiver. -/
def rm : Fin 36 → ℕ :=
  ![3,0,4,0,1,0, 4,0,1,0,3,0, 0,0,0, 4,3,1,1,4,3,3,1,4, 7,5,5,2,2,7, 2,6,7,6,5,6]
/-- The rows of copy `k`. -/
def nr : Fin 36 → ℕ :=
  ![192,192,160,160,160,160, 96,96,80,80,80,80, 96,80,80,
    96,96,96,80,80,80,80,80,80, 96,96,80,80,80,80, 96,96,80,80,80,80]
/-- First row of the block of copy `k` that holds device `q`'s piece. -/
def bs (k : Fin 36) (q : Dev nD) : ℕ := if k.val < 6 then qb (kg k) q else pb (kg k) q
/-- First row, in the receiver's landing buffer, of the reduction copy `k` whose rows hold device `q`'s piece. -/
def ro (k : Fin 36) (q : Dev nD) : ℕ :=
  if k.val < 6 then 2 * wd (kg k) * side (kg k) 1 q
  else if k.val < 12 then wd (kg k) * side (kg k) 2 q else 0
/-- Rows of the landing buffer of the reduction copy `k`. -/
def rcap (k : Fin 36) : ℕ := if k.val < 12 then 2 * nr k else nr k

/-- The completion semaphores of copy `k`: at the sender, at the receiver. -/
def ssem : Fin 36 → DmaSem sig :=
  ![3,4,8,9,13,14,5,6,10,11,15,16,7,12,17, 33,34,36,40,41,43,47,48,50,35,37,42,44,49,51,38,39,45,46,52,53]
def rsem : Fin 36 → DmaSem sig :=
  ![18,19,23,24,28,29,20,21,25,26,30,31,22,27,32, 54,55,57,61,62,64,68,69,71,56,58,63,65,70,72,59,60,66,67,73,74]

/-- The copy a semaphore belongs to. -/
def sOf (q : DmaSem sig) : Option (Fin 36) := (List.finRange 36).find? fun k => ssem k = q
def rOf (q : DmaSem sig) : Option (Fin 36) := (List.finRange 36).find? fun k => rsem k = q

theorem sOf_ssem (k : Fin 36) : sOf (ssem k) = some k := by revert k; decide +kernel
theorem sOf_rsem (k : Fin 36) : sOf (rsem k) = none := by revert k; decide +kernel
theorem rOf_rsem (k : Fin 36) : rOf (rsem k) = some k := by revert k; decide +kernel
theorem rOf_ssem (k : Fin 36) : rOf (ssem k) = none := by revert k; decide +kernel

theorem ssem_inj : Function.Injective ssem := fun a b h => by
  have := sOf_ssem a; rw [h, sOf_ssem] at this; exact (Option.some.inj this).symm
theorem rsem_inj : Function.Injective rsem := fun a b h => by
  have := rOf_rsem a; rw [h, rOf_rsem] at this; exact (Option.some.inj this).symm
theorem ssem_ne_rsem (a b : Fin 36) : ssem a ≠ rsem b := fun h => by
  have := sOf_ssem a; rw [h, sOf_rsem] at this; cases this

/-- The order in which a device waits for what it receives: the copy at position `j`, and its inverse. -/
def wk : Fin 36 → Fin 36 :=
  ![0,1,2,3,4,5,6,7,8,9,10,11,12,13,14, 15,18,21,16,24,19,26,22,28,17,25,30,31,20,27,32,33,23,29,34,35]
def wpos : Fin 36 → Fin 36 :=
  ![0,1,2,3,4,5,6,7,8,9,10,11,12,13,14, 15,18,24,16,20,28,17,22,32,19,25,21,29,23,33,26,27,30,31,34,35]

theorem wpos_wk (j : Fin 36) : wpos (wk j) = j := by revert j; decide
theorem wk_wpos (k : Fin 36) : wk (wpos k) = k := by revert k; decide

/-- The order in which a device waits, at the end, for its own copies to have been read, and its inverse. -/
def so : Fin 36 → Fin 36 :=
  ![0,1,2,3,4,5,6,7,8,9,10,11,12, 15,16,17, 13, 18,19,20, 14, 21,22,23,24,25,26,27,28,29,30,31,32,33,34,35]
def sop : Fin 36 → Fin 36 :=
  ![0,1,2,3,4,5,6,7,8,9,10,11,12, 16, 20, 13,14,15, 17,18,19, 21,22,23,24,25,26,27,28,29,30,31,32,33,34,35]

theorem sop_so (j : Fin 36) : sop (so j) = j := by revert j; decide
theorem so_sop (k : Fin 36) : so (sop k) = k := by revert k; decide

/-- The two orders, as permutations of the copies. -/
def wkE : Fin 36 ≃ Fin 36 := ⟨wk, wpos, wpos_wk, wk_wpos⟩
def soE : Fin 36 ≃ Fin 36 := ⟨so, sop, sop_so, so_sop⟩

/-! ## Facts of the numbers -/

theorem px_zero (c : Dev nD) : px 0 c = c := by revert c; decide
theorem px_dm_dm (k : Fin 36) (c : Dev nD) : px (dm k) (px (dm k) c) = c := by revert k c; decide +kernel
theorem px_rm (k : Fin 36) (c : Dev nD) : px (rm k) (px (dm k) c) = px (om k) c := by revert k c; decide +kernel
theorem px_om (k : Fin 36) (c : Dev nD) : px (om k) (px (dm k) c) = px (rm k) c := by revert k c; decide +kernel
theorem bs_le (k : Fin 36) (q : Dev nD) : bs k q + nr k ≤ 2048 := by revert k q; decide +kernel
theorem ro_le (k : Fin 36) (q : Dev nD) : k.val < 15 → ro k q + nr k ≤ rcap k := by revert k q; decide +kernel
theorem nr_pos (k : Fin 36) : 0 < nr k := by revert k; decide
theorem hb_le (g : Fin 3) (q : Dev nD) : hb g q + 4 * wd g ≤ 2048 := by revert g q; decide +kernel

/-- The barrier's three neighbours, and the landing regions each of them lends. -/
def bm : Fin 3 → ℕ := ![1, 3, 4]
def bk : Fin 3 → Fin 5 → Fin 36 := ![![0, 1, 13, 10, 11], ![6, 7, 2, 3, 14], ![12, 8, 9, 4, 5]]

theorem px_bm_bm (d : Fin 3) (c : Dev nD) : px (bm d) (px (bm d) c) = c := by revert d c; decide
theorem dm_bk (d : Fin 3) (j : Fin 5) : dm (bk d j) = bm d := by revert d j; decide

/-- The neighbours across a fixed mask, as a permutation of the devices. -/
def acr (k : Fin 36) : Dev nD ≃ Dev nD := ⟨px (dm k), px (dm k), px_dm_dm k, px_dm_dm k⟩
def bacr (d : Fin 3) : Dev nD ≃ Dev nD := ⟨px (bm d), px (bm d), px_bm_bm d, px_bm_bm d⟩

/-! ## The program's own numbers are these -/

theorem dev1 (c : Dev nD) : (⟨k0_dev1 c, k0_dev1_lt c⟩ : Dev nD) = px 1 c := by revert c; decide +kernel
theorem dev2 (c : Dev nD) : (⟨k0_dev2 c, k0_dev2_lt c⟩ : Dev nD) = px 3 c := by revert c; decide +kernel
theorem dev3 (c : Dev nD) : (⟨k0_dev3 c, k0_dev3_lt c⟩ : Dev nD) = px 4 c := by revert c; decide +kernel
theorem dev4 (c : Dev nD) : (⟨k0_dev4 c, k0_dev4_lt c⟩ : Dev nD) = px 1 c := by revert c; decide +kernel
theorem dev5 (c : Dev nD) : (⟨k0_dev5 c, k0_dev5_lt c⟩ : Dev nD) = px 1 c := by revert c; decide +kernel
theorem dev6 (c : Dev nD) : (⟨k0_dev6 c, k0_dev6_lt c⟩ : Dev nD) = px 3 c := by revert c; decide +kernel
theorem dev7 (c : Dev nD) : (⟨k0_dev7 c, k0_dev7_lt c⟩ : Dev nD) = px 3 c := by revert c; decide +kernel
theorem dev8 (c : Dev nD) : (⟨k0_dev8 c, k0_dev8_lt c⟩ : Dev nD) = px 4 c := by revert c; decide +kernel
theorem dev9 (c : Dev nD) : (⟨k0_dev9 c, k0_dev9_lt c⟩ : Dev nD) = px 4 c := by revert c; decide +kernel
theorem dev10 (c : Dev nD) : (⟨k0_dev10 c, k0_dev10_lt c⟩ : Dev nD) = px 3 c := by revert c; decide +kernel
theorem dev11 (c : Dev nD) : (⟨k0_dev11 c, k0_dev11_lt c⟩ : Dev nD) = px 3 c := by revert c; decide +kernel
theorem dev12 (c : Dev nD) : (⟨k0_dev12 c, k0_dev12_lt c⟩ : Dev nD) = px 4 c := by revert c; decide +kernel
theorem dev13 (c : Dev nD) : (⟨k0_dev13 c, k0_dev13_lt c⟩ : Dev nD) = px 4 c := by revert c; decide +kernel
theorem dev14 (c : Dev nD) : (⟨k0_dev14 c, k0_dev14_lt c⟩ : Dev nD) = px 1 c := by revert c; decide +kernel
theorem dev15 (c : Dev nD) : (⟨k0_dev15 c, k0_dev15_lt c⟩ : Dev nD) = px 1 c := by revert c; decide +kernel
theorem dev16 (c : Dev nD) : (⟨k0_dev16 c, k0_dev16_lt c⟩ : Dev nD) = px 4 c := by revert c; decide +kernel
theorem dev17 (c : Dev nD) : (⟨k0_dev17 c, k0_dev17_lt c⟩ : Dev nD) = px 1 c := by revert c; decide +kernel
theorem dev18 (c : Dev nD) : (⟨k0_dev18 c, k0_dev18_lt c⟩ : Dev nD) = px 3 c := by revert c; decide +kernel
theorem dev19 (c : Dev nD) : (⟨k0_dev19 c, k0_dev19_lt c⟩ : Dev nD) = px 4 c := by revert c; decide +kernel
theorem dev20 (c : Dev nD) : (⟨k0_dev20 c, k0_dev20_lt c⟩ : Dev nD) = px 3 c := by revert c; decide +kernel
theorem dev21 (c : Dev nD) : (⟨k0_dev21 c, k0_dev21_lt c⟩ : Dev nD) = px 1 c := by revert c; decide +kernel
theorem dev22 (c : Dev nD) : (⟨k0_dev22 c, k0_dev22_lt c⟩ : Dev nD) = px 1 c := by revert c; decide +kernel
theorem dev23 (c : Dev nD) : (⟨k0_dev23 c, k0_dev23_lt c⟩ : Dev nD) = px 4 c := by revert c; decide +kernel
theorem dev24 (c : Dev nD) : (⟨k0_dev24 c, k0_dev24_lt c⟩ : Dev nD) = px 3 c := by revert c; decide +kernel
theorem dev25 (c : Dev nD) : (⟨k0_dev25 c, k0_dev25_lt c⟩ : Dev nD) = px 3 c := by revert c; decide +kernel
theorem dev26 (c : Dev nD) : (⟨k0_dev26 c, k0_dev26_lt c⟩ : Dev nD) = px 1 c := by revert c; decide +kernel
theorem dev27 (c : Dev nD) : (⟨k0_dev27 c, k0_dev27_lt c⟩ : Dev nD) = px 4 c := by revert c; decide +kernel
theorem dev28 (c : Dev nD) : (⟨k0_dev28 c, k0_dev28_lt c⟩ : Dev nD) = px 3 c := by revert c; decide +kernel
theorem dev29 (c : Dev nD) : (⟨k0_dev29 c, k0_dev29_lt c⟩ : Dev nD) = px 1 c := by revert c; decide +kernel
theorem dev30 (c : Dev nD) : (⟨k0_dev30 c, k0_dev30_lt c⟩ : Dev nD) = px 4 c := by revert c; decide +kernel
theorem dev31 (c : Dev nD) : (⟨k0_dev31 c, k0_dev31_lt c⟩ : Dev nD) = px 3 c := by revert c; decide +kernel
theorem dev32 (c : Dev nD) : (⟨k0_dev32 c, k0_dev32_lt c⟩ : Dev nD) = px 1 c := by revert c; decide +kernel
theorem dev33 (c : Dev nD) : (⟨k0_dev33 c, k0_dev33_lt c⟩ : Dev nD) = px 4 c := by revert c; decide +kernel
theorem dev34 (c : Dev nD) : (⟨k0_dev34 c, k0_dev34_lt c⟩ : Dev nD) = px 1 c := by revert c; decide +kernel
theorem dev35 (c : Dev nD) : (⟨k0_dev35 c, k0_dev35_lt c⟩ : Dev nD) = px 1 c := by revert c; decide +kernel
theorem dev36 (c : Dev nD) : (⟨k0_dev36 c, k0_dev36_lt c⟩ : Dev nD) = px 3 c := by revert c; decide +kernel
theorem dev37 (c : Dev nD) : (⟨k0_dev37 c, k0_dev37_lt c⟩ : Dev nD) = px 3 c := by revert c; decide +kernel
theorem dev38 (c : Dev nD) : (⟨k0_dev38 c, k0_dev38_lt c⟩ : Dev nD) = px 4 c := by revert c; decide +kernel
theorem dev39 (c : Dev nD) : (⟨k0_dev39 c, k0_dev39_lt c⟩ : Dev nD) = px 4 c := by revert c; decide +kernel
theorem off1 (c : Dev nD) : k0_off1 c = ![qb 0 (px 2 c), 0] := by revert c; decide +kernel
theorem off2 (c : Dev nD) : k0_off2 c = ![qb 0 (px 2 c), 0] := by revert c; decide +kernel
theorem off3 (c : Dev nD) : k0_off3 c = ![ro 0 (px (om 0) c), 0] := by revert c; decide +kernel
theorem off4 (c : Dev nD) : k0_off4 c = ![qb 0 (px 2 c), 0] := by revert c; decide +kernel
theorem off5 (c : Dev nD) : k0_off5 c = ![qb 0 (px 1 c), 0] := by revert c; decide +kernel
theorem off6 (c : Dev nD) : k0_off6 c = ![qb 0 (px 1 c), 0] := by revert c; decide +kernel
theorem off7 (c : Dev nD) : k0_off7 c = ![ro 1 (px (om 1) c), 0] := by revert c; decide +kernel
theorem off8 (c : Dev nD) : k0_off8 c = ![qb 0 (px 1 c), 0] := by revert c; decide +kernel
theorem off9 (c : Dev nD) : k0_off9 c = ![hb 0 c, 0] := by revert c; decide +kernel
theorem off10 (c : Dev nD) : k0_off10 c = ![hb 0 c, 0] := by revert c; decide +kernel
theorem off11 (c : Dev nD) : k0_off11 c = ![qb 1 (px 7 c), 0] := by revert c; decide +kernel
theorem off12 (c : Dev nD) : k0_off12 c = ![qb 1 (px 7 c), 0] := by revert c; decide +kernel
theorem off13 (c : Dev nD) : k0_off13 c = ![ro 2 (px (om 2) c), 0] := by revert c; decide +kernel
theorem off14 (c : Dev nD) : k0_off14 c = ![qb 1 (px 7 c), 0] := by revert c; decide +kernel
theorem off15 (c : Dev nD) : k0_off15 c = ![qb 1 (px 3 c), 0] := by revert c; decide +kernel
theorem off16 (c : Dev nD) : k0_off16 c = ![qb 1 (px 3 c), 0] := by revert c; decide +kernel
theorem off17 (c : Dev nD) : k0_off17 c = ![ro 3 (px (om 3) c), 0] := by revert c; decide +kernel
theorem off18 (c : Dev nD) : k0_off18 c = ![qb 1 (px 3 c), 0] := by revert c; decide +kernel
theorem off19_1408 (c : Dev nD) : k0_off19 c 1408#32 2#32 = ![hb 2 c, 0] := by revert c; decide +kernel
theorem off19_768 (c : Dev nD) : k0_off19 c 768#32 1#32 = ![hb 1 c, 0] := by revert c; decide +kernel
theorem off20_1408 (c : Dev nD) : k0_off20 c 1408#32 2#32 = ![hb 2 c, 0] := by revert c; decide +kernel
theorem off20_768 (c : Dev nD) : k0_off20 c 768#32 1#32 = ![hb 1 c, 0] := by revert c; decide +kernel
theorem off21 (c : Dev nD) : k0_off21 c = ![qb 2 (px 5 c), 0] := by revert c; decide +kernel
theorem off22 (c : Dev nD) : k0_off22 c = ![qb 2 (px 5 c), 0] := by revert c; decide +kernel
theorem off23 (c : Dev nD) : k0_off23 c = ![ro 4 (px (om 4) c), 0] := by revert c; decide +kernel
theorem off24 (c : Dev nD) : k0_off24 c = ![qb 2 (px 5 c), 0] := by revert c; decide +kernel
theorem off25 (c : Dev nD) : k0_off25 c = ![qb 2 (px 4 c), 0] := by revert c; decide +kernel
theorem off26 (c : Dev nD) : k0_off26 c = ![qb 2 (px 4 c), 0] := by revert c; decide +kernel
theorem off27 (c : Dev nD) : k0_off27 c = ![ro 5 (px (om 5) c), 0] := by revert c; decide +kernel
theorem off28 (c : Dev nD) : k0_off28 c = ![qb 2 (px 4 c), 0] := by revert c; decide +kernel
theorem off29 (c : Dev nD) : k0_off29 c = ![qb 0 (px 3 c), 0] := by revert c; decide +kernel
theorem off30 (c : Dev nD) : k0_off30 c = ![ro 0 (px (rm 0) c), 0] := by revert c; decide +kernel
theorem off31 (c : Dev nD) : k0_off31 c = ![ro 6 (px (om 6) c), 0] := by revert c; decide +kernel
theorem off32 (c : Dev nD) : k0_off32 c = ![pb 0 (px 7 c), 0] := by revert c; decide +kernel
theorem off33 (c : Dev nD) : k0_off33 c = ![ro 7 (px (om 7) c), 0] := by revert c; decide +kernel
theorem off34 (c : Dev nD) : k0_off34 c = ![pb 0 (px 3 c), 0] := by revert c; decide +kernel
theorem off35 (c : Dev nD) : k0_off35 c = ![qb 0 (px 0 c), 0] := by revert c; decide +kernel
theorem off36 (c : Dev nD) : k0_off36 c = ![ro 1 (px (rm 1) c), 0] := by revert c; decide +kernel
theorem off37 (c : Dev nD) : k0_off37 c = ![qb 1 (px 4 c), 0] := by revert c; decide +kernel
theorem off38 (c : Dev nD) : k0_off38 c = ![ro 2 (px (rm 2) c), 0] := by revert c; decide +kernel
theorem off39_1 (c : Dev nD) : k0_off39 c 1#32 = ![ro 10 (px (om 10) c), 0] := by revert c; decide +kernel
theorem off39_4 (c : Dev nD) : k0_off39 c 4#32 = ![ro 8 (px (om 8) c), 0] := by revert c; decide +kernel
theorem off40 (c : Dev nD) : k0_off40 c = ![pb 1 (px 5 c), 0] := by revert c; decide +kernel
theorem off41_1 (c : Dev nD) : k0_off41 c 1#32 = ![ro 11 (px (om 11) c), 0] := by revert c; decide +kernel
theorem off41_4 (c : Dev nD) : k0_off41 c 4#32 = ![ro 9 (px (om 9) c), 0] := by revert c; decide +kernel
theorem off42 (c : Dev nD) : k0_off42 c = ![pb 1 (px 4 c), 0] := by revert c; decide +kernel
theorem off43 (c : Dev nD) : k0_off43 c = ![qb 1 (px 0 c), 0] := by revert c; decide +kernel
theorem off44 (c : Dev nD) : k0_off44 c = ![ro 3 (px (rm 3) c), 0] := by revert c; decide +kernel
theorem off45 (c : Dev nD) : k0_off45 c = ![qb 2 (px 1 c), 0] := by revert c; decide +kernel
theorem off46 (c : Dev nD) : k0_off46 c = ![ro 4 (px (rm 4) c), 0] := by revert c; decide +kernel
theorem off47 (c : Dev nD) : k0_off47 c = ![pb 2 (px 2 c), 0] := by revert c; decide +kernel
theorem off48 (c : Dev nD) : k0_off48 c = ![pb 2 (px 1 c), 0] := by revert c; decide +kernel
theorem off49 (c : Dev nD) : k0_off49 c = ![qb 2 (px 0 c), 0] := by revert c; decide +kernel
theorem off50 (c : Dev nD) : k0_off50 c = ![ro 5 (px (rm 5) c), 0] := by revert c; decide +kernel
theorem off51 (c : Dev nD) : k0_off51 c = ![pb 0 (px 4 c), 0] := by revert c; decide +kernel
theorem off52 (c : Dev nD) : k0_off52 c = ![ro 6 (px (rm 6) c), 0] := by revert c; decide +kernel
theorem off53 (c : Dev nD) : k0_off53 c = ![pb 0 (px 4 c), 0] := by revert c; decide +kernel
theorem off54 (c : Dev nD) : k0_off54 c = ![pb 0 (px 0 c), 0] := by revert c; decide +kernel
theorem off55 (c : Dev nD) : k0_off55 c = ![ro 7 (px (rm 7) c), 0] := by revert c; decide +kernel
theorem off56 (c : Dev nD) : k0_off56 c = ![pb 1 (px 1 c), 0] := by revert c; decide +kernel
theorem off57 (c : Dev nD) : k0_off57 c = ![ro 8 (px (rm 8) c), 0] := by revert c; decide +kernel
theorem off58 (c : Dev nD) : k0_off58 c = ![pb 1 (px 1 c), 0] := by revert c; decide +kernel
theorem off59 (c : Dev nD) : k0_off59 c = ![pb 1 (px 0 c), 0] := by revert c; decide +kernel
theorem off60 (c : Dev nD) : k0_off60 c = ![ro 9 (px (rm 9) c), 0] := by revert c; decide +kernel
theorem off61 (c : Dev nD) : k0_off61 c = ![pb 2 (px 3 c), 0] := by revert c; decide +kernel
theorem off62 (c : Dev nD) : k0_off62 c = ![pb 2 (px 3 c), 0] := by revert c; decide +kernel
theorem off63 (c : Dev nD) : k0_off63 c = ![pb 2 (px 0 c), 0] := by revert c; decide +kernel
theorem off64 (c : Dev nD) : k0_off64 c = ![pb 0 (px 0 c), 0] := by revert c; decide +kernel
theorem off65 (c : Dev nD) : k0_off65 c = ![pb 1 (px 0 c), 0] := by revert c; decide +kernel
theorem off66 (c : Dev nD) : k0_off66 c = ![pb 2 (px 0 c), 0] := by revert c; decide +kernel
theorem off67_3 (c : Dev nD) : k0_off67 c 3#32 = ![pb 0 (px 3 c), 0] := by revert c; decide +kernel
theorem off67_4 (c : Dev nD) : k0_off67 c 4#32 = ![pb 0 (px 4 c), 0] := by revert c; decide +kernel
theorem off68_1 (c : Dev nD) : k0_off68 c 1#32 = ![pb 1 (px 1 c), 0] := by revert c; decide +kernel
theorem off68_4 (c : Dev nD) : k0_off68 c 4#32 = ![pb 1 (px 4 c), 0] := by revert c; decide +kernel
theorem off69_1 (c : Dev nD) : k0_off69 c 1#32 = ![pb 2 (px 1 c), 0] := by revert c; decide +kernel
theorem off69_3 (c : Dev nD) : k0_off69 c 3#32 = ![pb 2 (px 3 c), 0] := by revert c; decide +kernel
theorem off70 (c : Dev nD) : k0_off70 c = ![pb 0 (px 7 c), 0] := by revert c; decide +kernel
theorem off71 (c : Dev nD) : k0_off71 c = ![pb 1 (px 5 c), 0] := by revert c; decide +kernel
theorem off72 (c : Dev nD) : k0_off72 c = ![pb 2 (px 2 c), 0] := by revert c; decide +kernel

theorem ro_8_10 (c : Dev nD) : ro 8 (px (rm 8) c) = ro 10 (px (rm 10) c) := by revert c; decide
theorem ro_9_11 (c : Dev nD) : ro 9 (px (rm 9) c) = ro 11 (px (rm 11) c) := by revert c; decide

end Cert.CubeProof
-- ==== Proof.Contents.lean ====
/-
# Row blocks and their contents

The views of the output buffer the program loads, stores and copies are all blocks of whole rows.  This file
names them, and names what each row holds at each moment on each device: the device's own partial product
(`V 0`), the sums after one, two and three exchanges (`V 1`, `V 2`, `V 3`), and the finished rows (`OUT`).
-/
module

public import proofs.«01_k».proof.Proof.Geometry
public import proofs.«01_k».proof.Proof.Gen.KernelIdeal.Skeleton
public import Idealize.ShloMosaic.Lib.Pipeline.Launch
public import Idealize.ShloMosaic.Lib.Pipeline.Kit
public import Idealize.ShloMosaic.Lib.MatmulPlain
public import Idealize.ShloMosaic.Lib.Tactic

@[expose] public section

noncomputable section

namespace Cert.CubeProof

open Cert.KernelIdeal Cert.KernelIdeal.Gen
open Idealize.ShloMosaic
open Idealize.ShloMosaic.TcCoe

variable {F : FTy → Type} [FloatOps F]

/-- A block of `n` whole output rows; a block of `n` whole rows of the left operand. -/
abbrev Sh (n : ℕ) : Shape := ⟨2, ![n, 2048]⟩
abbrev ShA (n : ℕ) : Shape := ⟨2, ![n, 1024]⟩

theorem inbR {R a n w : ℕ} (h : a + n ≤ R) (x : Fin 2) :
    (![a, 0] : Fin 2 → ℕ) x + (⟨2, ![n, w]⟩ : Shape).size x ≤ (⟨2, ![R, w]⟩ : Shape).size x := by
  fin_cases x
  · exact h
  · show 0 + w ≤ w
    omega

abbrev aM : Memref sig .tc .vmem S2048x1024 .bf16 := Memref.whole cc0_stg0_0
abbrev bM : Memref sig .tc .vmem S1024x2048 .bf16 := Memref.whole cc0_stg1_0
abbrev oM : Memref sig .tc .vmem S2048x2048 .bf16 := Memref.whole cc0_stg2_0
abbrev sM : Memref sig .tc .vmem S1024x2048 .bf16 := Memref.whole cc0_scratch0

/-- The contents of the output buffer, of the left and of the right operand's staging buffer. -/
abbrev COut (F : FTy → Type) : Type := (cc0_stg2_0 : Ref sig .tc).ty.Contents (Elt F)
abbrev CA (F : FTy → Type) : Type := (cc0_stg0_0 : Ref sig .tc).ty.Contents (Elt F)
abbrev CB (F : FTy → Type) : Type := (cc0_stg1_0 : Ref sig .tc).ty.Contents (Elt F)

/-- The output rows `a … a + n - 1` as a rectangle, and as a memref. -/
abbrev rectO (a n : ℕ) (h : a + n ≤ 2048) : Rect S2048x2048 :=
  Rect.unit (s := S2048x2048) ![a, 0] (Sh n).size (inbR h)
abbrev outS (a n : ℕ) (h : a + n ≤ 2048) : Memref sig .tc .vmem (Sh n) .bf16 :=
  oM.slice (rectO a n h) (fun _ => rfl)
abbrev rectA (a n : ℕ) (h : a + n ≤ 2048) : Rect S2048x1024 :=
  Rect.unit (s := S2048x1024) ![a, 0] (ShA n).size (inbR h)

/-- The rows of a block, as a set of indices. -/
def rowsF (a n : ℕ) : Finset S2048x2048.Idx :=
  Finset.univ.filter fun i => a ≤ (i 0).val ∧ (i 0).val < a + n

theorem mem_rowsF {a n : ℕ} {i : S2048x2048.Idx} : i ∈ rowsF a n ↔ a ≤ (i 0).val ∧ (i 0).val < a + n := by
  simp [rowsF]

theorem set_rectO (a n : ℕ) (h : a + n ≤ 2048) : (rectO a n h).set = rowsF a n := by
  ext i
  rw [Rect.mem_set_unit, mem_rowsF]
  constructor
  · intro hi; exact hi 0
  · intro hi x
    fin_cases x
    · exact hi
    · have := (i 1).isLt
      exact ⟨Nat.zero_le _, by show (i 1).val < 0 + 2048; have h2 : S2048x2048.size 1 = 2048 := rfl; omega⟩

theorem set_outS (a n : ℕ) (h : a + n ≤ 2048) : (outS a n h).view.set = rowsF a n := by
  rw [← set_rectO a n h]
  exact View.set_slice_whole _ _

/-- The rows `a …` of contents of the output buffer, and of the left operand, as a block. -/
def rd (a n : ℕ) (h : a + n ≤ 2048) (f : COut F) : (Sh n).Idx → Elt F .bf16 :=
  (outS a n h).view.read (Elt F) f
def rdA (a n : ℕ) (h : a + n ≤ 2048) (f : CA F) : (ShA n).Idx → Elt F .bf16 :=
  (aM.access (rectA a n h)).read (Elt F) f

theorem rd_apply (a n : ℕ) (h : a + n ≤ 2048) (f : COut F) (j : (Sh n).Idx) :
    rd a n h f j = f ((rectO a n h).emb j) := rfl

/-- Blocks agree when the contents agree on the block's rows. -/
theorem rd_congr {a n : ℕ} (h : a + n ≤ 2048) {f g : COut F} (hfg : ∀ i ∈ rowsF a n, f i = g i) :
    rd a n h f = rd a n h g := by
  funext j
  rw [rd_apply, rd_apply]
  refine hfg _ ?_
  rw [← set_rectO a n h]
  rw [← Rect.map_emb_univ]
  exact Finset.mem_map_of_mem _ (Finset.mem_univ _)

/-- Contents agree on the block's rows when the blocks agree. -/
theorem eq_of_rd {a n : ℕ} (h : a + n ≤ 2048) {f g : COut F} (hfg : rd a n h f = rd a n h g) :
    ∀ i ∈ rowsF a n, f i = g i := by
  intro i hi
  rw [← set_rectO a n h, ← Rect.map_emb_univ] at hi
  obtain ⟨j, -, rfl⟩ := Finset.mem_map.mp hi
  exact congrFun hfg j

/-! ## Which block of the product a row comes from -/

def gOf (r : ℕ) : Fin 3 := if r < 768 then 0 else if r < 1408 then 1 else 2

/-- The block of rows of the product that device `c` computes in one go around row `r`: its first row and its
    number of rows.  The half it keeps is one block; the half it gives away is two. -/
def blk (c : Dev nD) (r : ℕ) : ℕ × ℕ :=
  if (r - off (gOf r)) / (4 * wd (gOf r)) = side (gOf r) 0 c then (hb (gOf r) c, 4 * wd (gOf r))
  else (off (gOf r) + 2 * wd (gOf r) * ((r - off (gOf r)) / (2 * wd (gOf r))), 2 * wd (gOf r))

/-- The device whose piece row `r` is in. -/
def own (r : ℕ) : Dev nD :=
  (((List.finRange 8).find? fun q : Dev nD => pb (gOf r) q ≤ r ∧ r < pb (gOf r) q + wd (gOf r))).getD 0

theorem blk_half (g : Fin 3) (c : Dev nD) (x : Fin 384) : x.val < 4 * wd g →
    blk c (hb g c + x.val) = (hb g c, 4 * wd g) := by revert g c x; decide +kernel
theorem blk_quarter (g : Fin 3) (c : Dev nD) (q : Dev nD) (x : Fin 192) : x.val < 2 * wd g → side g 0 q ≠ side g 0 c →
    blk c (qb g q + x.val) = (qb g q, 2 * wd g) := by revert g c q x; decide +kernel
theorem own_piece (g : Fin 3) (q : Dev nD) (x : Fin 96) : x.val < wd g → own (pb g q + x.val) = q := by
  revert g q x; decide +kernel
theorem gOf_half (g : Fin 3) (q : Dev nD) (x : Fin 384) : x.val < 4 * wd g → gOf (hb g q + x.val) = g := by
  revert g q x; decide +kernel

/-! ## The contents -/

/-- The product of a block of rows of the left operand with the whole right operand, rounded as the kernel
    rounds it. -/
def prod (n : ℕ) (A : (ShA n).Idx → Elt F .bf16) (B : CB F) : (Sh n).Idx → Elt F .bf16 :=
  truncf .bf16 (matmul (DotDims.plain n 1024 2048) none (φ₁ := .bf16) (φ₂ := .bf16) A B
    (constant (F := F) (Sh n) .f32 0x00000000#32)) bitsLt_bf16_f32

variable (xa : Dev nD → CA F) (xb : Dev nD → CB F)

/-- The product rows of the block `(a, n)` on device `c`, put at their place. -/
def PB (c : Dev nD) (b : ℕ × ℕ) : COut F :=
  if h : b.1 + b.2 ≤ 2048 then
    (outS b.1 b.2 h).view.write (Elt F) (constant (F := F) S2048x2048 .bf16 0x0000#16)
      (prod b.2 (rdA b.1 b.2 h (xa c)) (xb c)) Finset.univ
  else constant (F := F) S2048x2048 .bf16 0x0000#16

/-- Every row of every device's own product, and the sums after each exchange. -/
def V : ℕ → Dev nD → COut F
  | 0, c => fun i => PB xa xb c (blk c (i 0).val) i
  | t + 1, c => fun i => FloatOps.addf (φ := .bf16) (V t c i) (V t (px (dir (gOf (i 0).val) (Fin.ofNat 3 t)) c) i)

/-- The finished rows: row `r` as the device that owns it has summed it. -/
def OUT : COut F := fun i => V xa xb 3 (own (i 0).val) i

/-- What a device's own product holds on a block it computes in one go. -/
theorem rd_V0 (c : Dev nD) (a n : ℕ) (h : a + n ≤ 2048) (hb : ∀ x, x < n → blk c (a + x) = (a, n)) :
    rd a n h (V xa xb 0 c) = prod n (rdA a n h (xa c)) (xb c) := by
  have e : rd a n h (V xa xb 0 c) = rd a n h (PB xa xb c (a, n)) := by
    refine rd_congr h fun i hi => ?_
    rw [mem_rowsF] at hi
    show PB xa xb c (blk c (i 0).val) i = _
    rw [show (i 0).val = a + ((i 0).val - a) by omega, hb _ (by omega)]
  rw [e]
  unfold PB
  rw [dif_pos h]
  exact View.read_write_univ _ _

/-- The sum of two blocks is the next stage's block, when the second is the partner's. -/
theorem rd_V_succ (t : ℕ) (c : Dev nD) (a n : ℕ) (h : a + n ≤ 2048) (m : ℕ)
    (hm : ∀ x, x < n → dir (gOf (a + x)) (Fin.ofNat 3 t) = m) :
    rd a n h (V xa xb (t + 1) c)
      = addf (F := F) (s := Sh n) (φ := .bf16) (rd a n h (V xa xb t c)) (rd a n h (V xa xb t (px m c))) := by
  funext j
  have hj : ((rectO a n h).emb j 0).val = a + (j 0).val := by
    show a + 1 * (j 0).val = _
    omega
  show FloatOps.addf (φ := .bf16) _ (V xa xb t (px (dir (gOf ((rectO a n h).emb j 0).val) (Fin.ofNat 3 t)) c) _) = _
  rw [hj, hm _ (j 0).isLt]
  rfl

/-- On a piece, the finished rows are the owner's. -/
theorem OUT_piece (g : Fin 3) (q : Dev nD) : ∀ i ∈ rowsF (pb g q) (wd g), V xa xb 3 q i = OUT xa xb i := by
  intro i hi
  rw [mem_rowsF] at hi
  have hw : ∀ g, wd g ≤ 96 := by decide
  have hw := hw g
  have := own_piece g q ⟨(i 0).val - pb g q, by omega⟩ (by show (i 0).val - pb g q < wd g; omega)
  unfold OUT
  rw [show pb g q + ((i 0).val - pb g q) = (i 0).val by omega] at this
  rw [this]

end Cert.CubeProof
end
-- ==== Proof.Sched.lean ====
/-
# The schedule of the semaphores

For every semaphore of a device: who pays it, how much, and what the payment hands over.

* The barrier semaphore is paid one unit by each of the three neighbours.  A neighbour's unit hands over its five
  landing regions that this device will copy into.
* The receive semaphore of the reduction copy `k` is paid by the copy.  It hands over the landing region, filled
  with the partner's rows, and the partner's own rows themselves, which the partner does not need until the
  finished rows come back: they are where this device later copies the finished rows to.
* The receive semaphore of a distribution copy hands over the device's rows, finished.
* The send semaphore of a distribution copy gives back the share of the rows that was read.
-/
module

public import proofs.«01_k».proof.Proof.Contents

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and this kernel's, with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := (SemArray.scalar (sig.barrier 0 rfl) : Sems sig S_).sem

/-- The semaphores of the protocol on one device: the barrier, and two for every copy. -/
abbrev CI : Type := Option (Bool × Fin 36)
def csem : CI → SemLoc sig
  | none => .reg barS
  | some (false, k) => .dma (ssem k)
  | some (true, k) => .dma (rsem k)

abbrev barCell (c : Dev nD) : GSem nD τ sig := ((c : Thread nD τ), .reg barS)
abbrev scell (c : Dev nD) (k : Fin 36) : GSem nD τ sig := ((c : Thread nD τ), .dma (ssem k))
abbrev rcell (c : Dev nD) (k : Fin 36) : GSem nD τ sig := ((c : Thread nD τ), .dma (rsem k))
abbrev kcell (p : Dev nD × CI) : GSem nD τ sig := ((p.1 : Thread nD τ), csem p.2)

/-- What copy `k` credits. -/
def N (k : Fin 36) : ℕ := (outS 0 (nr k) (by have := bs_le k 0; omega)).view.dmaCredit
theorem N_pos (k : Fin 36) : 0 < N k := View.dmaCredit_pos _ (by revert k; decide)

/-! ## The landing regions -/

/-- The landing region of the copy `k` whose rows hold device `q`'s piece. -/
def dstM : (k : Fin 36) → (q : Dev nD) → Memref sig .tc .vmem (Sh (nr k)) .bf16
  | 0, q => (Memref.whole cc0_scratch1).slice (Rect.unit (s := S384x2048) ![ro 0 q, 0] (Sh 192).size (inbR (ro_le 0 q (by decide)))) (fun _ => rfl)
  | 1, q => (Memref.whole cc0_scratch1).slice (Rect.unit (s := S384x2048) ![ro 1 q, 0] (Sh 192).size (inbR (ro_le 1 q (by decide)))) (fun _ => rfl)
  | 2, q => (Memref.whole cc0_scratch4).slice (Rect.unit (s := S320x2048) ![ro 2 q, 0] (Sh 160).size (inbR (ro_le 2 q (by decide)))) (fun _ => rfl)
  | 3, q => (Memref.whole cc0_scratch4).slice (Rect.unit (s := S320x2048) ![ro 3 q, 0] (Sh 160).size (inbR (ro_le 3 q (by decide)))) (fun _ => rfl)
  | 4, q => (Memref.whole cc0_scratch7).slice (Rect.unit (s := S320x2048) ![ro 4 q, 0] (Sh 160).size (inbR (ro_le 4 q (by decide)))) (fun _ => rfl)
  | 5, q => (Memref.whole cc0_scratch7).slice (Rect.unit (s := S320x2048) ![ro 5 q, 0] (Sh 160).size (inbR (ro_le 5 q (by decide)))) (fun _ => rfl)
  | 6, q => (Memref.whole cc0_scratch2).slice (Rect.unit (s := S192x2048) ![ro 6 q, 0] (Sh 96).size (inbR (ro_le 6 q (by decide)))) (fun _ => rfl)
  | 7, q => (Memref.whole cc0_scratch2).slice (Rect.unit (s := S192x2048) ![ro 7 q, 0] (Sh 96).size (inbR (ro_le 7 q (by decide)))) (fun _ => rfl)
  | 8, q => (Memref.whole cc0_scratch5).slice (Rect.unit (s := S160x2048) ![ro 8 q, 0] (Sh 80).size (inbR (ro_le 8 q (by decide)))) (fun _ => rfl)
  | 9, q => (Memref.whole cc0_scratch5).slice (Rect.unit (s := S160x2048) ![ro 9 q, 0] (Sh 80).size (inbR (ro_le 9 q (by decide)))) (fun _ => rfl)
  | 10, q => (Memref.whole cc0_scratch8).slice (Rect.unit (s := S160x2048) ![ro 10 q, 0] (Sh 80).size (inbR (ro_le 10 q (by decide)))) (fun _ => rfl)
  | 11, q => (Memref.whole cc0_scratch8).slice (Rect.unit (s := S160x2048) ![ro 11 q, 0] (Sh 80).size (inbR (ro_le 11 q (by decide)))) (fun _ => rfl)
  | 12, q => Memref.whole cc0_scratch3
  | 13, q => Memref.whole cc0_scratch6
  | 14, q => Memref.whole cc0_scratch9
  | k, q => outS (bs k q) (nr k) (bs_le k q)

/-- The rows copy `k` reads, the device `q`'s piece among them. -/
abbrev srcM (k : Fin 36) (q : Dev nD) : Memref sig .tc .vmem (Sh (nr k)) .bf16 := outS (bs k q) (nr k) (bs_le k q)

theorem credit_dstM (k : Fin 36) (q : Dev nD) : (dstM k q).view.dmaCredit = N k := by
  fin_cases k <;> rfl

/-! ## The memory assertions -/

/-- Device `c`'s output rows `a … a + n - 1`, holding what `f` holds there. -/
def Out (c : Dev nD) (a n : ℕ) (q : PosShare TreeShare) (f : COut F) : sProp 𝕄 :=
  (oM : Memref sig .tc .vmem S2048x2048 .bf16).view.loc (c : Thread nD τ) ↦[rowsF a n]{q} f

/-- Those rows, whatever they hold. -/
def OutE (c : Dev nD) (a n : ℕ) : sProp 𝕄 := iprop(∃ f : COut F, Out c a n fullShare f)

/-- A landing region on device `c`, whatever it holds. -/
def RgE (c : Dev nD) (k : Fin 36) (q : Dev nD) : sProp 𝕄 :=
  iprop(∃ X, owns (Ix := Unit) (Name := ℕ) (U := UU) (Lvl := ℕ) (c : Thread nD τ) (dstM k q) fullShare X)

instance out_storable (c : Dev nD) (a n : ℕ) (q) (f : COut F) : BI.Storable (upEmb : UEmb _ 𝕄) (Out c a n q f) := by
  unfold Out; infer_instance
instance oute_storable (c : Dev nD) (a n : ℕ) : BI.Storable (upEmb : UEmb _ 𝕄) (OutE (F := F) c a n) := by
  unfold OutE; infer_instance
instance rge_storable (c : Dev nD) (k q) : BI.Storable (upEmb : UEmb _ 𝕄) (RgE (F := F) c k q) := by
  unfold RgE; infer_instance

/-! ## What the payments hand over -/

/-- The share of the rows the distribution copy `k` reads. -/
def shr (k : Fin 36) : PosShare TreeShare :=
  (![fullShare, fullShare, fullShare, fullShare, fullShare, fullShare.left, fullShare.right.left, fullShare.left,
    fullShare.right.right, fullShare.right, fullShare, fullShare] : Fin 12 → PosShare TreeShare) (kr k)

variable (xa : Dev nD → CA F) (xb : Dev nD → CB F)

/-- To `c`, with the barrier unit of its neighbour `d`: the neighbour's five landing regions. -/
def barPay (c : Dev nD) (d : Fin 3) : sProp 𝕄 :=
  iprop(RgE (px (bm d) c) (bk d 0) (px (om (bk d 0)) c) ∗ RgE (px (bm d) c) (bk d 1) (px (om (bk d 1)) c)
    ∗ RgE (px (bm d) c) (bk d 2) (px (om (bk d 2)) c) ∗ RgE (px (bm d) c) (bk d 3) (px (om (bk d 3)) c)
    ∗ RgE (px (bm d) c) (bk d 4) (px (om (bk d 4)) c))

/-- To `p`, with the reduction copy `k`: the partner's rows in the landing region. -/
def Land (p : Dev nD) (k : Fin 36) : sProp 𝕄 :=
  owns (Ix := Unit) (Name := ℕ) (U := UU) (Lvl := ℕ) (p : Thread nD τ) (dstM k (px (rm k) p)) fullShare
    (rd (bs k (px (rm k) p)) (nr k) (bs_le k _) (V xa xb (kt k) (px (dm k) p)))

def rcvPay (p : Dev nD) (k : Fin 36) : sProp 𝕄 :=
  if k.val < 15 then iprop(Land xa xb p k ∗ OutE (px (dm k) p) (bs k (px (rm k) p)) (nr k))
  else Out p (bs k (px (rm k) p)) (nr k) fullShare (OUT xa xb)

def sndPay (c : Dev nD) (k : Fin 36) : sProp 𝕄 :=
  if k.val < 15 then iprop(emp) else Out c (bs k (px (om k) c)) (nr k) (shr k) (OUT xa xb)

instance barPay_storable (c d) : BI.Storable (upEmb : UEmb _ 𝕄) (barPay (F := F) c d) := by unfold barPay; infer_instance
instance land_storable (c k) : BI.Storable (upEmb : UEmb _ 𝕄) (Land xa xb c k) := by unfold Land; infer_instance
instance rcvPay_storable (c k) : BI.Storable (upEmb : UEmb _ 𝕄) (rcvPay xa xb c k) := by
  unfold rcvPay; split <;> infer_instance
instance sndPay_storable (c k) : BI.Storable (upEmb : UEmb _ 𝕄) (sndPay xa xb c k) := by
  unfold sndPay; split <;> infer_instance

def dmaPay (c : Dev nD) (q : DmaSem sig) : sProp 𝕄 :=
  match rOf q with
  | some k => rcvPay xa xb c k
  | none => match sOf q with
    | some k => sndPay xa xb c k
    | none => iprop(emp)

instance dmaPay_storable (c q) : BI.Storable (upEmb : UEmb _ 𝕄) (dmaPay xa xb c q) := by
  unfold dmaPay; split
  · infer_instance
  · split <;> infer_instance

/-- What one duty of a copy's semaphore amounts to. -/
def dmaAmt (q : DmaSem sig) : ℕ :=
  match rOf q with
  | some k => N k
  | none => match sOf q with
    | some k => N k
    | none => 1

def dutiesOf (s : SemLoc sig) : Finset (Fin 3) :=
  match s with
  | .reg _ => Finset.univ
  | .dma q => if (rOf q).isSome ∨ (sOf q).isSome then {0} else ∅

def amtOf (s : SemLoc sig) : ℕ :=
  match s with
  | .reg _ => 1
  | .dma q => dmaAmt q

def payOf (c : Dev nD) (s : SemLoc sig) (d : Fin 3) : sProp 𝕄 :=
  match s with
  | .reg _ => barPay c d
  | .dma q => dmaPay xa xb c q

instance payOf_storable (c s d) : BI.Storable (upEmb : UEmb _ 𝕄) (payOf xa xb c s d) := by
  unfold payOf; split <;> infer_instance

theorem amtOf_pos (s : SemLoc sig) : 0 < amtOf s := by
  unfold amtOf; split
  · exact Nat.one_pos
  · unfold dmaAmt; split
    · exact N_pos _
    · split
      · exact N_pos _
      · exact Nat.one_pos

/-- The schedule: one round. -/
def cubeRd : Rounds.Schedule (GSem nD τ sig) (Fin 3) 𝕄 where
  duties g r := if r = 0 ∧ g.1.2 = .tc then dutiesOf g.2 else ∅
  unitless _ := False
  amount g _ _ := amtOf g.2
  payload g _ d := payOf xa xb g.1.1 g.2 d
  amount_pos g _ _ _ := amtOf_pos g.2

instance cubeRd_payload_storable (g : GSem nD τ sig) (r : ℕ) (d : Fin 3) :
    BI.Storable (upEmb : UEmb _ 𝕄) ((cubeRd xa xb).payload g r d) := payOf_storable xa xb _ _ _

section Facts
variable (c : Dev nD) (k : Fin 36)

theorem duties_bar : (cubeRd xa xb).duties (barCell c) 0 = Finset.univ := by
  dsimp only [cubeRd]; exact if_pos ⟨rfl, rfl⟩
theorem duties_snd : (cubeRd xa xb).duties (scell c k) 0 = {0} := by
  dsimp only [cubeRd]; rw [if_pos ⟨rfl, rfl⟩]; unfold dutiesOf; dsimp only
  rw [rOf_ssem, sOf_ssem]; rfl
theorem duties_rcv : (cubeRd xa xb).duties (rcell c k) 0 = {0} := by
  dsimp only [cubeRd]; rw [if_pos ⟨rfl, rfl⟩]; unfold dutiesOf; dsimp only
  rw [rOf_rsem]; rfl
theorem duties_later (g : GSem nD τ sig) : ∀ r, 1 ≤ r → (cubeRd xa xb).duties g r = ∅ :=
  fun r hr => by dsimp only [cubeRd]; rw [if_neg fun h => by omega]

theorem amount_bar (d : Fin 3) : (cubeRd xa xb).amount (barCell c) 0 d = 1 := rfl
theorem amount_snd (d : Fin 3) : (cubeRd xa xb).amount (scell c k) 0 d = N k := by
  show dmaAmt (ssem k) = _
  unfold dmaAmt; rw [rOf_ssem, sOf_ssem]
theorem amount_rcv (d : Fin 3) : (cubeRd xa xb).amount (rcell c k) 0 d = N k := by
  show dmaAmt (rsem k) = _
  unfold dmaAmt; rw [rOf_rsem]

theorem expect_bar : (cubeRd xa xb).expect (barCell c) 0 = 3 := by
  unfold Schedule.expect Schedule.amountOf
  rw [duties_bar, Finset.sum_congr rfl fun d _ => amount_bar xa xb c d]; rfl
theorem expect_snd : (cubeRd xa xb).expect (scell c k) 0 = N k := by
  unfold Schedule.expect Schedule.amountOf; rw [duties_snd, Finset.sum_singleton, amount_snd]
theorem expect_rcv : (cubeRd xa xb).expect (rcell c k) 0 = N k := by
  unfold Schedule.expect Schedule.amountOf; rw [duties_rcv, Finset.sum_singleton, amount_rcv]

theorem payload_bar (d : Fin 3) : (cubeRd xa xb).payload (barCell c) 0 d = barPay c d := rfl
theorem payload_snd (d : Fin 3) : (cubeRd xa xb).payload (scell c k) 0 d = sndPay xa xb c k := by
  show dmaPay xa xb c (ssem k) = _
  unfold dmaPay; rw [rOf_ssem, sOf_ssem]
theorem payload_rcv (d : Fin 3) : (cubeRd xa xb).payload (rcell c k) 0 d = rcvPay xa xb c k := by
  show dmaPay xa xb c (rsem k) = _
  unfold dmaPay; rw [rOf_rsem]

theorem rest_bar : bigSep ((cubeRd xa xb).duties (barCell c) 0 \ ∅) (fun d => (cubeRd xa xb).payload (barCell c) 0 d)
    = iprop(barPay c 0 ∗ barPay c 1 ∗ barPay (F := F) c 2) := by
  rw [Finset.sdiff_empty, duties_bar, bigSep_univ_eq_bigSepL [0, 1, 2] (by decide) (by decide), bigSepL_cons_cons,
    bigSepL_cons_cons, bigSepL_singleton]
  rfl
theorem rest_snd : bigSep ((cubeRd xa xb).duties (scell c k) 0 \ ∅) (fun d => (cubeRd xa xb).payload (scell c k) 0 d)
    = sndPay xa xb c k := by
  rw [Finset.sdiff_empty, duties_snd, bigSep_singleton, payload_snd]
theorem rest_rcv : bigSep ((cubeRd xa xb).duties (rcell c k) 0 \ ∅) (fun d => (cubeRd xa xb).payload (rcell c k) 0 d)
    = rcvPay xa xb c k := by
  rw [Finset.sdiff_empty, duties_rcv, bigSep_singleton, payload_rcv]

end Facts

/-! ## Debts and levels

A device owes, from the start, every copy it will make.  Waiting is allowed on a semaphore whose level is below
that of everything still owed: the barrier lies lowest, and a receive semaphore lies as high as its place in the
order in which devices wait. -/

/-- The copies numbered `i` and up; the ones below. -/
def ge (i : ℕ) : Finset (Fin 36) := Finset.univ.filter fun k => i ≤ k.val
def lt (i : ℕ) : Finset (Fin 36) := Finset.univ.filter fun k => k.val < i

theorem ge_peel (i : Fin 36) : ge i.val = insert i (ge (i.val + 1)) := by
  ext k; simp only [ge, Finset.mem_filter, Finset.mem_univ, true_and, Finset.mem_insert, Fin.ext_iff]; omega
theorem notMem_ge (i : Fin 36) : i ∉ ge (i.val + 1) := by simp [ge]
theorem lt_push (i : Fin 36) : lt (i.val + 1) = insert i (lt i.val) := by
  ext k; simp only [lt, Finset.mem_filter, Finset.mem_univ, true_and, Finset.mem_insert, Fin.ext_iff]; omega
theorem notMem_lt (i : Fin 36) : i ∉ lt i.val := by simp [lt]
theorem ge_zero : ge 0 = Finset.univ := by decide
theorem lt_zero : lt 0 = ∅ := by decide
theorem ge_end : ge 36 = ∅ := by decide
theorem lt_end : lt 36 = Finset.univ := by decide

/-- What device `c` still owes when it has made `i` copies. -/
def Osum (c : Dev nD) (i : ℕ) : CellTallies nD τ sig Unit := ∑ k ∈ ge i, tallyAt (rcell (px (dm k) c) k) () (N k)

theorem Osum_peel (c : Dev nD) (i : Fin 36) :
    Osum c i.val = Osum c (i.val + 1) + tallyAt (rcell (px (dm i) c) i) () (N i) := by
  unfold Osum; rw [ge_peel, Finset.sum_insert (notMem_ge i), add_comm]
theorem Osum_end (c : Dev nD) : Osum c 36 = 0 := by unfold Osum; rw [ge_end, Finset.sum_empty]

/-- What it owes at launch: the copies, and a barrier unit to every neighbour. -/
def O₁ (c : Dev nD) : CellTallies nD τ sig Unit := Osum c 0 + tallyAt (barCell (px 4 c)) () 1
def O₂ (c : Dev nD) : CellTallies nD τ sig Unit := O₁ c + tallyAt (barCell (px 3 c)) () 1
def O₀ (c : Dev nD) : CellTallies nD τ sig Unit := O₂ c + tallyAt (barCell (px 1 c)) () 1

def Lv (g : GSem nD τ sig) : Finset Unit := if g.1.2 = .tc then {()} else ∅
def lvOf (s : SemLoc sig) : ℕ :=
  match s with
  | .reg _ => 1
  | .dma q => match rOf q with
    | some k => 2 + (wpos k).val
    | none => 0
def lv (g : GSem nD τ sig) (_ : Unit) : ℕ := lvOf g.2

theorem Lv_of_ne (g : GSem nD τ sig) (h : g.1.2 ≠ .tc) : Lv g = ∅ := if_neg h
theorem Lv_tc (c : Dev nD) (sm : SemLoc sig) : Lv ((c : Thread nD τ), sm) = {()} := if_pos rfl
theorem lv_rcell (c : Dev nD) (k : Fin 36) (u : Unit) : lv (rcell c k) u = 2 + (wpos k).val := by
  show lvOf (.dma (rsem k)) = _
  unfold lvOf; dsimp only; rw [rOf_rsem]
theorem lv_scell (c : Dev nD) (k : Fin 36) (u : Unit) : lv (scell c k) u = 0 := by
  show lvOf (.dma (ssem k)) = _
  unfold lvOf; dsimp only; rw [rOf_ssem]

theorem tallyAt_pos {g g' : GSem nD τ sig} {u : Unit} {n : ℕ} (h : 0 < (tallyAt g' () n : CellTallies nD τ sig Unit) g u) :
    g = g' := by
  rw [tallyAt_apply] at h
  by_contra hn
  rw [if_neg fun h' => hn h'.1] at h
  exact Nat.lt_irrefl 0 h

theorem Osum_pos {c : Dev nD} {i : ℕ} {g : GSem nD τ sig} {u : Unit} (h : 0 < Osum c i g u) :
    ∃ k : Fin 36, i ≤ k.val ∧ g = rcell (px (dm k) c) k := by
  unfold Osum at h
  rw [Finset.sum_apply, Finsupp.finset_sum_apply] at h
  obtain ⟨k, hk, hp⟩ := Finset.exists_ne_zero_of_sum_ne_zero (Nat.pos_iff_ne_zero.mp h)
  exact ⟨k, (Finset.mem_filter.mp hk).2, tallyAt_pos (Nat.pos_iff_ne_zero.mpr hp)⟩

theorem O₀_pos {c : Dev nD} {g : GSem nD τ sig} {u : Unit} (h : 0 < O₀ c g u) :
    (∃ k : Fin 36, g = rcell (px (dm k) c) k) ∨ ∃ p, g = barCell p := by
  unfold O₀ O₂ O₁ at h
  simp only [Pi.add_apply, Finsupp.add_apply] at h
  by_cases h1 : 0 < Osum c 0 g u
  · obtain ⟨k, -, e⟩ := Osum_pos h1; exact .inl ⟨k, e⟩
  by_cases h2 : 0 < (tallyAt (barCell (px 4 c)) () 1 : CellTallies nD τ sig Unit) g u
  · exact .inr ⟨_, tallyAt_pos h2⟩
  by_cases h3 : 0 < (tallyAt (barCell (px 3 c)) () 1 : CellTallies nD τ sig Unit) g u
  · exact .inr ⟨_, tallyAt_pos h3⟩
  by_cases h4 : 0 < (tallyAt (barCell (px 1 c)) () 1 : CellTallies nD τ sig Unit) g u
  · exact .inr ⟨_, tallyAt_pos h4⟩
  omega

/-- The general rule: a wait at level `l` is allowed while every copy still owed lies above. -/
theorem mayWait_cut (c : Dev nD) (s : SemLoc sig) (i : ℕ)
    (h : ∀ k : Fin 36, i ≤ k.val → lvOf s < 2 + (wpos k).val) :
    (levAts Lv lv : sProp 𝕄) ⊢ MayWait (c : Thread nD τ) s () (Osum c i) :=
  MayOwe.of_cut (L := Lv) (lev := lv) (lvOf s)
    (fun p hp => by rw [Finset.mem_singleton.mp hp, Lv_tc]; exact Finset.mem_singleton_self _)
    (fun g u hg => by obtain ⟨k, -, rfl⟩ := Osum_pos hg; exact Finset.mem_singleton_self _)
    (fun p hp => by rw [Finset.mem_singleton.mp hp]; exact le_refl _)
    (fun g u hg => by obtain ⟨k, hk, rfl⟩ := Osum_pos hg; rw [lv_rcell]; exact h k hk)

theorem mayWait_rcv (c : Dev nD) (k : Fin 36) (i : ℕ) (h : ∀ k' : Fin 36, i ≤ k'.val → (wpos k).val < (wpos k').val) :
    (levAts Lv lv : sProp 𝕄) ⊢ MayWait (c : Thread nD τ) (.dma (rsem k)) () (Osum c i) :=
  mayWait_cut c _ i fun k' hk' => by
    have e := lv_rcell c k (); have := h k' hk'
    show lvOf (.dma (rsem k)) < _
    rw [show lvOf (.dma (rsem k)) = 2 + (wpos k).val from e]; omega

theorem mayWait_bar (c : Dev nD) : (levAts Lv lv : sProp 𝕄) ⊢ MayWait (c : Thread nD τ) (.reg barS) () (Osum c 0) :=
  mayWait_cut c _ 0 fun k _ => by show 1 < _; omega

theorem mayWait_stage (c : Dev nD) (q : DmaSem sig) (hq : rOf q = none) (O : CellTallies nD τ sig Unit) (hO : O = O₀ c ∨ O = 0) :
    (levAts Lv lv : sProp 𝕄) ⊢ MayWait (c : Thread nD τ) (.dma q) () O := by
  rcases hO with rfl | rfl
  · refine MayOwe.of_cut (L := Lv) (lev := lv) 0 (fun p hp => by rw [Finset.mem_singleton.mp hp, Lv_tc]; exact Finset.mem_singleton_self _)
      (fun g u hg => by rcases O₀_pos hg with ⟨k, rfl⟩ | ⟨p, rfl⟩ <;> exact Finset.mem_singleton_self _)
      (fun p hp => by rw [Finset.mem_singleton.mp hp]; show lvOf (.dma q) ≤ 0; unfold lvOf; dsimp only; rw [hq])
      (fun g u hg => by
        rcases O₀_pos hg with ⟨k, rfl⟩ | ⟨p, rfl⟩
        · rw [lv_rcell]; omega
        · exact Nat.one_pos)
  · rw [MayWait_zero]; iintro -; iempintro

end Cert.CubeProof
end
-- ==== Proof.Steps.lean ====
/-
# The steps of the program

One rule for each kind of statement the kernel runs: loads and stores of row blocks, the two kinds of copies, and
the waits.  The semaphores' tokens of one device travel through the proof in one bundle, `Gh`, that says how many
copies the device has made and how many it has waited for; `Dr` is the same for the closing waits.
-/
module

public import proofs.«01_k».proof.Proof.Sched

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Mem
variable {c : Dev nD} {α : Type}

theorem loc_out (c : Dev nD) (a n : ℕ) (h : a + n ≤ 2048) :
    ((outS a n h).view.loc (c : Thread nD τ)) = (oM : Memref sig .tc .vmem S2048x2048 .bf16).view.loc (c : Thread nD τ) := rfl

/-- Loading a block of output rows. -/
theorem step_load_out {a n : ℕ} (h : a + n ≤ 2048) {off : Fin 2 → ℕ} (ho : off = ![a, 0]) {q : PosShare TreeShare} {f : COut F}
    {inb} {hl} {k : ((Sh n).Idx → Elt F .bf16) → Prog (TpuEff nD τ sig (Elt F) Λ₀ .tc) α} {Q : α → sProp 𝕄} :
    Out c a n q f ⊢ iprop((Out c a n q f -∗ WP c (k (rd a n h f)) Q)
      -∗ WP c (.op (.load oM (Rect.unit (s := S2048x2048) off (Sh n).size inb).toLoadRect hl) k) Q) := by
  subst ho
  unfold Out
  exact wp_load_rect 𝒱₀ (c : Thread nD τ) none Set.univ (m := oM) (r := rectO a n h) (hl := hl) (S := rowsF a n)
    (by rw [← set_outS a n h])

/-- Storing a block of output rows: the rows hold what `g` holds there, when the stored block is `g`'s. -/
theorem step_store_out {a n : ℕ} (h : a + n ≤ 2048) {off : Fin 2 → ℕ} (ho : off = ![a, 0]) {f : COut F} (g : COut F)
    {w : (Sh n).Idx → Elt F .bf16} (hw : rd a n h g = w)
    {inb} {hx} {hm} {k : PUnit → Prog (TpuEff nD τ sig (Elt F) Λ₀ .tc) α} {Q : α → sProp 𝕄} :
    Out c a n fullShare f ⊢ iprop((Out c a n fullShare g -∗ WP c (k ⟨⟩) Q)
      -∗ WP c (.op (.store oM (Rect.unit (s := S2048x2048) off (Sh n).size inb) w Finset.univ hx hm) k) Q) := by
  subst ho
  have e : (Out c a n fullShare ((outS a n h).view.write (Elt F) f w Finset.univ) : sProp 𝕄) = Out c a n fullShare g := by
    unfold Out
    refine pointsTo_congr (eq_of_rd h ?_)
    rw [hw]
    exact View.read_write_univ _ _
  rw [← e]
  unfold Out
  exact wp_store 𝒱₀ (c : Thread nD τ) none Set.univ (m := oM) (r := rectO a n h) (Mk := Finset.univ) (S := rowsF a n)
    (by rw [View.setOn_univ]; rw [← set_outS a n h])

/-- The left operand's staging buffer, and the copy of the right operand. -/
def Ap (c : Dev nD) (f : CA F) : sProp 𝕄 := ((c : Thread nD τ).loc cc0_stg0_0) ↦{fullShare} f
def Bp (c : Dev nD) (f : CB F) : sProp 𝕄 := ((c : Thread nD τ).loc cc0_stg1_0) ↦{fullShare} f
def Sp (c : Dev nD) (f : CB F) : sProp 𝕄 := ((c : Thread nD τ).loc cc0_scratch0) ↦{fullShare} f

theorem step_load_a {a n : ℕ} (h : a + n ≤ 2048) {off : Fin 2 → ℕ} (ho : off = ![a, 0]) {f : CA F}
    {inb} {hl} {k : ((ShA n).Idx → Elt F .bf16) → Prog (TpuEff nD τ sig (Elt F) Λ₀ .tc) α} {Q : α → sProp 𝕄} :
    Ap c f ⊢ iprop((Ap c f -∗ WP c (k (rdA a n h f)) Q)
      -∗ WP c (.op (.load aM (Rect.unit (s := S2048x1024) off (ShA n).size inb).toLoadRect hl) k) Q) := by
  subst ho
  unfold Ap
  exact wp_load_rect 𝒱₀ (c : Thread nD τ) none Set.univ (m := aM) (r := rectA a n h) (hl := hl) (S := Finset.univ)
    (Finset.subset_univ _)

theorem hz : (![0, 0] : Fin 2 → Nat) = fun _ => 0 := funext fun a => by fin_cases a <;> rfl

theorem step_load_b {f : CB F} {inb} {hl} {k : (S1024x2048.Idx → Elt F .bf16) → Prog (TpuEff nD τ sig (Elt F) Λ₀ .tc) α} {Q : α → sProp 𝕄} :
    Bp c f ⊢ iprop((Bp c f -∗ WP c (k f) Q)
      -∗ WP c (.op (.load bM (Rect.unit (s := S1024x2048) ![0, 0] S1024x2048.size inb).toLoadRect hl) k) Q) := by
  unfold Bp
  iintro H Hk
  iapply (wp_load 𝒱₀ (c : Thread nD τ) none Set.univ (m := bM) (Finset.subset_univ _)) $$ H; iintro H
  rw [show (bM : Memref sig .tc .vmem S1024x2048 .bf16).view.readAt (Elt F) (Rect.unit (s := S1024x2048) ![0, 0] S1024x2048.size inb).toLoadRect f = f
    from Memref.readAt_unit_zero (Elt F) cc0_stg1_0 hz _ f]
  iapply Hk; iexact H

theorem step_load_s {f : CB F} {inb} {hl} {k : (S1024x2048.Idx → Elt F .bf16) → Prog (TpuEff nD τ sig (Elt F) Λ₀ .tc) α} {Q : α → sProp 𝕄} :
    Sp c f ⊢ iprop((Sp c f -∗ WP c (k f) Q)
      -∗ WP c (.op (.load sM (Rect.unit (s := S1024x2048) ![0, 0] S1024x2048.size inb).toLoadRect hl) k) Q) := by
  unfold Sp
  iintro H Hk
  iapply (wp_load 𝒱₀ (c : Thread nD τ) none Set.univ (m := sM) (Finset.subset_univ _)) $$ H; iintro H
  rw [show (sM : Memref sig .tc .vmem S1024x2048 .bf16).view.readAt (Elt F) (Rect.unit (s := S1024x2048) ![0, 0] S1024x2048.size inb).toLoadRect f = f
    from Memref.readAt_unit_zero (Elt F) cc0_scratch0 hz _ f]
  iapply Hk; iexact H

theorem step_store_s {f g : CB F} {inb} {hx} {hm} {k : PUnit → Prog (TpuEff nD τ sig (Elt F) Λ₀ .tc) α} {Q : α → sProp 𝕄} :
    Sp c f ⊢ iprop((Sp c g -∗ WP c (k ⟨⟩) Q)
      -∗ WP c (.op (.store sM (Rect.unit (s := S1024x2048) ![0, 0] S1024x2048.size inb) g Finset.univ hx hm) k) Q) := by
  unfold Sp
  iintro H Hk
  iapply (wp_store 𝒱₀ (c : Thread nD τ) none Set.univ (m := sM) (r := Rect.unit (s := S1024x2048) ![0, 0] S1024x2048.size inb)
    (Mk := Finset.univ) (Finset.subset_univ _)) $$ H; iintro H
  rw [show ((sM : Memref sig .tc .vmem S1024x2048 .bf16).access (Rect.unit (s := S1024x2048) ![0, 0] S1024x2048.size inb) : View sig .tc _ _ _).write (Elt F) f g Finset.univ = g
    from Memref.write_access_unit_zero_univ (Elt F) cc0_scratch0 hz _ f g]
  iapply Hk; iexact H

/-- Loading a landing region through its buffer: a slice of it, or the whole of it. -/
theorem step_load_slice {R n : ℕ} {M : Memref sig .tc .vmem (Sh R) .bf16} {a : ℕ} {off : Fin 2 → ℕ} (ho : off = ![a, 0]) {X : (Sh n).Idx → Elt F .bf16}
    {inb'} {hr} {inb} {hl} {k : ((Sh n).Idx → Elt F .bf16) → Prog (TpuEff nD τ sig (Elt F) Λ₀ .tc) α} {Q : α → sProp 𝕄} :
    owns (Ix := Unit) (Name := ℕ) (U := UU) (Lvl := ℕ) (c : Thread nD τ) (M.slice (Rect.unit (s := Sh R) ![a, 0] (Sh n).size inb') hr) fullShare X
      ⊢ iprop((owns (Ix := Unit) (Name := ℕ) (U := UU) (Lvl := ℕ) (c : Thread nD τ) (M.slice (Rect.unit (s := Sh R) ![a, 0] (Sh n).size inb') hr) fullShare X -∗ WP c (k X) Q)
        -∗ WP c (.op (.load M (Rect.unit (s := Sh R) off (Sh n).size inb).toLoadRect hl) k) Q) := by
  subst ho
  unfold owns
  iintro ⟨%f, %hf, H⟩ Hk
  iapply (wp_load_rect 𝒱₀ (c : Thread nD τ) none Set.univ (m := M) (r := Rect.unit (s := Sh R) ![a, 0] (Sh n).size inb) (hl := hl)
    (S := (M.slice (Rect.unit (s := Sh R) ![a, 0] (Sh n).size inb') hr).view.set) (Finset.Subset.refl _)) $$ H
  iintro H
  rw [show (M.access (Rect.unit (s := Sh R) ![a, 0] (Sh n).size inb)).read (Elt F) f = X from hf]
  iapply Hk
  iexists f
  isplitr; · ipureintro; exact hf
  iexact H

theorem step_load_whole {n : ℕ} {M : Memref sig .tc .vmem (Sh n) .bf16} {X : (Sh n).Idx → Elt F .bf16} {inb} {hl}
    (hM : ∀ f, M.view.readAt (Elt F) (Rect.unit (s := Sh n) ![0, 0] (Sh n).size inb).toLoadRect f = M.view.read (Elt F) f)
    {k : ((Sh n).Idx → Elt F .bf16) → Prog (TpuEff nD τ sig (Elt F) Λ₀ .tc) α} {Q : α → sProp 𝕄} :
    owns (Ix := Unit) (Name := ℕ) (U := UU) (Lvl := ℕ) (c : Thread nD τ) M fullShare X
      ⊢ iprop((owns (Ix := Unit) (Name := ℕ) (U := UU) (Lvl := ℕ) (c : Thread nD τ) M fullShare X -∗ WP c (k X) Q)
        -∗ WP c (.op (.load M (Rect.unit (s := Sh n) ![0, 0] (Sh n).size inb).toLoadRect hl) k) Q) := by
  unfold owns
  iintro ⟨%f, %hf, H⟩ Hk
  iapply (wp_load 𝒱₀ (c : Thread nD τ) none Set.univ (m := M) (hl := hl) (S := M.view.set) (View.setOn_subset_set _ _)) $$ H
  iintro H
  rw [hM f, hf]
  iapply Hk
  iexists f
  isplitr; · ipureintro; exact hf
  iexact H

end Mem

/-! ## The bundles of tokens -/

/-- Taking one summand out. -/
theorem bigSep_ins {s : Finset (Fin 36)} {i : Fin 36} (h : i ∉ s) (Φ : Fin 36 → sProp 𝕄) :
    bigSep (insert i s) Φ = iprop(Φ i ∗ bigSep s Φ) := bigSep_insert h

section Ghost
variable (xa : Dev nD → CA F) (xb : Dev nD → CB F) (K : Dev nD × CI → ℕ) (c : Dev nD)

/-- Everything about the semaphores that everyone knows: their schedules, and that they have begun. -/
def records : sProp 𝕄 :=
  iprop((bigSep Finset.univ fun p : Dev nD × CI => cellInv ER (cubeRd xa xb) (K p) (kcell p))
    ∗ (bigSep Finset.univ fun p : Dev nD × CI => reached ER (kcell p) 0))

instance records_persistent : BI.Persistent (records xa xb K) := by unfold records; infer_instance

theorem records_inv (p : Dev nD × CI) : records xa xb K ⊢ cellInv ER (cubeRd xa xb) (K p) (kcell p) := by
  have h : (bigSep Finset.univ fun p : Dev nD × CI => cellInv ER (cubeRd xa xb) (K p) (kcell p)) ⊢ cellInv ER (cubeRd xa xb) (K p) (kcell p) :=
    bigSep_elim (Finset.mem_univ p)
  unfold records
  iintro ⟨H, -⟩
  iapply h; iexact H
theorem records_reached (p : Dev nD × CI) : records xa xb K ⊢ reached ER (kcell p) 0 := by
  have h : (bigSep Finset.univ fun p : Dev nD × CI => reached ER (kcell p) 0 : sProp 𝕄) ⊢ reached ER (kcell p) 0 :=
    bigSep_elim (Finset.mem_univ p)
  unfold records
  iintro ⟨-, H⟩
  iapply h; iexact H

/-- The right to make copy `k`. -/
def tokS (c : Dev nD) (k : Fin 36) : sProp 𝕄 :=
  iprop(dutyTok ER (scell c k) 0 0 ∗ dutyTok ER (rcell (px (dm k) c) k) 0 0)
/-- The right to wait for copy `k` to arrive. -/
def tokW (c : Dev nD) (k : Fin 36) : sProp 𝕄 :=
  iprop(atPos ER (rcell c k) 0 ∅ 0 ∗ cred (tallyAt (rcell c k) () (N k)))
/-- The right to wait for copy `k` to have been read. -/
def tokD (c : Dev nD) (k : Fin 36) : sProp 𝕄 :=
  iprop(atPos ER (scell c k) 0 ∅ 0 ∗ cred (tallyAt (scell c k) () (N k)))

/-- Device `c`'s tokens when it has made `i` copies and waited for the first `j` arrivals. -/
def Gh (i j : ℕ) : sProp 𝕄 :=
  iprop(records xa xb K ∗ levAts Lv lv ∗ (∃ W, owes (c : Thread nD τ) (Osum c i) W)
    ∗ bigSep (ge i) (tokS c)
    ∗ bigSep (ge j) (fun p => tokW c (wk p))
    ∗ bigSep (lt i) (fun k => cred (tallyAt (scell c k) () (N k)))
    ∗ bigSep (lt j) (fun p => semVal (rcell c (wk p)) 0)
    ∗ bigSep Finset.univ (fun k => atPos ER (scell c k) 0 ∅ 0))

/-- Device `c`'s tokens when everything has arrived and it has made `s` of the closing waits. -/
def Dr (s : ℕ) : sProp 𝕄 :=
  iprop(records xa xb K ∗ levAts Lv lv ∗ (∃ W, owes (c : Thread nD τ) 0 W)
    ∗ bigSep (ge s) (fun p => tokD c (so p))
    ∗ bigSep (lt s) (fun p => semVal (scell c (so p)) 0))

/-- After the last arrival the closing waits can begin. -/
theorem gh_dr : Gh xa xb K c 36 36 ⊢ iprop(Dr xa xb K c 0 ∗ bigSep Finset.univ (fun k => semVal (rcell c k) 0)) := by
  unfold Gh Dr
  rw [Osum_end, ge_zero, lt_zero, lt_end, bigSep_empty]
  rw [bigSep_univ_equiv wkE (fun k => (semVal (rcell c k) 0 : sProp 𝕄)),
    bigSep_univ_equiv soE (fun k => (atPos ER (scell c k) 0 ∅ 0 : sProp 𝕄)),
    bigSep_univ_equiv soE (fun k => (cred (tallyAt (scell c k) () (N k)) : sProp 𝕄))]
  unfold tokD
  rw [bigSep_sep']
  iintro ⟨#HR, #HL, HO, -, -, Hc, Hz, Ha⟩
  isplitr [Hz]
  · isplitr; · iexact HR
    isplitr; · iexact HL
    isplitl [HO]; · iexact HO
    isplitl [Hc Ha]
    · isplitl [Ha]; · iexact Ha
      iexact Hc
    iempintro
  iexact Hz

/-- The wait for the next arrival. -/
theorem step_wait (i : ℕ) (j k : Fin 36) (hjk : wk j = k) (hlev : ∀ k' : Fin 36, i ≤ k'.val → (wpos k).val < (wpos k').val)
    {α : Type} {Q : α → sProp 𝕄}
    {s s' : Shape} {e e' : EltTy} {src : Memref sig .tc .vmem s e} {dst : Memref sig .tc .vmem s' e'} {sm : DmaSem sig} {h1} {h2}
    (hsm : sm = rsem k) (hN : dst.view.dmaCredit = N k)
    {kk : PUnit → Prog (TpuEff nD τ sig (Elt F) Λ₀ .tc) α} :
    Gh xa xb K c i j.val ⊢ iprop(((Gh xa xb K c i (j.val + 1) ∗ rcvPay xa xb c k) -∗ WP c (kk ⟨⟩) Q)
      -∗ WP c (.op (.waitDma2 sm src dst h1 h2) kk) Q) := by
  subst hsm; subst hjk
  unfold Gh
  rw [ge_peel j, bigSep_ins (notMem_ge j), lt_push j, bigSep_ins (notMem_lt j)]
  unfold tokW
  iintro ⟨#HR, #HL, ⟨%W, HO⟩, HS, ⟨⟨Ha, Hc⟩, HW⟩, HC, HZ, HA⟩ Hk
  ihave #HI := (records_inv xa xb K (c, some (true, wk j))) $$ HR
  iapply (Rounds.wp_wait_rest_token 𝒱₀ ER (cubeRd xa xb) (c : Thread nD τ) none (κ := K (c, some (true, wk j)))
      (wpE_waitDma2_eq 𝒱₀ (c : Thread nD τ) none Set.univ) (Set.mem_univ _) () (O := Osum c i) (W := W) (R := 0) (m := 0) (T := ∅)
      (by rw [Nat.zero_add, expect_rcv]; exact hN)) $$ [Hc HO Ha]
  · isplitr; · iexact HI
    isplitl [Hc]; · rw [hN]; iexact Hc
    isplitl [HO]; · iexact HO
    isplitr; · iapply (mayWait_rcv c (wk j) i hlev); iexact HL
    iexact Ha
  iintro ⟨HO, Ha, -, Hpay⟩
  ihave Hp := (Entails.of_eq (rest_rcv xa xb c (wk j))) $$ Hpay
  imod (Rounds.cell_close ER (cubeRd xa xb) (Set.mem_univ (K (c, some (true, wk j)))) (fun h => h) (R := 0 + 1) (duties_later xa xb (rcell c (wk j)))) $$ [Ha] with Hz
  · isplitr; · iexact HI
    iexact Ha
  iapply Hk
  isplitr [Hp]
  · isplitr; · iexact HR
    isplitr; · iexact HL
    isplitl [HO]; · iexists _; iexact HO
    isplitl [HS]; · iexact HS
    isplitl [HW]; · iexact HW
    isplitl [HC]; · iexact HC
    isplitl [Hz HZ]
    · isplitl [Hz]; · iexact Hz
      iexact HZ
    iexact HA
  iexact Hp

/-- A closing wait. -/
theorem step_drain (j k : Fin 36) (hjk : so j = k) {α : Type} {Q : α → sProp 𝕄}
    {s s' : Shape} {e e' : EltTy} {src : Memref sig .tc .vmem s e} {dst : Memref sig .tc .vmem s' e'} {sm : DmaSem sig} {h1} {h2}
    (hsm : sm = ssem k) (hN : dst.view.dmaCredit = N k)
    {kk : PUnit → Prog (TpuEff nD τ sig (Elt F) Λ₀ .tc) α} :
    Dr xa xb K c j.val ⊢ iprop(((Dr xa xb K c (j.val + 1) ∗ sndPay xa xb c k) -∗ WP c (kk ⟨⟩) Q)
      -∗ WP c (.op (.waitDma2 sm src dst h1 h2) kk) Q) := by
  subst hsm; subst hjk
  unfold Dr
  rw [ge_peel j, bigSep_ins (notMem_ge j), lt_push j, bigSep_ins (notMem_lt j)]
  unfold tokD
  iintro ⟨#HR, #HL, ⟨%W, HO⟩, ⟨⟨Ha, Hc⟩, HW⟩, HZ⟩ Hk
  ihave #HI := (records_inv xa xb K (c, some (false, so j))) $$ HR
  iapply (Rounds.wp_wait_rest_token 𝒱₀ ER (cubeRd xa xb) (c : Thread nD τ) none (κ := K (c, some (false, so j)))
      (wpE_waitDma2_eq 𝒱₀ (c : Thread nD τ) none Set.univ) (Set.mem_univ _) () (O := 0) (W := W) (R := 0) (m := 0) (T := ∅)
      (by rw [Nat.zero_add, expect_snd]; exact hN)) $$ [Hc HO Ha]
  · isplitr; · iexact HI
    isplitl [Hc]; · rw [hN]; iexact Hc
    isplitl [HO]; · iexact HO
    isplitr; · rw [MayWait_zero]; iempintro
    iexact Ha
  iintro ⟨HO, Ha, -, Hpay⟩
  ihave Hp := (Entails.of_eq (rest_snd xa xb c (so j))) $$ Hpay
  imod (Rounds.cell_close ER (cubeRd xa xb) (Set.mem_univ (K (c, some (false, so j)))) (fun h => h) (R := 0 + 1) (duties_later xa xb (scell c (so j)))) $$ [Ha] with Hz
  · isplitr; · iexact HI
    iexact Ha
  iapply Hk
  isplitr [Hp]
  · isplitr; · iexact HR
    isplitr; · iexact HL
    isplitl [HO]; · iexists _; iexact HO
    isplitl [HW]; · iexact HW
    isplitl [Hz]; · iexact Hz
    iexact HZ
  iexact Hp

/-- The rows a distribution copy writes, once written. -/
theorem out_landed (p : Dev nD) (a n : ℕ) (h : a + n ≤ 2048) (fd g : COut F) :
    (((outS a n h).view.loc (p : Thread nD τ)) ↦[(outS a n h).view.set]{fullShare} ((outS a n h).view.write (Elt F) fd ((outS a n h).view.read (Elt F) g) Finset.univ) : sProp 𝕄)
      = Out p a n fullShare g := by
  rw [set_outS]
  exact pointsTo_congr (eq_of_rd h (View.read_write_univ _ _))

theorem credit_srcM (k : Fin 36) (q : Dev nD) : (srcM k q).view.dmaCredit = N k := by
  rfl

theorem rd_start {a a' n : ℕ} (e : a = a') (h : a + n ≤ 2048) (h' : a' + n ≤ 2048) (f : COut F) : rd a n h f = rd a' n h' f := by
  subst e; rfl

/-- What copy `k` hands its receiver, said from the sender's side. -/
theorem rcvPay_rs (k : Fin 36) (hk : k.val < 15) : rcvPay xa xb (px (dm k) c) k
    = iprop(owns (Ix := Unit) (Name := ℕ) (U := UU) (Lvl := ℕ) (px (dm k) c : Thread nD τ) (dstM k (px (om k) c)) fullShare
        (rd (bs k (px (om k) c)) (nr k) (bs_le k _) (V xa xb (kt k) c)) ∗ OutE c (bs k (px (om k) c)) (nr k)) := by
  unfold rcvPay Land
  rw [if_pos hk]
  simp only [px_rm, px_dm_dm]
  rw [rd_start (congrArg (bs k) (px_rm k c)) (bs_le k _) (bs_le k _)]
theorem rcvPay_ag (k : Fin 36) (hk : ¬ k.val < 15) : rcvPay xa xb (px (dm k) c) k
    = Out (px (dm k) c) (bs k (px (om k) c)) (nr k) fullShare (OUT xa xb) := by
  unfold rcvPay
  rw [if_neg hk, px_rm]

/-- A reduction copy: the rows and the landing region go, nothing is kept. -/
theorem step_send_rs (k : Fin 36) (hk : k.val < 15) (j : ℕ) (q : Dev nD) (hq : q = px (om k) c)
    {α : Type} {Q : α → sProp 𝕄} {n : Dev nD} (hn : n = px (dm k) c)
    {src : Memref sig .tc .vmem (Sh (nr k)) .bf16} (hsrc' : src = srcM k q)
    {dst : Memref sig (Dev.tc n : Thread nD τ).2.kind .vmem (Sh (nr k)) .bf16} (hdst' : dst = dstM k q)
    {s1 s2 : DmaSem sig} (hs1 : s1 = ssem k) (hs2 : s2 = rsem k)
    {hsc : dst.view.ref.isScScratch = false} {hsrc : src.view.WordExact} {hdst : dst.view.WordExact}
    {hsem : DmaTarget.Typed .vmem (.dma s2) (.remote (Dev.tc n : Thread nD τ) dst (.dma s1) hsc)}
    {kk : PUnit → Prog (TpuEff nD τ sig (Elt F) Λ₀ .tc) α} :
    iprop(Gh xa xb K c k.val j ∗ Out c (bs k q) (nr k) fullShare (V xa xb (kt k) c) ∗ RgE (px (dm k) c) k q)
      ⊢ iprop((Gh xa xb K c (k.val + 1) j -∗ WP c (kk ⟨⟩) Q)
        -∗ WP c (.op (.enqueueDma src (.remote (Dev.tc n : Thread nD τ) dst (.dma s1) hsc) (.dma s2) hsrc hdst hsem) kk) Q) := by
  subst hn; subst hsrc'; subst hdst'; subst hs1; subst hs2; subst hq
  unfold Gh RgE
  rw [ge_peel k, bigSep_ins (notMem_ge k), lt_push k, bigSep_ins (notMem_lt k)]
  unfold tokS
  iintro ⟨⟨#HR, #HL, ⟨%W, HO⟩, ⟨⟨Ht1, Ht2⟩, HS⟩, HW, HC, HZ, HA⟩, Hsrc, ⟨%X, Hd⟩⟩ Hk
  unfold owns
  icases Hd with ⟨%fd, -, Hd⟩
  ihave #HI1 := (records_inv xa xb K (c, some (false, k))) $$ HR
  ihave #HI2 := (records_inv xa xb K (px (dm k) c, some (true, k))) $$ HR
  ihave #HR1 := (records_reached xa xb K (c, some (false, k))) $$ HR
  ihave #HR2 := (records_reached xa xb K (px (dm k) c, some (true, k))) $$ HR
  iapply (Rounds.wp_send_landing_pointsTo 𝒱₀ ER (cubeRd xa xb) (c : Thread nD τ) none (κ₁ := K (c, some (false, k))) (κ₂ := K (px (dm k) c, some (true, k)))
    (r₁ := 0) (r₂ := 0) (d₁ := 0) (d₂ := 0) (fd := fd) (fs := V xa xb (kt k) c) (q := fullShare)
    (by rw [duties_snd]; exact Finset.mem_singleton_self _) (by rw [duties_rcv]; exact Finset.mem_singleton_self _)
    () () (N k) (by exact credit_dstM k _) (amount_snd xa xb c k 0) (amount_rcv xa xb (px (dm k) c) k 0) (Osum c (k.val + 1)) (Osum_peel c k) (W := W)
    (by rw [payload_snd]; unfold sndPay; rw [if_pos hk])
    (by
      rw [payload_rcv, rcvPay_rs xa xb c k hk]; unfold OutE Out owns
      rw [set_outS]
      iintro ⟨H1, H2⟩
      isplitl [H1]
      · iexists _
        isplitr [H1]
        rotate_left
        · iexact H1
        · ipureintro; exact View.read_write_univ _ _
      · iexists _; iexact H2)) $$ [HO Hsrc Hd Ht1 Ht2]
  · isplitr; · iexact HI1
    isplitr; · iexact HI2
    isplitl [Hsrc]; · rw [set_outS]; unfold Out; iexact Hsrc
    isplitl [Hd]; · iexact Hd
    isplitl [HO]; · iexact HO
    isplitl [Ht1]; · iexact Ht1
    isplitr; · iexact HR1
    isplitl [Ht2]; · iexact Ht2
    iexact HR2
  iintro ⟨Hcr, HO⟩
  iapply Hk
  isplitr; · iexact HR
  isplitr; · iexact HL
  isplitl [HO]; · iexists _; iexact HO
  isplitl [HS]; · iexact HS
  isplitl [HW]; · iexact HW
  isplitl [Hcr HC]
  · isplitl [Hcr]; · iexact Hcr
    iexact HC
  isplitl [HZ]; · iexact HZ
  iexact HA

/-- A distribution copy: a share of the finished rows goes until the closing wait, and the receiver's rows go. -/
theorem step_send_ag (k : Fin 36) (hk : ¬ k.val < 15) (j : ℕ) (q : Dev nD) (hq : q = px (om k) c)
    {α : Type} {Q : α → sProp 𝕄} {n : Dev nD} (hn : n = px (dm k) c)
    {src : Memref sig .tc .vmem (Sh (nr k)) .bf16} (hsrc' : src = srcM k q)
    {dst : Memref sig (Dev.tc n : Thread nD τ).2.kind .vmem (Sh (nr k)) .bf16} (hdst' : dst = srcM k q)
    {s1 s2 : DmaSem sig} (hs1 : s1 = ssem k) (hs2 : s2 = rsem k)
    {hsc : dst.view.ref.isScScratch = false} {hsrc : src.view.WordExact} {hdst : dst.view.WordExact}
    {hsem : DmaTarget.Typed .vmem (.dma s2) (.remote (Dev.tc n : Thread nD τ) dst (.dma s1) hsc)}
    {kk : PUnit → Prog (TpuEff nD τ sig (Elt F) Λ₀ .tc) α} :
    iprop(Gh xa xb K c k.val j ∗ Out c (bs k q) (nr k) (shr k) (OUT xa xb) ∗ OutE (px (dm k) c) (bs k q) (nr k))
      ⊢ iprop((Gh xa xb K c (k.val + 1) j -∗ WP c (kk ⟨⟩) Q)
        -∗ WP c (.op (.enqueueDma src (.remote (Dev.tc n : Thread nD τ) dst (.dma s1) hsc) (.dma s2) hsrc hdst hsem) kk) Q) := by
  subst hn; subst hsrc'; subst hdst'; subst hs1; subst hs2; subst hq
  unfold Gh OutE
  rw [ge_peel k, bigSep_ins (notMem_ge k), lt_push k, bigSep_ins (notMem_lt k)]
  unfold tokS
  iintro ⟨⟨#HR, #HL, ⟨%W, HO⟩, ⟨⟨Ht1, Ht2⟩, HS⟩, HW, HC, HZ, HA⟩, Hsrc, ⟨%fd, Hd⟩⟩ Hk
  ihave #HI1 := (records_inv xa xb K (c, some (false, k))) $$ HR
  ihave #HI2 := (records_inv xa xb K (px (dm k) c, some (true, k))) $$ HR
  ihave #HR1 := (records_reached xa xb K (c, some (false, k))) $$ HR
  ihave #HR2 := (records_reached xa xb K (px (dm k) c, some (true, k))) $$ HR
  iapply (Rounds.wp_send_pointsTo 𝒱₀ ER (cubeRd xa xb) (c : Thread nD τ) none (κ₁ := K (c, some (false, k))) (κ₂ := K (px (dm k) c, some (true, k)))
    (r₁ := 0) (r₂ := 0) (d₁ := 0) (d₂ := 0) (fd := fd) (fs := OUT xa xb) (q := shr k)
    (by rw [duties_snd]; exact Finset.mem_singleton_self _) (by rw [duties_rcv]; exact Finset.mem_singleton_self _)
    () () (N k) (by exact credit_srcM k _) (amount_snd xa xb c k 0) (amount_rcv xa xb (px (dm k) c) k 0) (Osum c (k.val + 1)) (Osum_peel c k) (W := W)
    (by rw [payload_snd]; unfold sndPay; rw [if_neg hk, set_outS]; exact BI.Entails.refl _)
    (by rw [payload_rcv]; rw [rcvPay_ag xa xb c k hk]; exact Entails.of_eq (out_landed _ _ _ _ _ _))) $$ [HO Hsrc Hd Ht1 Ht2]
  · isplitr; · iexact HI1
    isplitr; · iexact HI2
    isplitl [Hsrc]; · rw [set_outS]; unfold Out; iexact Hsrc
    isplitl [Hd]; · rw [set_outS]; unfold Out; iexact Hd
    isplitl [HO]; · iexact HO
    isplitl [Ht1]; · iexact Ht1
    isplitr; · iexact HR1
    isplitl [Ht2]; · iexact Ht2
    iexact HR2
  iintro ⟨Hcr, HO⟩
  iapply Hk
  isplitr; · iexact HR
  isplitr; · iexact HL
  isplitl [HO]; · iexists _; iexact HO
  isplitl [HS]; · iexact HS
  isplitl [HW]; · iexact HW
  isplitl [Hcr HC]
  · isplitl [Hcr]; · iexact Hcr
    iexact HC
  isplitl [HZ]; · iexact HZ
  iexact HA

end Ghost

end Cert.CubeProof
end
-- ==== Proof.Rows.lean ====
/-
# Cutting rows, and the steps as the body uses them

The output buffer is cut into groups, halves, quarters and pieces of rows, and joined again at the end.  The landing
buffers are cut into their two regions.  Then the steps of `Steps` in the form the body's proof applies them.
-/
module

public import proofs.«01_k».proof.Proof.Steps
public import Idealize.ShloMosaic.Lib.Pipeline.Value

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks of rows -/

theorem rowsF_cut (a n m : ℕ) : rowsF a (n + m) = rowsF a n ∪ rowsF (a + n) m := by
  ext i; rw [Finset.mem_union, mem_rowsF, mem_rowsF, mem_rowsF]; omega
theorem rowsF_disj (a n m : ℕ) : Disjoint (rowsF a n) (rowsF (a + n) m) := by
  rw [Finset.disjoint_left]; intro i; rw [mem_rowsF, mem_rowsF]; omega

section Cut
variable {p : Dev nD} {s : PosShare TreeShare} {f : COut F}

theorem out_cut (a n m : ℕ) : (Out p a (n + m) s f : sProp 𝕄) ⊣⊢ iprop(Out p a n s f ∗ Out p (a + n) m s f) := by
  unfold Out
  rw [rowsF_cut]
  exact pointsTo_union (rowsF_disj a n m)

/-- A block is its two halves, in either order. -/
theorem out_halve {a x y n M : ℕ} (hM : M = n + n) (h : (x = a ∧ y = a + n) ∨ (y = a ∧ x = a + n)) :
    (Out p a M s f : sProp 𝕄) ⊣⊢ iprop(Out p x n s f ∗ Out p y n s f) := by
  subst hM
  rcases h with ⟨rfl, rfl⟩ | ⟨rfl, rfl⟩
  · exact out_cut _ _ _
  · exact ⟨(out_cut _ _ _).1.trans sep_comm.1, sep_comm.1.trans (out_cut _ _ _).2⟩

theorem oute_halve {a x y n M : ℕ} (hM : M = n + n) (h : (x = a ∧ y = a + n) ∨ (y = a ∧ x = a + n)) :
    (OutE p a M : sProp 𝕄) ⊢ iprop(OutE p x n ∗ OutE p y n) := by
  unfold OutE
  iintro ⟨%f, H⟩
  ihave H2 := (out_halve hM h).1 $$ H
  icases H2 with ⟨H1, H2⟩
  isplitl [H1]
  · iexists f; iexact H1
  · iexists f; iexact H2

end Cut

theorem piece_at (g : Fin 3) (q : Dev nD) : (pb g (px (dir g 2) q) = qb g q ∧ pb g q = qb g q + wd g)
    ∨ (pb g q = qb g q ∧ pb g (px (dir g 2) q) = qb g q + wd g) := by revert g q; decide +kernel
theorem quarter_at (g : Fin 3) (q : Dev nD) : (qb g (px (dir g 1) q) = hb g q ∧ qb g q = hb g q + 2 * wd g)
    ∨ (qb g q = hb g q ∧ qb g (px (dir g 1) q) = hb g q + 2 * wd g) := by revert g q; decide +kernel
theorem half_at (g : Fin 3) (q : Dev nD) : (hb g (px (dir g 0) q) = off g ∧ hb g q = off g + 4 * wd g)
    ∨ (hb g q = off g ∧ hb g (px (dir g 0) q) = off g + 4 * wd g) := by revert g q; decide +kernel

section Cut
variable (g : Fin 3) (q : Dev nD) {q' : Dev nD} {n M : ℕ} {p : Dev nD} {s : PosShare TreeShare} {f : COut F}

/-- A quarter is two pieces. -/
theorem cut_quarter (hq : px (dir g 2) q = q') (hn : wd g = n) (hM : M = n + n) :
    (Out p (qb g q) M s f : sProp 𝕄) ⊣⊢ iprop(Out p (pb g q') n s f ∗ Out p (pb g q) n s f) := by
  subst hq; subst hn
  exact out_halve hM (piece_at g q)
theorem cute_quarter (hq : px (dir g 2) q = q') (hn : wd g = n) (hM : M = n + n) :
    (OutE p (qb g q) M : sProp 𝕄) ⊢ iprop(OutE p (pb g q') n ∗ OutE p (pb g q) n) := by
  subst hq; subst hn
  exact oute_halve hM (piece_at g q)
/-- A half is two quarters. -/
theorem cut_half (hq : px (dir g 1) q = q') (hn : 2 * wd g = n) (hM : M = n + n) :
    (Out p (hb g q) M s f : sProp 𝕄) ⊣⊢ iprop(Out p (qb g q') n s f ∗ Out p (qb g q) n s f) := by
  subst hq; subst hn
  exact out_halve hM (quarter_at g q)
theorem cute_half (hq : px (dir g 1) q = q') (hn : 2 * wd g = n) (hM : M = n + n) :
    (OutE p (hb g q) M : sProp 𝕄) ⊢ iprop(OutE p (qb g q') n ∗ OutE p (qb g q) n) := by
  subst hq; subst hn
  exact oute_halve hM (quarter_at g q)
/-- A group is two halves. -/
theorem cut_group (hq : px (dir g 0) q = q') (hn : 4 * wd g = n) (hM : M = n + n) :
    (Out p (off g) M s f : sProp 𝕄) ⊣⊢ iprop(Out p (hb g q') n s f ∗ Out p (hb g q) n s f) := by
  subst hq; subst hn
  exact out_halve hM (half_at g q)
theorem cute_group (hq : px (dir g 0) q = q') (hn : 4 * wd g = n) (hM : M = n + n) :
    (OutE p (off g) M : sProp 𝕄) ⊢ iprop(OutE p (hb g q') n ∗ OutE p (hb g q) n) := by
  subst hq; subst hn
  exact oute_halve hM (half_at g q)

end Cut

/-- Rows in three shares. -/
theorem out_three (p : Dev nD) (a n : ℕ) (f : COut F) : (Out p a n fullShare f : sProp 𝕄)
    ⊣⊢ iprop(Out p a n fullShare.left f ∗ Out p a n fullShare.right.left f ∗ Out p a n fullShare.right.right f) := by
  unfold Out
  exact ⟨(pointsTo_share (PosShare.mem_left_op_right fullShare)).1.trans (sep_mono_right (pointsTo_share (PosShare.mem_left_op_right _)).1),
    (sep_mono_right (pointsTo_share (PosShare.mem_left_op_right _)).2).trans (pointsTo_share (PosShare.mem_left_op_right fullShare)).2⟩
/-- Rows in two shares. -/
theorem out_two (p : Dev nD) (a n : ℕ) (f : COut F) : (Out p a n fullShare f : sProp 𝕄)
    ⊣⊢ iprop(Out p a n fullShare.left f ∗ Out p a n fullShare.right f) := by
  unfold Out
  exact pointsTo_share (PosShare.mem_left_op_right fullShare)

/-! ## Values -/

theorem gOf_quarter (g : Fin 3) (q : Dev nD) (x : Fin 192) : x.val < 2 * wd g → gOf (qb g q + x.val) = g := by
  revert g q x; decide +kernel
theorem gOf_piece (g : Fin 3) (q : Dev nD) (x : Fin 96) : x.val < wd g → gOf (pb g q + x.val) = g := by
  revert g q x; decide +kernel
theorem nr_wd (k : Fin 36) : nr k = if k.val < 6 then 2 * wd (kg k) else wd (kg k) := by revert k; decide
theorem wd_le (g : Fin 3) : wd g ≤ 96 := by revert g; decide
theorem gOf_bs (k : Fin 36) (q : Dev nD) (x : ℕ) (hx : x < nr k) : gOf (bs k q + x) = kg k := by
  rw [nr_wd] at hx
  have := wd_le (kg k)
  unfold bs
  split at hx
  · rw [if_pos ‹_›]; exact gOf_quarter _ q ⟨x, by omega⟩ hx
  · rw [if_neg ‹_›]; exact gOf_piece _ q ⟨x, by omega⟩ hx
theorem dir_kg (k : Fin 36) : k.val < 15 → dir (kg k) (Fin.ofNat 3 (kt k)) = dm k := by revert k; decide

variable (xa : Dev nD → CA F) (xb : Dev nD → CB F) (K : Dev nD × CI → ℕ) (c : Dev nD)

/-- The sum after the reduction copy `k` has arrived. -/
theorem rd_add (k : Fin 36) (hk : k.val < 15) (q : Dev nD) :
    rd (bs k q) (nr k) (bs_le k q) (V xa xb (kt k + 1) c)
      = addf (F := F) (s := Sh (nr k)) (φ := .bf16) (rd (bs k q) (nr k) (bs_le k q) (V xa xb (kt k) c))
          (rd (bs k q) (nr k) (bs_le k q) (V xa xb (kt k) (px (dm k) c))) :=
  rd_V_succ xa xb (kt k) c _ _ _ (dm k) fun x hx => by rw [gOf_bs k q x hx, dir_kg k hk]

theorem rd_half (g : Fin 3) {n : ℕ} (hn : 4 * wd g = n) (h : hb g c + n ≤ 2048) :
    rd (hb g c) n h (V xa xb 0 c) = prod n (rdA (hb g c) n h (xa c)) (xb c) := by
  subst hn
  have := wd_le g
  exact rd_V0 xa xb c _ _ _ fun x hx => blk_half g c ⟨x, by omega⟩ hx
theorem rd_quarter (g : Fin 3) (q : Dev nD) {n : ℕ} (hn : 2 * wd g = n) (hs : side g 0 q ≠ side g 0 c) (h : qb g q + n ≤ 2048) :
    rd (qb g q) n h (V xa xb 0 c) = prod n (rdA (qb g q) n h (xa c)) (xb c) := by
  subst hn
  have := wd_le g
  exact rd_V0 xa xb c _ _ _ fun x hx => blk_quarter g c q ⟨x, by omega⟩ hx hs

/-- The piece a device owns is finished after the third sum. -/
theorem out_done (g : Fin 3) {n : ℕ} (hn : wd g = n) (s : PosShare TreeShare) :
    (Out c (pb g c) n s (V xa xb 3 c) : sProp 𝕄) = Out c (pb g c) n s (OUT xa xb) := by
  subst hn; unfold Out; exact pointsTo_congr (OUT_piece xa xb g c)

/-! ## The landing buffers -/

/-- The buffer in which the copy `k` of the first two stages lands. -/
def bufM : (k : Fin 36) → Memref sig .tc .vmem (Sh (rcap k)) .bf16
  | 0 => Memref.whole cc0_scratch1
  | 1 => Memref.whole cc0_scratch1
  | 2 => Memref.whole cc0_scratch4
  | 3 => Memref.whole cc0_scratch4
  | 4 => Memref.whole cc0_scratch7
  | 5 => Memref.whole cc0_scratch7
  | 6 => Memref.whole cc0_scratch2
  | 7 => Memref.whole cc0_scratch2
  | 8 => Memref.whole cc0_scratch5
  | 9 => Memref.whole cc0_scratch5
  | 10 => Memref.whole cc0_scratch8
  | 11 => Memref.whole cc0_scratch8
  | k => outS 0 (rcap k) (by revert k; decide)

theorem dstM_buf (k : Fin 36) (hk : k.val < 12) (q : Dev nD) : dstM k q
    = (bufM k).slice (Rect.unit (s := Sh (rcap k)) ![ro k q, 0] (Sh (nr k)).size (inbR (ro_le k q (by omega)))) (fun _ => rfl) := by
  revert hk
  fin_cases k <;> first | (intro _; rfl) | (intro h; exact absurd h (by decide))

/-- The landing region of the copy `k`, holding the rows of `f` around device `q`'s piece. -/
def Lnd (k : Fin 36) (q : Dev nD) (f : COut F) : sProp 𝕄 :=
  owns (Ix := Unit) (Name := ℕ) (U := UU) (Lvl := ℕ) (c : Thread nD τ) (dstM k q) fullShare (rd (bs k q) (nr k) (bs_le k q) f)

theorem lnd_rge (k : Fin 36) (q : Dev nD) (f : COut F) : (Lnd c k q f : sProp 𝕄) ⊢ RgE c k q := by
  unfold Lnd RgE; iintro H; iexists _; iexact H

/-! ## The steps -/

section Step
variable {α : Type}

/-- Loading a landing region of the first two stages. -/
theorem load_land {Q : α → sProp 𝕄} (k : Fin 36) (hk : k.val < 12) (q : Dev nD) {off : Fin 2 → ℕ} (ho : off = ![ro k q, 0]) {f : COut F} {inb} {hl}
    {kk : ((Sh (nr k)).Idx → Elt F .bf16) → Prog (TpuEff nD τ sig (Elt F) Λ₀ .tc) α} :
    Lnd c k q f ⊢ iprop((Lnd c k q f -∗ WP c (kk (rd (bs k q) (nr k) (bs_le k q) f)) Q)
      -∗ WP c (.op (.load (bufM k) (Rect.unit (s := Sh (rcap k)) off (Sh (nr k)).size inb).toLoadRect hl) kk) Q) := by
  unfold Lnd
  rw [dstM_buf k hk q]
  exact step_load_slice ho

/-- A reduction copy. -/
theorem send_rs {Q : α → sProp 𝕄} (k : Fin 36) (hk : k.val < 15) {j : ℕ} {p q : Dev nD} {a m t : ℕ}
    (hp : px (dm k) c = p) (hq : px (om k) c = q) (ha : bs k q = a) (hm : nr k = m) (ht : kt k = t)
    {n : Dev nD} (hn : n = p)
    {src : Memref sig .tc .vmem (Sh (nr k)) .bf16} (hsrc' : src = srcM k q)
    {dst : Memref sig (Dev.tc n : Thread nD τ).2.kind .vmem (Sh (nr k)) .bf16} (hdst' : dst = dstM k q)
    {s1 s2 : DmaSem sig} (hs1 : s1 = ssem k) (hs2 : s2 = rsem k)
    {hsc : dst.view.ref.isScScratch = false} {hsrc : src.view.WordExact} {hdst : dst.view.WordExact}
    {hsem : DmaTarget.Typed .vmem (.dma s2) (.remote (Dev.tc n : Thread nD τ) dst (.dma s1) hsc)}
    {kk : PUnit → Prog (TpuEff nD τ sig (Elt F) Λ₀ .tc) α} :
    iprop(Gh xa xb K c k.val j ∗ Out c a m fullShare (V xa xb t c) ∗ RgE p k q)
      ⊢ iprop((Gh xa xb K c (k.val + 1) j -∗ WP c (kk ⟨⟩) Q)
        -∗ WP c (.op (.enqueueDma src (.remote (Dev.tc n : Thread nD τ) dst (.dma s1) hsc) (.dma s2) hsrc hdst hsem) kk) Q) := by
  subst hq; subst ha; subst hm; subst ht; subst hn; subst hp
  exact step_send_rs xa xb K c k hk j _ rfl rfl hsrc' hdst' hs1 hs2

/-- A distribution copy. -/
theorem send_ag {Q : α → sProp 𝕄} (k : Fin 36) (hk : ¬ k.val < 15) {j : ℕ} {p q : Dev nD} {a m : ℕ} {s : PosShare TreeShare}
    (hp : px (dm k) c = p) (hq : px (om k) c = q) (ha : bs k q = a) (hm : nr k = m) (hs : shr k = s)
    {n : Dev nD} (hn : n = p)
    {src : Memref sig .tc .vmem (Sh (nr k)) .bf16} (hsrc' : src = srcM k q)
    {dst : Memref sig (Dev.tc n : Thread nD τ).2.kind .vmem (Sh (nr k)) .bf16} (hdst' : dst = srcM k q)
    {s1 s2 : DmaSem sig} (hs1 : s1 = ssem k) (hs2 : s2 = rsem k)
    {hsc : dst.view.ref.isScScratch = false} {hsrc : src.view.WordExact} {hdst : dst.view.WordExact}
    {hsem : DmaTarget.Typed .vmem (.dma s2) (.remote (Dev.tc n : Thread nD τ) dst (.dma s1) hsc)}
    {kk : PUnit → Prog (TpuEff nD τ sig (Elt F) Λ₀ .tc) α} :
    iprop(Gh xa xb K c k.val j ∗ Out c a m s (OUT xa xb) ∗ OutE p a m)
      ⊢ iprop((Gh xa xb K c (k.val + 1) j -∗ WP c (kk ⟨⟩) Q)
        -∗ WP c (.op (.enqueueDma src (.remote (Dev.tc n : Thread nD τ) dst (.dma s1) hsc) (.dma s2) hsrc hdst hsem) kk) Q) := by
  subst hq; subst ha; subst hm; subst hs; subst hn; subst hp
  exact step_send_ag xa xb K c k hk j _ rfl rfl hsrc' hdst' hs1 hs2

/-- The wait for the next arrival: copy `k`, after `j` others. -/
theorem wait_rcv {Q : α → sProp 𝕄} (k : Fin 36) (i j : ℕ) (hj : (wpos k).val = j) (hlev : ∀ k' : Fin 36, i ≤ k'.val → (wpos k).val < (wpos k').val)
    {s s' : Shape} {e e' : EltTy} {src : Memref sig .tc .vmem s e} {dst : Memref sig .tc .vmem s' e'} {sm : DmaSem sig} {h1} {h2}
    {kk : PUnit → Prog (TpuEff nD τ sig (Elt F) Λ₀ .tc) α} (hsm : sm = rsem k) (hN : dst.view.dmaCredit = N k) :
    Gh xa xb K c i j ⊢ iprop(((Gh xa xb K c i (j + 1) ∗ rcvPay xa xb c k) -∗ WP c (kk ⟨⟩) Q)
      -∗ WP c (.op (.waitDma2 sm src dst h1 h2) kk) Q) := by
  subst hj
  exact step_wait xa xb K c i (wpos k) k (wk_wpos k) hlev hsm hN

/-- A closing wait: for copy `k`, after `j` others. -/
theorem wait_snd {Q : α → sProp 𝕄} (k : Fin 36) (j : ℕ) (hj : (sop k).val = j)
    {s s' : Shape} {e e' : EltTy} {src : Memref sig .tc .vmem s e} {dst : Memref sig .tc .vmem s' e'} {sm : DmaSem sig} {h1} {h2}
    {kk : PUnit → Prog (TpuEff nD τ sig (Elt F) Λ₀ .tc) α} (hsm : sm = ssem k) (hN : dst.view.dmaCredit = N k) :
    Dr xa xb K c j ⊢ iprop(((Dr xa xb K c (j + 1) ∗ sndPay xa xb c k) -∗ WP c (kk ⟨⟩) Q)
      -∗ WP c (.op (.waitDma2 sm src dst h1 h2) kk) Q) := by
  subst hj
  exact step_drain xa xb K c (sop k) k (so_sop k) hsm hN

/-- What the arrival of the reduction copy `k` hands over. -/
theorem rcv_rs (k : Fin 36) (hk : k.val < 15) {p q : Dev nD} {a m t : ℕ}
    (hp : px (dm k) c = p) (hq : px (rm k) c = q) (ha : bs k q = a) (hm : nr k = m) (ht : kt k = t) :
    (rcvPay xa xb c k : sProp 𝕄) = iprop(Lnd c k q (V xa xb t p) ∗ OutE p a m) := by
  subst hp; subst hq; subst ha; subst hm; subst ht
  unfold rcvPay; rw [if_pos hk]; rfl
/-- What the arrival of the distribution copy `k` hands over. -/
theorem rcv_ag (k : Fin 36) (hk : ¬ k.val < 15) {q : Dev nD} {a m : ℕ}
    (hq : px (rm k) c = q) (ha : bs k q = a) (hm : nr k = m) :
    (rcvPay xa xb c k : sProp 𝕄) = Out c a m fullShare (OUT xa xb) := by
  subst hq; subst ha; subst hm
  unfold rcvPay; rw [if_neg hk]
/-- What the reading of the distribution copy `k` gives back. -/
theorem snd_ag (k : Fin 36) (hk : ¬ k.val < 15) {q : Dev nD} {a m : ℕ} {s : PosShare TreeShare}
    (hq : px (om k) c = q) (ha : bs k q = a) (hm : nr k = m) (hs : shr k = s) :
    (sndPay xa xb c k : sProp 𝕄) = Out c a m s (OUT xa xb) := by
  subst hq; subst ha; subst hm; subst hs
  unfold sndPay; rw [if_neg hk]

end Step

/-- Two slices of one memref at the same place are the same. -/
theorem slice_at {R n w : ℕ} {M : Memref sig .tc .vmem ⟨2, ![R, w]⟩ .bf16} {o o' : Fin 2 → ℕ} (ho : o = o') {inb inb' hr} :
    M.slice (Rect.unit (s := ⟨2, ![R, w]⟩) o (⟨2, ![n, w]⟩ : Shape).size inb) hr
      = M.slice (Rect.unit (s := ⟨2, ![R, w]⟩) o' (⟨2, ![n, w]⟩ : Shape).size inb') (fun _ => rfl) := by
  subst ho; rfl

/-- A program text applied to the launch's memrefs and semaphores. -/
abbrev onArgs {β : Type 1} (f : (arg0 : Memref sig .tc .vmem S2048x1024 .bf16) → arg0.IsWhole → (arg1 : Memref sig .tc .vmem S1024x2048 .bf16) → arg1.IsWhole → (arg2 : Memref sig .tc .vmem S2048x2048 .bf16) → arg2.IsWhole → (arg3 : Memref sig .tc .vmem S1024x2048 .bf16) → arg3.IsWhole → (arg4 : Memref sig .tc .vmem S384x2048 .bf16) → arg4.IsWhole → (arg5 : Memref sig .tc .vmem S192x2048 .bf16) → arg5.IsWhole → (arg6 : Memref sig .tc .vmem S96x2048 .bf16) → arg6.IsWhole → (arg7 : Memref sig .tc .vmem S320x2048 .bf16) → arg7.IsWhole → (arg8 : Memref sig .tc .vmem S160x2048 .bf16) → arg8.IsWhole → (arg9 : Memref sig .tc .vmem S80x2048 .bf16) → arg9.IsWhole → (arg10 : Memref sig .tc .vmem S320x2048 .bf16) → arg10.IsWhole → (arg11 : Memref sig .tc .vmem S160x2048 .bf16) → arg11.IsWhole → (arg12 : Memref sig .tc .vmem S80x2048 .bf16) → arg12.IsWhole → DmaSems sig S15 → DmaSems sig S15 → DmaSems sig S21 → DmaSems sig S21 → β) : β :=
  f (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13

/-- A program that has ended. -/
theorem wp_done {α : Type} {a : α} {Q : α → sProp 𝕄} : Q a ⊢ WP c (Prog.ret a) Q := by
  show Q a ⊢ wp frame (wpE (defs₀ (F := F)) 𝒱₀ (c : Thread nD τ) none) Set.univ (Prog.ret a) Q
  rw [wp_ret]
  iintro H
  imodintro
  iexact H

/-- One part of the program after another. -/
theorem wp_seq {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q :=
  Entails.of_eq (wp_bind _ _ _ p k Q).symm

/-! ## Bounds -/

theorem h0 (q : Dev nD) : hb 0 q + 384 ≤ 2048 := by revert q; decide +kernel
theorem h1 (q : Dev nD) : hb 1 q + 320 ≤ 2048 := by revert q; decide +kernel
theorem h2 (q : Dev nD) : hb 2 q + 320 ≤ 2048 := by revert q; decide +kernel
theorem q0 (q : Dev nD) : qb 0 q + 192 ≤ 2048 := by revert q; decide +kernel
theorem q1 (q : Dev nD) : qb 1 q + 160 ≤ 2048 := by revert q; decide +kernel
theorem q2 (q : Dev nD) : qb 2 q + 160 ≤ 2048 := by revert q; decide +kernel
theorem p0 (q : Dev nD) : pb 0 q + 96 ≤ 2048 := by revert q; decide +kernel
theorem p1 (q : Dev nD) : pb 1 q + 80 ≤ 2048 := by revert q; decide +kernel
theorem p2 (q : Dev nD) : pb 2 q + 80 ≤ 2048 := by revert q; decide +kernel

end Cert.CubeProof
end
-- ==== Proof.Compose.lean ====
/-
# The recurring passages of the program

Three passages return for every group and stage: a product put into its rows, an arrival added to its rows, and a
closing wait.  Each is one lemma here.
-/
module

public import proofs.«01_k».proof.Proof.Rows

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → CA F) (xb : Dev nD → CB F) (K : Dev nD × CI → ℕ) (c : Dev nD)

/-- A cast to the same shape changes nothing of a sum. -/
theorem cast_add {s : Shape} (A B : FVec F s .bf16) (h) : addf (F := F) (φ := .bf16) (shapeCast s A h) B = addf A B := by
  rw [shapeCast_self]

section Passages
variable {α : Type}

/-- A block of the left operand is multiplied with the right operand and stored into the output rows of the same
numbers: those rows then hold the device's own product. -/
theorem mul_step {Q : α → sProp 𝕄} {a n : ℕ} (h : a + n ≤ 2048) {o o' o'' : Fin 2 → ℕ} (ho : o = ![a, 0]) (ho' : o' = ![a, 0]) (ho'' : o'' = ![a, 0])
    {f : COut F} {pay : ((ShA n).Idx → Elt F .bf16) → CB F → ((Sh n).Idx → Elt F .bf16)}
    (hV : rd a n h (V xa xb 0 c) = prod n (rdA a n h (xa c)) (xb c)) (hpay : ∀ A B, pay A B = prod n A B)
    {i1 i2 i3 i4 l1 l2 l3 x m} {k : PUnit → Prog (TpuEff nD τ sig (Elt F) Λ₀ .tc) α} :
    iprop(Ap c (xa c) ∗ Sp c (xb c) ∗ Out c a n fullShare f)
      ⊢ iprop(((Ap c (xa c) ∗ Sp c (xb c) ∗ Out c a n fullShare (V xa xb 0 c)) -∗ WP c (k ⟨⟩) Q)
        -∗ WP c (.op (.load aM (Rect.unit (s := S2048x1024) o (ShA n).size i1).toLoadRect l1) fun A =>
            .op (.load sM (Rect.unit (s := S1024x2048) ![0, 0] S1024x2048.size i2).toLoadRect l2) fun B =>
            .op (.load oM (Rect.unit (s := S2048x2048) o' (Sh n).size i3).toLoadRect l3) fun _ =>
            .op (.store oM (Rect.unit (s := S2048x2048) o'' (Sh n).size i4) (pay A B) Finset.univ x m) k) Q) := by
  iintro ⟨HA, HS, HO⟩ HK
  iapply (step_load_a h ho) $$ HA
  iintro HA
  iapply step_load_s $$ HS
  iintro HS
  iapply (step_load_out h ho') $$ HO
  iintro HO
  iapply (step_store_out h ho'' (V xa xb 0 c) (hV.trans (hpay _ _).symm)) $$ HO
  iintro HO
  iapply HK
  isplitl [HA]; · iexact HA
  isplitl [HS]; · iexact HS
  iexact HO

/-- An arrived block is added to the rows it belongs to: those rows then hold the next stage's sum, and the landing
region can be given away. -/
theorem add_land {Q : α → sProp 𝕄} (k : Fin 36) (hk : k.val < 12) {q p : Dev nD} {a n t : ℕ}
    (hp : px (dm k) c = p) (ha : bs k q = a) (hn : nr k = n) (ht : kt k = t)
    {o o' o'' r : Fin 2 → ℕ} (ho : o = ![a, 0]) (hr : r = ![ro k q, 0]) (ho' : o' = ![a, 0]) (ho'' : o'' = ![a, 0])
    {pay : ((Sh (nr k)).Idx → Elt F .bf16) → ((Sh (nr k)).Idx → Elt F .bf16) → ((Sh (nr k)).Idx → Elt F .bf16)}
    (hpay : ∀ A B, pay A B = addf (F := F) (s := Sh (nr k)) (φ := .bf16) A B)
    {i1 i2 i3 i4 l1 l2 l3 x m} {kk : PUnit → Prog (TpuEff nD τ sig (Elt F) Λ₀ .tc) α} :
    iprop(Out c a n fullShare (V xa xb t c) ∗ Lnd c k q (V xa xb t p))
      ⊢ iprop(((Out c a n fullShare (V xa xb (t + 1) c) ∗ RgE c k q) -∗ WP c (kk ⟨⟩) Q)
        -∗ WP c (.op (.load oM (Rect.unit (s := S2048x2048) o (Sh (nr k)).size i1).toLoadRect l1) fun A =>
            .op (.load (bufM k) (Rect.unit (s := Sh (rcap k)) r (Sh (nr k)).size i2).toLoadRect l2) fun B =>
            .op (.load oM (Rect.unit (s := S2048x2048) o' (Sh (nr k)).size i3).toLoadRect l3) fun _ =>
            .op (.store oM (Rect.unit (s := S2048x2048) o'' (Sh (nr k)).size i4) (pay A B) Finset.univ x m) kk) Q) := by
  subst ha; subst hn; subst ht; subst hp
  iintro ⟨HO, HL⟩ HK
  iapply (step_load_out (bs_le k q) ho) $$ HO
  iintro HO
  iapply (load_land c k hk q hr) $$ HL
  iintro HL
  iapply (step_load_out (bs_le k q) ho') $$ HO
  iintro HO
  iapply (step_store_out (bs_le k q) ho'' (V xa xb (kt k + 1) c) ((rd_add xa xb c k (by omega) q).trans (hpay _ _).symm)) $$ HO
  iintro HO
  iapply HK
  isplitl [HO]; · iexact HO
  iapply (lnd_rge c k q _) $$ HL

/-- The wait for a reduction copy of the first two stages, and the addition of what has arrived. -/
theorem reduce {Q : α → sProp 𝕄} (k : Fin 36) (hk : k.val < 12) (i j : ℕ) {q p : Dev nD} {a n t : ℕ}
    (hj : (wpos k).val = j) (hlev : ∀ k' : Fin 36, i ≤ k'.val → (wpos k).val < (wpos k').val)
    (hp : px (dm k) c = p) (hq : px (rm k) c = q) (ha : bs k q = a) (hn : nr k = n) (ht : kt k = t)
    {s s' : Shape} {e e' : EltTy} {src : Memref sig .tc .vmem s e} {dst : Memref sig .tc .vmem s' e'} {sm : DmaSem sig} {w1} {w2}
    (hsm : sm = rsem k) (hN : dst.view.dmaCredit = N k)
    {o o' o'' r : Fin 2 → ℕ} (ho : o = ![a, 0]) (hr : r = ![ro k q, 0]) (ho' : o' = ![a, 0]) (ho'' : o'' = ![a, 0])
    {pay : ((Sh (nr k)).Idx → Elt F .bf16) → ((Sh (nr k)).Idx → Elt F .bf16) → ((Sh (nr k)).Idx → Elt F .bf16)}
    (hpay : ∀ A B, pay A B = addf (F := F) (s := Sh (nr k)) (φ := .bf16) A B)
    {i1 i2 i3 i4 l1 l2 l3 x m} {kk : PUnit → Prog (TpuEff nD τ sig (Elt F) Λ₀ .tc) α} :
    iprop(Gh xa xb K c i j ∗ Out c a n fullShare (V xa xb t c))
      ⊢ iprop(((Gh xa xb K c i (j + 1) ∗ Out c a n fullShare (V xa xb (t + 1) c) ∗ RgE c k q ∗ OutE p a n) -∗ WP c (kk ⟨⟩) Q)
        -∗ WP c (.op (.waitDma2 sm src dst w1 w2) fun _ =>
            .op (.load oM (Rect.unit (s := S2048x2048) o (Sh (nr k)).size i1).toLoadRect l1) fun A =>
            .op (.load (bufM k) (Rect.unit (s := Sh (rcap k)) r (Sh (nr k)).size i2).toLoadRect l2) fun B =>
            .op (.load oM (Rect.unit (s := S2048x2048) o' (Sh (nr k)).size i3).toLoadRect l3) fun _ =>
            .op (.store oM (Rect.unit (s := S2048x2048) o'' (Sh (nr k)).size i4) (pay A B) Finset.univ x m) kk) Q) := by
  iintro ⟨HG, HO⟩ HK
  iapply (wait_rcv xa xb K c k i j hj hlev hsm hN) $$ HG
  rw [rcv_rs xa xb c k (by omega) hp hq ha hn ht]
  iintro ⟨HG, HL, HE⟩
  iapply (add_land xa xb c k hk hp ha hn ht ho hr ho' ho'' hpay) $$ [HO HL]
  · isplitl [HO]; · iexact HO
    iexact HL
  iintro ⟨HO, HL⟩
  iapply HK
  isplitl [HG]; · iexact HG
  isplitl [HO]; · iexact HO
  isplitl [HL]; · iexact HL
  iexact HE

/-- The addition of the third stage, whose landing region is a whole buffer. -/
theorem add_last {Q : α → sProp 𝕄} (k : Fin 36) (hk : k.val < 15) {q p : Dev nD} {a : ℕ}
    (hp : px (dm k) c = p) (ha : bs k q = a) (ht : kt k = 2)
    {o o' o'' : Fin 2 → ℕ} (ho : o = ![a, 0]) (ho' : o' = ![a, 0]) (ho'' : o'' = ![a, 0])
    {i2} (hM : ∀ f, (dstM k q).view.readAt (Elt F) (Rect.unit (s := Sh (nr k)) ![0, 0] (Sh (nr k)).size i2).toLoadRect f = (dstM k q).view.read (Elt F) f)
    {pay : ((Sh (nr k)).Idx → Elt F .bf16) → ((Sh (nr k)).Idx → Elt F .bf16) → ((Sh (nr k)).Idx → Elt F .bf16)}
    (hpay : ∀ A B, pay A B = addf (F := F) (s := Sh (nr k)) (φ := .bf16) A B)
    {i1 i3 i4 l1 l2 l3 x m} {kk : PUnit → Prog (TpuEff nD τ sig (Elt F) Λ₀ .tc) α} :
    iprop(Out c a (nr k) fullShare (V xa xb 2 c) ∗ Lnd c k q (V xa xb 2 p))
      ⊢ iprop(((Out c a (nr k) fullShare (V xa xb 3 c) ∗ RgE c k q) -∗ WP c (kk ⟨⟩) Q)
        -∗ WP c (.op (.load oM (Rect.unit (s := S2048x2048) o (Sh (nr k)).size i1).toLoadRect l1) fun A =>
            .op (.load (dstM k q) (Rect.unit (s := Sh (nr k)) ![0, 0] (Sh (nr k)).size i2).toLoadRect l2) fun B =>
            .op (.load oM (Rect.unit (s := S2048x2048) o' (Sh (nr k)).size i3).toLoadRect l3) fun _ =>
            .op (.store oM (Rect.unit (s := S2048x2048) o'' (Sh (nr k)).size i4) (pay A B) Finset.univ x m) kk) Q) := by
  subst ha; subst hp
  iintro ⟨HO, HL⟩ HK
  iapply (step_load_out (bs_le k q) ho) $$ HO
  iintro HO
  unfold Lnd
  iapply (step_load_whole hM) $$ HL
  iintro HL
  iapply (step_load_out (bs_le k q) ho') $$ HO
  iintro HO
  iapply (step_store_out (bs_le k q) ho'' (V xa xb 3 c) (by
    have e := rd_add xa xb c k hk q
    rw [ht] at e
    exact e.trans (hpay _ _).symm)) $$ HO
  iintro HO
  iapply HK
  isplitl [HO]; · iexact HO
  unfold RgE
  iexists _
  iexact HL

end Passages

/-! ## The closing waits -/

section Closing
variable {α : Type}

/-- The semaphores during the closing waits, with what the waits so far have given back. -/
def DrP (s : ℕ) : sProp 𝕄 := iprop(Dr xa xb K c s ∗ bigSep (lt s) fun p => sndPay xa xb c (so p))

/-- A closing wait. -/
theorem drain {Q : α → sProp 𝕄} (k : Fin 36) (j : ℕ) (hj : (sop k).val = j)
    {s s' : Shape} {e e' : EltTy} {src : Memref sig .tc .vmem s e} {dst : Memref sig .tc .vmem s' e'} {sm : DmaSem sig} {h1} {h2}
    {kk : PUnit → Prog (TpuEff nD τ sig (Elt F) Λ₀ .tc) α} (hsm : sm = ssem k) (hN : dst.view.dmaCredit = N k) :
    DrP xa xb K c j ⊢ iprop((DrP xa xb K c (j + 1) -∗ WP c (kk ⟨⟩) Q) -∗ WP c (.op (.waitDma2 sm src dst h1 h2) kk) Q) := by
  unfold DrP
  iintro ⟨HD, HP⟩ HK
  iapply (wait_snd xa xb K c k j hj hsm hN) $$ HD
  iintro ⟨HD, HN⟩
  iapply HK
  isplitl [HD]; · iexact HD
  subst hj
  rw [lt_push, bigSep_ins (notMem_lt _), so_sop]
  isplitl [HN]; · iexact HN
  iexact HP

/-- The semaphores during the last waits for arrivals, with what those waits have brought so far. -/
def GhP (j : ℕ) : sProp 𝕄 := iprop(Gh xa xb K c 36 j ∗ bigSep ((lt j).filter fun p => 24 ≤ p.val) fun p => rcvPay xa xb c (wk p))

/-- A wait for an arrival that is only kept. -/
theorem keep {Q : α → sProp 𝕄} (k : Fin 36) (j : ℕ) (hj : (wpos k).val = j) (h24 : 24 ≤ j)
    {s s' : Shape} {e e' : EltTy} {src : Memref sig .tc .vmem s e} {dst : Memref sig .tc .vmem s' e'} {sm : DmaSem sig} {h1} {h2}
    {kk : PUnit → Prog (TpuEff nD τ sig (Elt F) Λ₀ .tc) α} (hsm : sm = rsem k) (hN : dst.view.dmaCredit = N k) :
    GhP xa xb K c j ⊢ iprop((GhP xa xb K c (j + 1) -∗ WP c (kk ⟨⟩) Q) -∗ WP c (.op (.waitDma2 sm src dst h1 h2) kk) Q) := by
  unfold GhP
  iintro ⟨HD, HP⟩ HK
  iapply (wait_rcv xa xb K c k 36 j hj (fun k' h => absurd k'.isLt (by omega)) hsm hN) $$ HD
  iintro ⟨HD, HN⟩
  iapply HK
  isplitl [HD]; · iexact HD
  subst hj
  rw [show (lt ((wpos k).val + 1)).filter (fun p => 24 ≤ p.val) = insert (wpos k) ((lt (wpos k).val).filter fun p => 24 ≤ p.val) from by
    rw [lt_push, Finset.filter_insert, if_pos h24],
    bigSep_ins (fun h => notMem_lt (wpos k) (Finset.mem_filter.1 h).1), wk_wpos]
  isplitl [HN]; · iexact HN
  iexact HP

end Closing

end Cert.CubeProof
end
-- ==== Proof.BodyA.lean ====
/-
# The body, part by part: the products and the first exchange
-/
module

public import proofs.«01_k».proof.Proof.Compose

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → CA F) (xb : Dev nD → CB F) (K : Dev nD × CI → ℕ) (c : Dev nD)

/-- Part 2: the first product of group 0 is stored and sent, and the second computed. -/
theorem part2 (v2 v8 v26 : BitVec 32) {Q : _ → sProp 𝕄} :
    iprop(Gh xa xb K c 0 0 ∗ Ap c (xa c) ∗ Sp c (xb c) ∗ OutE c (qb 0 (px 2 c)) 192 ∗ RgE (px 1 c) 0 (px 2 c))
      ⊢ iprop((∀ a b d e, (Gh xa xb K c 1 0 ∗ Ap c (xa c) ∗ Sp c (xb c)) -∗ Q ⟨a, b, d, e, prod 192 (rdA (qb 0 (px 1 c)) 192 (q0 _) (xa c)) (xb c)⟩)
        -∗ WP c (onArgs k0_part2 c v2 v8 v26) Q) := by
  rw [k0_part2_eq_skeleton]
  unfold k0_part2_skel
  simp only [onArgs, Prog.lift, Prog.bind_op, Prog.bind_ret, Prog.pure_eq_ret]
  unfold OutE
  iintro ⟨HG, HA, HS, ⟨%f, HO⟩, HR⟩ HK
  iapply (mul_step xa xb c (q0 (px 2 c)) (off1 c) (off2 c) (off2 c)
    (rd_quarter xa xb c 0 (px 2 c) (n := 192) rfl (by revert c; decide) _)
    (fun A B => by unfold k0_pay2; simp only [shapeCast_self]; rfl)) $$ [HA HS HO]
  · isplitl [HA]; · iexact HA
    isplitl [HS]; · iexact HS
    iexact HO
  iintro ⟨HA, HS, HO⟩
  iapply (send_rs xa xb K c 0 (by decide) (j := 0) (p := px 1 c) (q := px 2 c) rfl rfl rfl rfl rfl (dev4 c) (slice_at (off4 c)) (slice_at (off3 c)) rfl rfl) $$ [HG HO HR]
  · isplitl [HG]; · iexact HG
    isplitl [HO]; · iexact HO
    iexact HR
  iintro HG
  iapply (step_load_a (q0 (px 1 c)) (off5 c)) $$ HA
  iintro HA
  iapply step_load_s $$ HS
  iintro HS
  have e : k0_pay3 (rdA (qb 0 (px 1 c)) 192 (q0 _) (xa c)) (xb c) = prod 192 (rdA (qb 0 (px 1 c)) 192 (q0 _) (xa c)) (xb c) := by
    unfold k0_pay3; simp only [shapeCast_self]; rfl
  rw [e]
  iapply wp_done
  iapply HK
  isplitl [HG]; · iexact HG
  isplitl [HA]; · iexact HA
  iexact HS

/-- Part 3: the second product of group 0 is stored and sent, the half a device keeps is computed, and the first
operand rows of group 1 are read. -/
theorem part3 (v2 v5 v27 v29 v30 v34 : BitVec 32) {Q : _ → sProp 𝕄} :
    iprop(Gh xa xb K c 1 0 ∗ Ap c (xa c) ∗ Sp c (xb c) ∗ OutE c (qb 0 (px 1 c)) 192 ∗ OutE c (hb 0 c) 384 ∗ RgE (px 1 c) 1 (px 1 c))
      ⊢ iprop((∀ a b d e f g, (Gh xa xb K c 2 0 ∗ Ap c (xa c) ∗ Sp c (xb c) ∗ Out c (hb 0 c) 384 fullShare (V xa xb 0 c))
          -∗ Q ⟨a, b, d, e, f, g, rdA (qb 1 (px 7 c)) 160 (q1 _) (xa c)⟩)
        -∗ WP c (onArgs k0_part3 c v2 v5 v27 v29 v30 v34 (prod 192 (rdA (qb 0 (px 1 c)) 192 (q0 _) (xa c)) (xb c))) Q) := by
  rw [k0_part3_eq_skeleton]
  unfold k0_part3_skel
  simp only [onArgs, Prog.lift, Prog.bind_op, Prog.bind_ret, Prog.pure_eq_ret]
  unfold OutE
  iintro ⟨HG, HA, HS, ⟨%f, HO⟩, ⟨%f', HH⟩, HR⟩ HK
  iapply (step_load_out (q0 (px 1 c)) (off6 c)) $$ HO
  iintro HO
  iapply (step_store_out (q0 (px 1 c)) (off6 c) (V xa xb 0 c)
    (rd_quarter xa xb c 0 (px 1 c) (n := 192) rfl (by revert c; decide) (q0 _))) $$ HO
  iintro HO
  iapply (send_rs xa xb K c 1 (by decide) (j := 0) (p := px 1 c) (q := px 1 c) rfl rfl rfl rfl rfl (dev5 c) (slice_at (off8 c)) (slice_at (off7 c)) rfl rfl) $$ [HG HO HR]
  · isplitl [HG]; · iexact HG
    isplitl [HO]; · iexact HO
    iexact HR
  iintro HG
  iapply (mul_step xa xb c (h0 c) (off9 c) (off10 c) (off10 c)
    (rd_half xa xb c 0 (n := 384) rfl _)
    (fun A B => by unfold k0_pay4; simp only [shapeCast_self]; rfl)) $$ [HA HS HH]
  · isplitl [HA]; · iexact HA
    isplitl [HS]; · iexact HS
    iexact HH
  iintro ⟨HA, HS, HH⟩
  iapply (step_load_a (q1 (px 7 c)) (off11 c)) $$ HA
  iintro HA
  have e : k0_pay5 (rdA (qb 1 (px 7 c)) 160 (q1 _) (xa c)) = rdA (qb 1 (px 7 c)) 160 (q1 _) (xa c) := by
    unfold k0_pay5; simp only [shapeCast_self]
  rw [e]
  iapply wp_done
  iapply HK
  isplitl [HG]; · iexact HG
  isplitl [HA]; · iexact HA
  isplitl [HS]; · iexact HS
  iexact HH

/-- Part 4: the two products of group 1 that leave are computed and sent, and the operand rows of the half that
stays are read. -/
theorem part4 (v81 v83 v84 v88 v89 v90 : BitVec 32) {Q : _ → sProp 𝕄} :
    iprop(Gh xa xb K c 2 0 ∗ Ap c (xa c) ∗ Sp c (xb c) ∗ OutE c (qb 1 (px 7 c)) 160 ∗ OutE c (qb 1 (px 3 c)) 160
        ∗ RgE (px 3 c) 2 (px 7 c) ∗ RgE (px 3 c) 3 (px 3 c))
      ⊢ iprop(((Gh xa xb K c 4 0 ∗ Ap c (xa c) ∗ Sp c (xb c)) -∗ Q (rdA (hb 1 c) 320 (h1 _) (xa c)))
        -∗ WP c (onArgs k0_part4 c v81 v83 v84 v88 v89 v90 (rdA (qb 1 (px 7 c)) 160 (q1 _) (xa c))) Q) := by
  rw [k0_part4_eq_skeleton]
  unfold k0_part4_skel
  simp only [onArgs, Prog.lift, Prog.bind_op, Prog.bind_ret, Prog.pure_eq_ret]
  unfold OutE
  iintro ⟨HG, HA, HS, ⟨%f, HO⟩, ⟨%f', HH⟩, HR, HT⟩ HK
  iapply step_load_s $$ HS
  iintro HS
  iapply (step_load_out (q1 (px 7 c)) (off12 c)) $$ HO
  iintro HO
  iapply (step_store_out (q1 (px 7 c)) (off12 c) (V xa xb 0 c)
    (rd_quarter xa xb c 1 (px 7 c) (n := 160) rfl (by revert c; decide) (q1 _))) $$ HO
  iintro HO
  iapply (send_rs xa xb K c 2 (by decide) (j := 0) (p := px 3 c) (q := px 7 c) rfl rfl rfl rfl rfl (dev6 c) (slice_at (off14 c)) (slice_at (off13 c)) rfl rfl) $$ [HG HO HR]
  · isplitl [HG]; · iexact HG
    isplitl [HO]; · iexact HO
    iexact HR
  iintro HG
  iapply (mul_step xa xb c (q1 (px 3 c)) (off15 c) (off16 c) (off16 c)
    (rd_quarter xa xb c 1 (px 3 c) (n := 160) rfl (by revert c; decide) _)
    (fun A B => by unfold k0_pay7; simp only [shapeCast_self]; rfl)) $$ [HA HS HH]
  · isplitl [HA]; · iexact HA
    isplitl [HS]; · iexact HS
    iexact HH
  iintro ⟨HA, HS, HH⟩
  iapply (send_rs xa xb K c 3 (by decide) (j := 0) (p := px 3 c) (q := px 3 c) rfl rfl rfl rfl rfl (dev7 c) (slice_at (off18 c)) (slice_at (off17 c)) rfl rfl) $$ [HG HH HT]
  · isplitl [HG]; · iexact HG
    isplitl [HH]; · iexact HH
    iexact HT
  iintro HG
  iapply (step_load_a (h1 c) (off19_768 c)) $$ HA
  iintro HA
  have e : k0_pay8 (rdA (hb 1 c) 320 (h1 _) (xa c)) = rdA (hb 1 c) 320 (h1 _) (xa c) := by
    unfold k0_pay8; simp only [shapeCast_self]
  rw [e]
  iapply wp_done
  iapply HK
  isplitl [HG]; · iexact HG
  isplitl [HA]; · iexact HA
  iexact HS

/-- Part 5: the half of group 1 that stays is computed, and the first product of group 2. -/
theorem part5 (v2 v7 v83 : BitVec 32) {Q : _ → sProp 𝕄} :
    iprop(Ap c (xa c) ∗ Sp c (xb c) ∗ OutE c (hb 1 c) 320 ∗ OutE c (qb 2 (px 5 c)) 160)
      ⊢ iprop((∀ x, (Ap c (xa c) ∗ Sp c (xb c) ∗ Out c (hb 1 c) 320 fullShare (V xa xb 0 c) ∗ Out c (qb 2 (px 5 c)) 160 fullShare (V xa xb 0 c)) -∗ Q x)
        -∗ WP c (onArgs k0_part5 c v2 v7 v83 (rdA (hb 1 c) 320 (h1 _) (xa c))) Q) := by
  rw [k0_part5_eq_skeleton]
  unfold k0_part5_skel
  simp only [onArgs, Prog.lift, Prog.bind_op, Prog.bind_ret, Prog.pure_eq_ret]
  unfold OutE
  iintro ⟨HA, HS, ⟨%f, HO⟩, ⟨%f', HH⟩⟩ HK
  iapply step_load_s $$ HS
  iintro HS
  iapply (step_load_out (h1 c) (off20_768 c)) $$ HO
  iintro HO
  iapply (step_store_out (h1 c) (off20_768 c) (V xa xb 0 c) (rd_half xa xb c 1 (n := 320) rfl (h1 _))) $$ HO
  iintro HO
  iapply (mul_step xa xb c (q2 (px 5 c)) (off21 c) (off22 c) (off22 c)
    (rd_quarter xa xb c 2 (px 5 c) (n := 160) rfl (by revert c; decide) _)
    (fun A B => by unfold k0_pay10; simp only [shapeCast_self]; rfl)) $$ [HA HS HH]
  · isplitl [HA]; · iexact HA
    isplitl [HS]; · iexact HS
    iexact HH
  iintro ⟨HA, HS, HH⟩
  iapply wp_done
  iapply HK
  isplitl [HA]; · iexact HA
  isplitl [HS]; · iexact HS
  isplitl [HO]; · iexact HO
  iexact HH

/-- Part 6: the first product of group 2 is sent, the second computed and sent, and the half that stays computed. -/
theorem part6 (v3 v136 v138 v139 v146 : BitVec 32) {Q : _ → sProp 𝕄} :
    iprop(Gh xa xb K c 4 0 ∗ Ap c (xa c) ∗ Sp c (xb c) ∗ Out c (qb 2 (px 5 c)) 160 fullShare (V xa xb 0 c) ∗ OutE c (qb 2 (px 4 c)) 160
        ∗ OutE c (hb 2 c) 320 ∗ RgE (px 4 c) 4 (px 5 c) ∗ RgE (px 4 c) 5 (px 4 c))
      ⊢ iprop((∀ x, (Gh xa xb K c 6 0 ∗ Ap c (xa c) ∗ Sp c (xb c) ∗ Out c (hb 2 c) 320 fullShare (V xa xb 0 c)) -∗ Q x)
        -∗ WP c (onArgs k0_part6 c v3 v136 v138 v139 v146) Q) := by
  rw [k0_part6_eq_skeleton]
  unfold k0_part6_skel
  simp only [onArgs, Prog.lift, Prog.bind_op, Prog.bind_ret, Prog.pure_eq_ret]
  unfold OutE
  iintro ⟨HG, HA, HS, HO, ⟨%f, HP⟩, ⟨%f', HH⟩, HR, HT⟩ HK
  iapply (send_rs xa xb K c 4 (by decide) (j := 0) (p := px 4 c) (q := px 5 c) rfl rfl rfl rfl rfl (dev8 c) (slice_at (off24 c)) (slice_at (off23 c)) rfl rfl) $$ [HG HO HR]
  · isplitl [HG]; · iexact HG
    isplitl [HO]; · iexact HO
    iexact HR
  iintro HG
  iapply (mul_step xa xb c (q2 (px 4 c)) (off25 c) (off26 c) (off26 c)
    (rd_quarter xa xb c 2 (px 4 c) (n := 160) rfl (by revert c; decide) _)
    (fun A B => by unfold k0_pay11; simp only [shapeCast_self]; rfl)) $$ [HA HS HP]
  · isplitl [HA]; · iexact HA
    isplitl [HS]; · iexact HS
    iexact HP
  iintro ⟨HA, HS, HP⟩
  iapply (send_rs xa xb K c 5 (by decide) (j := 0) (p := px 4 c) (q := px 4 c) rfl rfl rfl rfl rfl (dev9 c) (slice_at (off28 c)) (slice_at (off27 c)) rfl rfl) $$ [HG HP HT]
  · isplitl [HG]; · iexact HG
    isplitl [HP]; · iexact HP
    iexact HT
  iintro HG
  iapply (mul_step xa xb c (h2 c) (off19_1408 c) (off20_1408 c) (off20_1408 c)
    (rd_half xa xb c 2 (n := 320) rfl _)
    (fun A B => by unfold k0_pay12; simp only [shapeCast_self]; rfl)) $$ [HA HS HH]
  · isplitl [HA]; · iexact HA
    isplitl [HS]; · iexact HS
    iexact HH
  iintro ⟨HA, HS, HH⟩
  iapply wp_done
  iapply HK
  isplitl [HG]; · iexact HG
  isplitl [HA]; · iexact HA
  isplitl [HS]; · iexact HS
  iexact HH

/-- Part 7: the first arrival of group 0 is added, and half of the sum is sent on. -/
theorem part7 (v2 v3 v29 v30 v192 c1 : BitVec 32) {Q : _ → sProp 𝕄} :
    iprop(Gh xa xb K c 6 0 ∗ Out c (qb 0 (px 3 c)) 192 fullShare (V xa xb 0 c) ∗ RgE (px 3 c) 6 (px 7 c))
      ⊢ iprop((∀ x, (Gh xa xb K c 7 1 ∗ RgE c 0 (px 3 c) ∗ OutE (px 1 c) (qb 0 (px 3 c)) 192
            ∗ Out c (pb 0 (px 3 c)) 96 fullShare (V xa xb 1 c)) -∗ Q x)
        -∗ WP c (onArgs k0_part7 c v2 v3 v29 v30 v192 c1) Q) := by
  rw [k0_part7_eq_skeleton]
  unfold k0_part7_skel
  simp only [onArgs, Prog.lift, Prog.bind_op, Prog.bind_ret, Prog.pure_eq_ret]
  iintro ⟨HG, HO, HR⟩ HK
  iapply (reduce xa xb K c 0 (by decide) 6 0 (q := px 3 c) (p := px 1 c) (a := qb 0 (px 3 c)) (n := 192) (t := 0) rfl (by decide) rfl rfl rfl rfl rfl rfl (by rfl)
    (off29 c) (off30 c) (off29 c) (off29 c) (fun A B => cast_add (s := S192x2048) A B _)) $$ [HG HO]
  · isplitl [HG]; · iexact HG
    iexact HO
  iintro ⟨HG, HO, HL, HE⟩
  ihave HO := (cut_quarter 0 (px 3 c) (q' := px 7 c) (n := 96) (by revert c; decide) rfl rfl).1 $$ HO
  icases HO with ⟨HO7, HO3⟩
  iapply (send_rs xa xb K c 6 (by decide) (j := 1) (p := px 3 c) (q := px 7 c) rfl rfl rfl rfl rfl (dev10 c) (slice_at (off32 c)) (slice_at (off31 c)) rfl rfl) $$ [HG HO7 HR]
  · isplitl [HG]; · iexact HG
    isplitl [HO7]; · iexact HO7
    iexact HR
  iintro HG
  iapply wp_done
  iapply HK
  isplitl [HG]; · iexact HG
  isplitl [HL]; · iexact HL
  isplitl [HE]; · iexact HE
  iexact HO3

end Cert.CubeProof
end
-- ==== Proof.BodyB.lean ====
/-
# The body, part by part: the reduction
-/
module

public import proofs.«01_k».proof.Proof.BodyA

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → CA F) (xb : Dev nD → CB F) (K : Dev nD × CI → ℕ) (c : Dev nD)

/-- Part 8: the other half of the sum is sent on, and the second arrival of group 0 is added. -/
theorem part8 (v7 v29 v30 v84 v193 v214 v215 v220 : BitVec 32) {Q : _ → sProp 𝕄} :
    iprop(Gh xa xb K c 7 1 ∗ Out c (pb 0 (px 3 c)) 96 fullShare (V xa xb 1 c) ∗ RgE (px 3 c) 7 (px 3 c)
        ∗ Out c (qb 0 (px 0 c)) 192 fullShare (V xa xb 0 c))
      ⊢ iprop((∀ x, (Gh xa xb K c 8 2 ∗ Out c (qb 0 (px 0 c)) 192 fullShare (V xa xb 1 c) ∗ RgE c 1 (px 0 c)
            ∗ OutE (px 1 c) (qb 0 (px 0 c)) 192) -∗ Q x)
        -∗ WP c (onArgs k0_part8 c v7 v29 v30 v84 v193 v214 v215 v220) Q) := by
  rw [k0_part8_eq_skeleton]
  unfold k0_part8_skel
  simp only [onArgs, Prog.lift, Prog.bind_op, Prog.bind_ret, Prog.pure_eq_ret]
  iintro ⟨HG, HP, HR, HO⟩ HK
  iapply (send_rs xa xb K c 7 (by decide) (j := 1) (p := px 3 c) (q := px 3 c) rfl rfl rfl rfl rfl (dev11 c) (slice_at (off34 c)) (slice_at (off33 c)) rfl rfl) $$ [HG HP HR]
  · isplitl [HG]; · iexact HG
    isplitl [HP]; · iexact HP
    iexact HR
  iintro HG
  iapply (reduce xa xb K c 1 (by decide) 8 1 (q := px 0 c) (p := px 1 c) (a := qb 0 (px 0 c)) (n := 192) (t := 0) rfl (by decide) rfl rfl rfl rfl rfl rfl (by rfl)
    (off35 c) (off36 c) (off35 c) (off35 c) (fun A B => cast_add (s := S192x2048) A B _)) $$ [HG HO]
  · isplitl [HG]; · iexact HG
    iexact HO
  iintro H
  iapply wp_done
  iapply HK
  iexact H

/-- Part 9: the first arrival of group 1 is added, and half of the sum is sent on. -/
theorem part9 (v2 v7 v83 v256 : BitVec 32) {Q : _ → sProp 𝕄} :
    iprop(Gh xa xb K c 8 2 ∗ Out c (qb 1 (px 4 c)) 160 fullShare (V xa xb 0 c) ∗ RgE (px 4 c) 8 (px 5 c))
      ⊢ iprop((∀ x, (Gh xa xb K c 9 3 ∗ RgE c 2 (px 4 c) ∗ OutE (px 3 c) (qb 1 (px 4 c)) 160
            ∗ Out c (pb 1 (px 4 c)) 80 fullShare (V xa xb 1 c)) -∗ Q x)
        -∗ WP c (onArgs k0_part9 c v2 v7 v83 v256) Q) := by
  rw [k0_part9_eq_skeleton]
  unfold k0_part9_skel
  simp only [onArgs, Prog.lift, Prog.bind_op, Prog.bind_ret, Prog.pure_eq_ret]
  iintro ⟨HG, HO, HR⟩ HK
  iapply (reduce xa xb K c 2 (by decide) 8 2 (q := px 4 c) (p := px 3 c) (a := qb 1 (px 4 c)) (n := 160) (t := 0) rfl (by decide) rfl rfl rfl rfl rfl rfl (by rfl)
    (off37 c) (off38 c) (off37 c) (off37 c) (fun A B => cast_add (s := S160x2048) A B _)) $$ [HG HO]
  · isplitl [HG]; · iexact HG
    iexact HO
  iintro ⟨HG, HO, HL, HE⟩
  ihave HO := (cut_quarter 1 (px 4 c) (q' := px 5 c) (n := 80) (by revert c; decide) rfl rfl).1 $$ HO
  icases HO with ⟨HO5, HO4⟩
  iapply (send_rs xa xb K c 8 (by decide) (j := 3) (p := px 4 c) (q := px 5 c) rfl rfl rfl rfl rfl (dev12 c) (slice_at (off40 c)) (slice_at (off39_4 c)) rfl rfl) $$ [HG HO5 HR]
  · isplitl [HG]; · iexact HG
    isplitl [HO5]; · iexact HO5
    iexact HR
  iintro HG
  iapply wp_done
  iapply HK
  isplitl [HG]; · iexact HG
  isplitl [HL]; · iexact HL
  isplitl [HE]; · iexact HE
  iexact HO4

/-- Part 10: the other half of that sum is sent on, the second arrival of group 1 is added, and the first arrival of
group 2 is read together with the rows it belongs to. -/
theorem part10 (v9 v83 v84 v138 v139 v257 : BitVec 32) {Q : _ → sProp 𝕄} :
    iprop(Gh xa xb K c 9 3 ∗ Out c (pb 1 (px 4 c)) 80 fullShare (V xa xb 1 c) ∗ RgE (px 4 c) 9 (px 4 c)
        ∗ Out c (qb 1 (px 0 c)) 160 fullShare (V xa xb 0 c) ∗ Out c (qb 2 (px 1 c)) 160 fullShare (V xa xb 0 c))
      ⊢ iprop((∀ a b, (Gh xa xb K c 10 5 ∗ Out c (qb 1 (px 0 c)) 160 fullShare (V xa xb 1 c) ∗ RgE c 3 (px 0 c)
            ∗ OutE (px 3 c) (qb 1 (px 0 c)) 160 ∗ Out c (qb 2 (px 1 c)) 160 fullShare (V xa xb 0 c) ∗ RgE c 4 (px 1 c)
            ∗ OutE (px 4 c) (qb 2 (px 1 c)) 160)
          -∗ Q ⟨a, b, rd (qb 2 (px 1 c)) 160 (q2 _) (V xa xb 0 c), rd (bs 4 (px 1 c)) (nr 4) (bs_le 4 _) (V xa xb 0 (px 4 c))⟩)
        -∗ WP c (onArgs k0_part10 c v9 v83 v84 v138 v139 v257) Q) := by
  rw [k0_part10_eq_skeleton]
  unfold k0_part10_skel
  simp only [onArgs, Prog.lift, Prog.bind_op, Prog.bind_ret, Prog.pure_eq_ret]
  iintro ⟨HG, HP, HR, HO, HT⟩ HK
  iapply (send_rs xa xb K c 9 (by decide) (j := 3) (p := px 4 c) (q := px 4 c) rfl rfl rfl rfl rfl (dev13 c) (slice_at (off42 c)) (slice_at (off41_4 c)) rfl rfl) $$ [HG HP HR]
  · isplitl [HG]; · iexact HG
    isplitl [HP]; · iexact HP
    iexact HR
  iintro HG
  iapply (reduce xa xb K c 3 (by decide) 10 3 (q := px 0 c) (p := px 3 c) (a := qb 1 (px 0 c)) (n := 160) (t := 0) rfl (by decide) rfl rfl rfl rfl rfl rfl (by rfl)
    (off43 c) (off44 c) (off43 c) (off43 c) (fun A B => cast_add (s := S160x2048) A B _)) $$ [HG HO]
  · isplitl [HG]; · iexact HG
    iexact HO
  iintro ⟨HG, HO, HL, HE⟩
  iapply (wait_rcv xa xb K c 4 10 4 rfl (by decide) rfl (by rfl)) $$ HG
  rw [rcv_rs xa xb c 4 (by decide) (p := px 4 c) (q := px 1 c) (a := qb 2 (px 1 c)) (m := 160) (t := 0) rfl rfl rfl rfl rfl]
  iintro ⟨HG, HM, HF⟩
  iapply (step_load_out (q2 (px 1 c)) (off45 c)) $$ HT
  iintro HT
  iapply (load_land c 4 (by decide) (px 1 c) (off46 c)) $$ HM
  iintro HM
  have e : k0_pay17 (rd (qb 2 (px 1 c)) 160 (q2 _) (V xa xb 0 c)) = rd (qb 2 (px 1 c)) 160 (q2 _) (V xa xb 0 c) := by
    unfold k0_pay17; simp only [shapeCast_self]
  rw [e]
  iapply wp_done
  iapply HK
  isplitl [HG]; · iexact HG
  isplitl [HO]; · iexact HO
  isplitl [HL]; · iexact HL
  isplitl [HE]; · iexact HE
  isplitl [HT]; · iexact HT
  isplitl [HM]; · iapply (lnd_rge c 4 (px 1 c) _) $$ HM
  iexact HF

/-- Part 11: that arrival is added, and both halves of the sum are sent on. -/
theorem part11 (v2 v9 v138 v139 v319 : BitVec 32) {Q : _ → sProp 𝕄} :
    iprop(Gh xa xb K c 10 5 ∗ Out c (qb 2 (px 1 c)) 160 fullShare (V xa xb 0 c) ∗ RgE (px 1 c) 10 (px 2 c) ∗ RgE (px 1 c) 11 (px 1 c))
      ⊢ iprop((∀ x, Gh xa xb K c 12 5 -∗ Q x)
        -∗ WP c (onArgs k0_part11 c v2 v9 v138 v139 v319 (rd (qb 2 (px 1 c)) 160 (q2 _) (V xa xb 0 c)) (rd (bs 4 (px 1 c)) (nr 4) (bs_le 4 _) (V xa xb 0 (px 4 c)))) Q) := by
  rw [k0_part11_eq_skeleton]
  unfold k0_part11_skel
  simp only [onArgs, Prog.lift, Prog.bind_op, Prog.bind_ret, Prog.pure_eq_ret]
  iintro ⟨HG, HO, HR, HT⟩ HK
  iapply (step_load_out (q2 (px 1 c)) (off45 c)) $$ HO
  iintro HO
  iapply (step_store_out (q2 (px 1 c)) (off45 c) (V xa xb 1 c) (rd_add xa xb c 4 (by decide) (px 1 c))) $$ HO
  iintro HO
  ihave HO := (cut_quarter 2 (px 1 c) (q' := px 2 c) (n := 80) (by revert c; decide) rfl rfl).1 $$ HO
  icases HO with ⟨HO2, HO1⟩
  iapply (send_rs xa xb K c 10 (by decide) (j := 5) (p := px 1 c) (q := px 2 c) rfl rfl rfl rfl rfl (dev14 c) (slice_at (off47 c)) (slice_at (off39_1 c)) rfl rfl) $$ [HG HO2 HR]
  · isplitl [HG]; · iexact HG
    isplitl [HO2]; · iexact HO2
    iexact HR
  iintro HG
  iapply (send_rs xa xb K c 11 (by decide) (j := 5) (p := px 1 c) (q := px 1 c) rfl rfl rfl rfl rfl (dev15 c) (slice_at (off48 c)) (slice_at (off41_1 c)) rfl rfl) $$ [HG HO1 HT]
  · isplitl [HG]; · iexact HG
    isplitl [HO1]; · iexact HO1
    iexact HT
  iintro HG
  iapply wp_done
  iapply HK
  iexact HG

/-- Part 12: the second arrival of group 2 is added, and the first of group 0's second exchange. -/
theorem part12 (v7 v138 v211 v215 v320 v365 : BitVec 32) {Q : _ → sProp 𝕄} :
    iprop(Gh xa xb K c 12 5 ∗ Out c (qb 2 (px 0 c)) 160 fullShare (V xa xb 0 c) ∗ Out c (pb 0 (px 4 c)) 96 fullShare (V xa xb 1 c))
      ⊢ iprop((∀ x, (Gh xa xb K c 12 7 ∗ Out c (qb 2 (px 0 c)) 160 fullShare (V xa xb 1 c) ∗ RgE c 5 (px 0 c) ∗ OutE (px 4 c) (qb 2 (px 0 c)) 160
            ∗ Out c (pb 0 (px 4 c)) 96 fullShare (V xa xb 2 c) ∗ RgE c 6 (px 4 c) ∗ OutE (px 3 c) (pb 0 (px 4 c)) 96) -∗ Q x)
        -∗ WP c (onArgs k0_part12 c v7 v138 v211 v215 v320 v365) Q) := by
  rw [k0_part12_eq_skeleton]
  unfold k0_part12_skel
  simp only [onArgs, Prog.lift, Prog.bind_op, Prog.bind_ret, Prog.pure_eq_ret]
  iintro ⟨HG, HO, HP⟩ HK
  iapply (reduce xa xb K c 5 (by decide) 12 5 (q := px 0 c) (p := px 4 c) (a := qb 2 (px 0 c)) (n := 160) (t := 0) rfl (by decide) rfl rfl rfl rfl rfl rfl (by rfl)
    (off49 c) (off50 c) (off49 c) (off49 c) (fun A B => cast_add (s := S160x2048) A B _)) $$ [HG HO]
  · isplitl [HG]; · iexact HG
    iexact HO
  iintro ⟨HG, HO, HL, HE⟩
  iapply (reduce xa xb K c 6 (by decide) 12 6 (q := px 4 c) (p := px 3 c) (a := pb 0 (px 4 c)) (n := 96) (t := 1) rfl (by decide) rfl rfl rfl rfl rfl rfl (by rfl)
    (off51 c) (off52 c) (off51 c) (off51 c) (fun A B => cast_add (s := S96x2048) A B _)) $$ [HG HP]
  · isplitl [HG]; · iexact HG
    iexact HP
  iintro ⟨HG, H⟩
  iapply wp_done
  iapply HK
  isplitl [HG]; · iexact HG
  isplitl [HO]; · iexact HO
  isplitl [HL]; · iexact HL
  isplitl [HE]; · iexact HE
  iexact H

/-- Part 13: group 0's sum is sent to the third exchange, and the second arrival of its second exchange added. -/
theorem part13 (v2 v3 v7 v211 v215 v279 v383 c1 : BitVec 32) {Q : _ → sProp 𝕄} :
    iprop(Gh xa xb K c 12 7 ∗ Out c (pb 0 (px 4 c)) 96 fullShare (V xa xb 2 c) ∗ RgE (px 4 c) 12 (px 4 c)
        ∗ Out c (pb 0 (px 0 c)) 96 fullShare (V xa xb 1 c))
      ⊢ iprop((∀ x, (Gh xa xb K c 13 8 ∗ Out c (pb 0 (px 0 c)) 96 fullShare (V xa xb 2 c) ∗ RgE c 7 (px 0 c)
            ∗ OutE (px 3 c) (pb 0 (px 0 c)) 96) -∗ Q x)
        -∗ WP c (onArgs k0_part13 c v2 v3 v7 v211 v215 v279 v383 c1) Q) := by
  rw [k0_part13_eq_skeleton]
  unfold k0_part13_skel
  simp only [onArgs, Prog.lift, Prog.bind_op, Prog.bind_ret, Prog.pure_eq_ret]
  iintro ⟨HG, HP, HR, HO⟩ HK
  iapply (send_rs xa xb K c 12 (by decide) (j := 7) (p := px 4 c) (q := px 4 c) rfl rfl rfl rfl rfl (dev16 c) (slice_at (off53 c)) rfl rfl rfl) $$ [HG HP HR]
  · isplitl [HG]; · iexact HG
    isplitl [HP]; · iexact HP
    iexact HR
  iintro HG
  iapply (reduce xa xb K c 7 (by decide) 13 7 (q := px 0 c) (p := px 3 c) (a := pb 0 (px 0 c)) (n := 96) (t := 1) rfl (by decide) rfl rfl rfl rfl rfl rfl (by rfl)
    (off54 c) (off55 c) (off54 c) (off54 c) (fun A B => cast_add (s := S96x2048) A B _)) $$ [HG HO]
  · isplitl [HG]; · iexact HG
    iexact HO
  iintro H
  iapply wp_done
  iapply HK
  iexact H

/-- Part 14: group 1's first arrival of the second exchange is added and sent on, and the second one awaited. -/
theorem part14 (v2 v3 v275 v279 v430 v431 : BitVec 32) {Q : _ → sProp 𝕄} :
    iprop(Gh xa xb K c 13 8 ∗ Out c (pb 1 (px 1 c)) 80 fullShare (V xa xb 1 c) ∗ RgE (px 1 c) 13 (px 1 c)
        ∗ Out c (pb 1 (px 0 c)) 80 fullShare (V xa xb 1 c))
      ⊢ iprop((∀ a b, (Gh xa xb K c 14 10 ∗ RgE c 8 (px 1 c) ∗ OutE (px 4 c) (pb 1 (px 1 c)) 80
            ∗ Out c (pb 1 (px 0 c)) 80 fullShare (V xa xb 1 c) ∗ Lnd c 9 (px 0 c) (V xa xb 1 (px 4 c)) ∗ OutE (px 4 c) (pb 1 (px 0 c)) 80)
            -∗ Q ⟨a, b, rd (pb 1 (px 0 c)) 80 (p1 _) (V xa xb 1 c)⟩)
        -∗ WP c (onArgs k0_part14 c v2 v3 v275 v279 v430 v431) Q) := by
  rw [k0_part14_eq_skeleton]
  unfold k0_part14_skel
  simp only [onArgs, Prog.lift, Prog.bind_op, Prog.bind_ret, Prog.pure_eq_ret]
  iintro ⟨HG, HP, HR, HO⟩ HK
  iapply (reduce xa xb K c 8 (by decide) 13 8 (q := px 1 c) (p := px 4 c) (a := pb 1 (px 1 c)) (n := 80) (t := 1) rfl (by decide) rfl rfl rfl rfl rfl rfl (by rfl)
    (off56 c) (off57 c) (off56 c) (off56 c) (fun A B => cast_add (s := S80x2048) A B _)) $$ [HG HP]
  · isplitl [HG]; · iexact HG
    iexact HP
  iintro ⟨HG, HP, HL, HE⟩
  iapply (send_rs xa xb K c 13 (by decide) (j := 9) (p := px 1 c) (q := px 1 c) rfl rfl rfl rfl rfl (dev17 c) (slice_at (off58 c)) rfl rfl rfl) $$ [HG HP HR]
  · isplitl [HG]; · iexact HG
    isplitl [HP]; · iexact HP
    iexact HR
  iintro HG
  iapply (wait_rcv xa xb K c 9 14 9 rfl (by decide) rfl (by rfl)) $$ [HG]
  · iexact HG
  rw [rcv_rs xa xb c 9 (by decide) (p := px 4 c) (q := px 0 c) (a := pb 1 (px 0 c)) (m := 80) (t := 1) rfl rfl rfl rfl rfl]
  iintro ⟨HG, HM, HF⟩
  iapply (step_load_out (p1 (px 0 c)) (off59 c)) $$ HO
  iintro HO
  have e : k0_pay23 (rd (pb 1 (px 0 c)) 80 (p1 _) (V xa xb 1 c)) = rd (pb 1 (px 0 c)) 80 (p1 _) (V xa xb 1 c) := by
    unfold k0_pay23; simp only [shapeCast_self]
  rw [e]
  iapply wp_done
  iapply HK
  isplitl [HG]; · iexact HG
  isplitl [HL]; · iexact HL
  isplitl [HE]; · iexact HE
  isplitl [HO]; · iexact HO
  isplitl [HM]; · iexact HM
  iexact HF

/-- Part 15: that arrival is added, and group 2's first arrival of the second exchange. -/
theorem part15 (v2 v3 v275 v338 v342 v431 : BitVec 32) {Q : _ → sProp 𝕄} :
    iprop(Gh xa xb K c 14 10 ∗ Out c (pb 1 (px 0 c)) 80 fullShare (V xa xb 1 c) ∗ Lnd c 9 (px 0 c) (V xa xb 1 (px 4 c))
        ∗ Out c (pb 2 (px 3 c)) 80 fullShare (V xa xb 1 c))
      ⊢ iprop((∀ x, (Gh xa xb K c 14 11 ∗ Out c (pb 1 (px 0 c)) 80 fullShare (V xa xb 2 c) ∗ RgE c 9 (px 0 c)
            ∗ Out c (pb 2 (px 3 c)) 80 fullShare (V xa xb 2 c) ∗ RgE c 10 (px 3 c) ∗ OutE (px 1 c) (pb 2 (px 3 c)) 80) -∗ Q x)
        -∗ WP c (onArgs k0_part15 c v2 v3 v275 v338 v342 v431 (rd (pb 1 (px 0 c)) 80 (p1 _) (V xa xb 1 c))) Q) := by
  rw [k0_part15_eq_skeleton]
  unfold k0_part15_skel
  simp only [onArgs, Prog.lift, Prog.bind_op, Prog.bind_ret, Prog.pure_eq_ret]
  iintro ⟨HG, HO, HM, HP⟩ HK
  iapply (load_land c 9 (by decide) (px 0 c) (off60 c)) $$ HM
  iintro HM
  iapply (step_load_out (p1 (px 0 c)) (off59 c)) $$ HO
  iintro HO
  iapply (step_store_out (p1 (px 0 c)) (off59 c) (V xa xb 2 c) (rd_add xa xb c 9 (by decide) (px 0 c))) $$ HO
  iintro HO
  iapply (reduce xa xb K c 10 (by decide) 14 10 (q := px 3 c) (p := px 1 c) (a := pb 2 (px 3 c)) (n := 80) (t := 1) rfl (by decide) rfl rfl rfl rfl rfl rfl (by rfl)
    (off61 c) ((off57 c).trans (by rw [ro_8_10]; rfl)) (off61 c) (off61 c) (fun A B => cast_add (s := S80x2048) A B _)) $$ [HG HP]
  · isplitl [HG]; · iexact HG
    iexact HP
  iintro ⟨HG, H⟩
  iapply wp_done
  iapply HK
  isplitl [HG]; · iexact HG
  isplitl [HO]; · iexact HO
  isplitl [HM]; · iapply (lnd_rge c 9 (px 0 c) _) $$ HM
  iexact H

/-- Part 16: group 2's sum is sent to the third exchange, its second arrival of the second exchange is added, and
group 0's third exchange ends. -/
theorem part16 (v2 v338 v342 v401 v405 v479 : BitVec 32) {Q : _ → sProp 𝕄} :
    iprop(Gh xa xb K c 14 11 ∗ Out c (pb 2 (px 3 c)) 80 fullShare (V xa xb 2 c) ∗ RgE (px 3 c) 14 (px 3 c)
        ∗ Out c (pb 2 (px 0 c)) 80 fullShare (V xa xb 1 c) ∗ Out c (pb 0 (px 0 c)) 96 fullShare (V xa xb 2 c))
      ⊢ iprop((∀ x, (Gh xa xb K c 15 13 ∗ Out c (pb 2 (px 0 c)) 80 fullShare (V xa xb 2 c) ∗ RgE c 11 (px 0 c) ∗ OutE (px 1 c) (pb 2 (px 0 c)) 80
            ∗ Out c (pb 0 (px 0 c)) 96 fullShare (V xa xb 3 c) ∗ RgE c 12 (px 0 c) ∗ OutE (px 4 c) (pb 0 (px 0 c)) 96) -∗ Q x)
        -∗ WP c (onArgs k0_part16 c v2 v338 v342 v401 v405 v479) Q) := by
  rw [k0_part16_eq_skeleton]
  unfold k0_part16_skel
  simp only [onArgs, Prog.lift, Prog.bind_op, Prog.bind_ret, Prog.pure_eq_ret]
  iintro ⟨HG, HP, HR, HO, HT⟩ HK
  iapply (send_rs xa xb K c 14 (by decide) (j := 11) (p := px 3 c) (q := px 3 c) rfl rfl rfl rfl rfl (dev18 c) (slice_at (off62 c)) rfl rfl rfl) $$ [HG HP HR]
  · isplitl [HG]; · iexact HG
    isplitl [HP]; · iexact HP
    iexact HR
  iintro HG
  iapply (reduce xa xb K c 11 (by decide) 15 11 (q := px 0 c) (p := px 1 c) (a := pb 2 (px 0 c)) (n := 80) (t := 1) rfl (by decide) rfl rfl rfl rfl rfl rfl (by rfl)
    (off63 c) ((off60 c).trans (by rw [ro_9_11]; rfl)) (off63 c) (off63 c) (fun A B => cast_add (s := S80x2048) A B _)) $$ [HG HO]
  · isplitl [HG]; · iexact HG
    iexact HO
  iintro ⟨HG, HO, HL, HE⟩
  iapply (wait_rcv xa xb K c 12 15 12 rfl (by decide) rfl (by rfl)) $$ HG
  rw [rcv_rs xa xb c 12 (by decide) (p := px 4 c) (q := px 0 c) (a := pb 0 (px 0 c)) (m := 96) (t := 2) rfl rfl rfl rfl rfl]
  iintro ⟨HG, HM, HF⟩
  iapply (add_last xa xb c 12 (by decide) (q := px 0 c) (p := px 4 c) (a := pb 0 (px 0 c)) rfl rfl rfl (off54 c) (off54 c) (off54 c)
    (fun f => Memref.readAt_unit_zero (Elt F) cc0_scratch3 hz _ f) (fun A B => cast_add (s := S96x2048) A B _)) $$ [HT HM]
  · isplitl [HT]; · iexact HT
    iexact HM
  iintro ⟨HT, HM⟩
  iapply wp_done
  iapply HK
  isplitl [HG]; · iexact HG
  isplitl [HO]; · iexact HO
  isplitl [HL]; · iexact HL
  isplitl [HE]; · iexact HE
  isplitl [HT]; · iexact HT
  isplitl [HM]; · iexact HM
  iexact HF

end Cert.CubeProof
end
-- ==== Proof.BodyC.lean ====
/-
# The body, part by part: the distribution
-/
module

public import proofs.«01_k».proof.Proof.Compose

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → CA F) (xb : Dev nD → CB F) (K : Dev nD × CI → ℕ) (c : Dev nD)

/-- A device's rows after the third sum are finished rows, in three shares. -/
theorem finished (g : Fin 3) {n : ℕ} (hn : wd g = n) : (Out c (pb g (px 0 c)) n fullShare (V xa xb 3 c) : sProp 𝕄)
    ⊢ iprop(Out c (pb g (px 0 c)) n fullShare.left (OUT xa xb) ∗ Out c (pb g (px 0 c)) n fullShare.right.left (OUT xa xb)
        ∗ Out c (pb g (px 0 c)) n fullShare.right.right (OUT xa xb)) := by
  rw [px_zero, out_done xa xb c g hn]
  exact (out_three c _ n _).1

/-- Before the first arrival that is only kept, none is kept. -/
theorem ghp_start : (Gh xa xb K c 36 24 : sProp 𝕄) ⊢ GhP xa xb K c 24 := by
  unfold GhP
  rw [show (lt 24).filter (fun p : Fin 36 => 24 ≤ p.val) = ∅ from by decide, bigSep_empty]
  iintro H
  isplitl [H]; · iexact H
  iempintro
/-- After the last arrival the closing waits begin; the arrivals' semaphores are back at zero. -/
theorem ghp_end : (GhP xa xb K c 36 : sProp 𝕄) ⊢ iprop(DrP xa xb K c 0 ∗ (bigSep Finset.univ fun k => semVal (rcell c k) 0) ∗ bigSep ((lt 36).filter fun p => 24 ≤ p.val) fun p => rcvPay xa xb c (wk p)) := by
  unfold GhP DrP
  rw [lt_zero, bigSep_empty]
  iintro ⟨HG, HP⟩
  ihave HG := (gh_dr xa xb K c) $$ HG
  icases HG with ⟨HG, HZ⟩
  isplitl [HG]
  · isplitl [HG]; · iexact HG
    iempintro
  isplitl [HZ]; · iexact HZ
  iexact HP

/-- Part 17: a device's finished rows of group 0 leave for the first of its three neighbours. -/
theorem part17 (v2 v537 v538 c1 : BitVec 32) {Q : _ → sProp 𝕄} :
    iprop(Gh xa xb K c 15 13 ∗ Out c (pb 0 (px 0 c)) 96 fullShare.left (OUT xa xb) ∗ OutE (px 4 c) (pb 0 (px 0 c)) 96)
      ⊢ iprop((∀ x, Gh xa xb K c 16 13 -∗ Q x) -∗ WP c (onArgs k0_part17 c v2 v537 v538 c1) Q) := by
  rw [k0_part17_eq_skeleton]
  unfold k0_part17_skel
  simp only [onArgs, Prog.lift, Prog.bind_op, Prog.bind_ret, Prog.pure_eq_ret]
  iintro H HK
  iapply (send_ag xa xb K c 15 (by decide) (j := 13) (p := px 4 c) (q := px 0 c) rfl rfl rfl rfl rfl (dev19 c) (slice_at (off64 c)) (slice_at (off64 c)) rfl rfl) $$ [H]
  · iexact H
  iintro HG
  iapply wp_done
  iapply HK
  iexact HG

/-- Part 18: they leave for the two others, and group 1's third exchange is awaited. -/
theorem part18 (v2 v453 v571 : BitVec 32) {Q : _ → sProp 𝕄} :
    iprop(Gh xa xb K c 16 13 ∗ Out c (pb 0 (px 0 c)) 96 fullShare.right.left (OUT xa xb) ∗ OutE (px 3 c) (pb 0 (px 0 c)) 96
        ∗ Out c (pb 0 (px 0 c)) 96 fullShare.right.right (OUT xa xb) ∗ OutE (px 1 c) (pb 0 (px 0 c)) 96)
      ⊢ iprop((∀ x, (Gh xa xb K c 18 14 ∗ Lnd c 13 (px 0 c) (V xa xb 2 (px 1 c)) ∗ OutE (px 1 c) (pb 1 (px 0 c)) 80) -∗ Q x)
        -∗ WP c (onArgs k0_part18 c v2 v453 v571) Q) := by
  rw [k0_part18_eq_skeleton]
  unfold k0_part18_skel
  simp only [onArgs, Prog.lift, Prog.bind_op, Prog.bind_ret, Prog.pure_eq_ret]
  iintro ⟨HG, HO, HE, HP, HF⟩ HK
  iapply (send_ag xa xb K c 16 (by decide) (j := 13) (p := px 3 c) (q := px 0 c) rfl rfl rfl rfl rfl (dev20 c) (slice_at (off64 c)) (slice_at (off64 c)) rfl rfl) $$ [HG HO HE]
  · isplitl [HG]; · iexact HG
    isplitl [HO]; · iexact HO
    iexact HE
  iintro HG
  iapply (send_ag xa xb K c 17 (by decide) (j := 13) (p := px 1 c) (q := px 0 c) rfl rfl rfl rfl rfl (dev21 c) (slice_at (off64 c)) (slice_at (off64 c)) rfl rfl) $$ [HG HP HF]
  · isplitl [HG]; · iexact HG
    isplitl [HP]; · iexact HP
    iexact HF
  iintro HG
  iapply (wait_rcv xa xb K c 13 18 13 rfl (by decide) rfl (by rfl)) $$ [HG]
  · iexact HG
  rw [rcv_rs xa xb c 13 (by decide) (p := px 1 c) (q := px 0 c) (a := pb 1 (px 0 c)) (m := 80) (t := 2) rfl rfl rfl rfl rfl]
  iintro H
  iapply wp_done
  iapply HK
  iexact H

/-- Part 19: that arrival finishes group 1's rows, which leave for the first neighbour. -/
theorem part19 (v2 v449 : BitVec 32) {Q : _ → sProp 𝕄} :
    iprop(Gh xa xb K c 18 14 ∗ Out c (pb 1 (px 0 c)) 80 fullShare (V xa xb 2 c) ∗ Lnd c 13 (px 0 c) (V xa xb 2 (px 1 c)) ∗ OutE (px 1 c) (pb 1 (px 0 c)) 80)
      ⊢ iprop((∀ x, (Gh xa xb K c 19 14 ∗ RgE c 13 (px 0 c) ∗ Out c (pb 1 (px 0 c)) 80 fullShare.right.left (OUT xa xb)
            ∗ Out c (pb 1 (px 0 c)) 80 fullShare.right.right (OUT xa xb)) -∗ Q x)
        -∗ WP c (onArgs k0_part19 c v2 v449) Q) := by
  rw [k0_part19_eq_skeleton]
  unfold k0_part19_skel
  simp only [onArgs, Prog.lift, Prog.bind_op, Prog.bind_ret, Prog.pure_eq_ret]
  iintro ⟨HG, HO, HM, HE⟩ HK
  iapply (add_last xa xb c 13 (by decide) (q := px 0 c) (p := px 1 c) (a := pb 1 (px 0 c)) rfl rfl rfl (off59 c) (off59 c) (off59 c)
    (fun f => Memref.readAt_unit_zero (Elt F) cc0_scratch6 hz _ f) (fun A B => cast_add (s := S80x2048) A B _)) $$ [HO HM]
  · isplitl [HO]; · iexact HO
    iexact HM
  iintro ⟨HO, HM⟩
  ihave HO := (finished xa xb c 1 (n := 80) rfl) $$ [HO]
  · iexact HO
  icases HO with ⟨HO1, HO2, HO3⟩
  iapply (send_ag xa xb K c 18 (by decide) (j := 14) (p := px 1 c) (q := px 0 c) rfl rfl rfl rfl rfl (dev22 c) (slice_at (off65 c)) (slice_at (off65 c)) rfl rfl) $$ [HG HO1 HE]
  · isplitl [HG]; · iexact HG
    isplitl [HO1]; · iexact HO1
    iexact HE
  iintro HG
  iapply wp_done
  iapply HK
  isplitl [HG]; · iexact HG
  isplitl [HM]; · iexact HM
  isplitl [HO2]; · iexact HO2
  iexact HO3

/-- Part 20: group 1's rows leave for the second neighbour. -/
theorem part20 (v2 v632 v633 v635 v636 c1 : BitVec 32) {Q : _ → sProp 𝕄} :
    iprop(Gh xa xb K c 19 14 ∗ Out c (pb 1 (px 0 c)) 80 fullShare.right.left (OUT xa xb) ∗ OutE (px 4 c) (pb 1 (px 0 c)) 80)
      ⊢ iprop((∀ x, Gh xa xb K c 20 14 -∗ Q x) -∗ WP c (onArgs k0_part20 c v2 v632 v633 v635 v636 c1) Q) := by
  rw [k0_part20_eq_skeleton]
  unfold k0_part20_skel
  simp only [onArgs, Prog.lift, Prog.bind_op, Prog.bind_ret, Prog.pure_eq_ret]
  iintro H HK
  iapply (send_ag xa xb K c 19 (by decide) (j := 14) (p := px 4 c) (q := px 0 c) rfl rfl rfl rfl rfl (dev23 c) (slice_at (off65 c)) (slice_at (off65 c)) rfl rfl) $$ [H]
  · iexact H
  iintro HG
  iapply wp_done
  iapply HK
  iexact HG

/-- Part 21: group 1's rows leave for the third neighbour, and the last arrival of the reduction finishes group 2's. -/
theorem part21 (v2 v497 v501 : BitVec 32) {Q : _ → sProp 𝕄} :
    iprop(Gh xa xb K c 20 14 ∗ Out c (pb 1 (px 0 c)) 80 fullShare.right.right (OUT xa xb) ∗ OutE (px 3 c) (pb 1 (px 0 c)) 80
        ∗ Out c (pb 2 (px 0 c)) 80 fullShare (V xa xb 2 c))
      ⊢ iprop((∀ x, (Gh xa xb K c 21 15 ∗ Out c (pb 2 (px 0 c)) 80 fullShare (V xa xb 3 c) ∗ RgE c 14 (px 0 c) ∗ OutE (px 3 c) (pb 2 (px 0 c)) 80) -∗ Q x)
        -∗ WP c (onArgs k0_part21 c v2 v497 v501) Q) := by
  rw [k0_part21_eq_skeleton]
  unfold k0_part21_skel
  simp only [onArgs, Prog.lift, Prog.bind_op, Prog.bind_ret, Prog.pure_eq_ret]
  iintro ⟨HG, HP, HE, HO⟩ HK
  iapply (send_ag xa xb K c 20 (by decide) (j := 14) (p := px 3 c) (q := px 0 c) rfl rfl rfl rfl rfl (dev24 c) (slice_at (off65 c)) (slice_at (off65 c)) rfl rfl) $$ [HG HP HE]
  · isplitl [HG]; · iexact HG
    isplitl [HP]; · iexact HP
    iexact HE
  iintro HG
  iapply (wait_rcv xa xb K c 14 21 14 rfl (by decide) rfl (by rfl)) $$ [HG]
  · iexact HG
  rw [rcv_rs xa xb c 14 (by decide) (p := px 3 c) (q := px 0 c) (a := pb 2 (px 0 c)) (m := 80) (t := 2) rfl rfl rfl rfl rfl]
  iintro ⟨HG, HM, HF⟩
  iapply (add_last xa xb c 14 (by decide) (q := px 0 c) (p := px 3 c) (a := pb 2 (px 0 c)) rfl rfl rfl (off63 c) (off63 c) (off63 c)
    (fun f => Memref.readAt_unit_zero (Elt F) cc0_scratch9 hz _ f) (fun A B => cast_add (s := S80x2048) A B _)) $$ [HO HM]
  · isplitl [HO]; · iexact HO
    iexact HM
  iintro ⟨HO, HM⟩
  iapply wp_done
  iapply HK
  isplitl [HG]; · iexact HG
  isplitl [HO]; · iexact HO
  isplitl [HM]; · iexact HM
  iexact HF

/-- Part 22: group 2's rows leave for two neighbours. -/
theorem part22 (v2 : BitVec 32) {Q : _ → sProp 𝕄} :
    iprop(Gh xa xb K c 21 15 ∗ Out c (pb 2 (px 0 c)) 80 fullShare.left (OUT xa xb) ∗ OutE (px 3 c) (pb 2 (px 0 c)) 80
        ∗ Out c (pb 2 (px 0 c)) 80 fullShare.right.left (OUT xa xb) ∗ OutE (px 1 c) (pb 2 (px 0 c)) 80)
      ⊢ iprop((∀ x, Gh xa xb K c 23 15 -∗ Q x) -∗ WP c (onArgs k0_part22 c v2) Q) := by
  rw [k0_part22_eq_skeleton]
  unfold k0_part22_skel
  simp only [onArgs, Prog.lift, Prog.bind_op, Prog.bind_ret, Prog.pure_eq_ret]
  iintro ⟨HG, HO, HE, HP, HF⟩ HK
  iapply (send_ag xa xb K c 21 (by decide) (j := 15) (p := px 3 c) (q := px 0 c) rfl rfl rfl rfl rfl (dev25 c) (slice_at (off66 c)) (slice_at (off66 c)) rfl rfl) $$ [HG HO HE]
  · isplitl [HG]; · iexact HG
    isplitl [HO]; · iexact HO
    iexact HE
  iintro HG
  iapply (send_ag xa xb K c 22 (by decide) (j := 15) (p := px 1 c) (q := px 0 c) rfl rfl rfl rfl rfl (dev26 c) (slice_at (off66 c)) (slice_at (off66 c)) rfl rfl) $$ [HG HP HF]
  · isplitl [HG]; · iexact HG
    isplitl [HP]; · iexact HP
    iexact HF
  iintro HG
  iapply wp_done
  iapply HK
  iexact HG

/-- Part 23: group 2's rows leave for the third neighbour, and the first finished rows arrive. -/
theorem part23 (v2 v726 v727 v732 v734 c160 : BitVec 32) {Q : _ → sProp 𝕄} :
    iprop(Gh xa xb K c 23 15 ∗ Out c (pb 2 (px 0 c)) 80 fullShare.right.right (OUT xa xb) ∗ OutE (px 4 c) (pb 2 (px 0 c)) 80)
      ⊢ iprop((∀ x, (Gh xa xb K c 24 16 ∗ Out c (pb 0 (px 4 c)) 96 fullShare (OUT xa xb)) -∗ Q x)
        -∗ WP c (onArgs k0_part23 c v2 v726 v727 v732 v734 c160) Q) := by
  rw [k0_part23_eq_skeleton]
  unfold k0_part23_skel
  simp only [onArgs, Prog.lift, Prog.bind_op, Prog.bind_ret, Prog.pure_eq_ret]
  iintro H HK
  iapply (send_ag xa xb K c 23 (by decide) (j := 15) (p := px 4 c) (q := px 0 c) rfl rfl rfl rfl rfl (dev27 c) (slice_at (off66 c)) (slice_at (off66 c)) rfl rfl) $$ [H]
  · iexact H
  iintro HG
  iapply (wait_rcv xa xb K c 15 24 15 rfl (by decide) rfl (by rfl)) $$ [HG]
  · iexact HG
  rw [rcv_ag xa xb c 15 (by decide) (q := px 4 c) (a := pb 0 (px 4 c)) (m := 96) rfl rfl rfl]
  iintro H
  iapply wp_done
  iapply HK
  iexact H

/-- Part 24: the received rows of group 0 are passed on to two neighbours. -/
theorem part24 (v2 v754 : BitVec 32) {Q : _ → sProp 𝕄} :
    iprop(Gh xa xb K c 24 16 ∗ Out c (pb 0 (px 4 c)) 96 fullShare (OUT xa xb) ∗ OutE (px 3 c) (pb 0 (px 4 c)) 96 ∗ OutE (px 1 c) (pb 0 (px 4 c)) 96)
      ⊢ iprop((∀ x, Gh xa xb K c 26 16 -∗ Q x) -∗ WP c (onArgs k0_part24 c v2 v754) Q) := by
  rw [k0_part24_eq_skeleton]
  unfold k0_part24_skel
  simp only [onArgs, Prog.lift, Prog.bind_op, Prog.bind_ret, Prog.pure_eq_ret]
  iintro ⟨HG, HO, HE, HF⟩ HK
  ihave HO := (out_two c (pb 0 (px 4 c)) 96 (OUT xa xb)).1 $$ HO
  icases HO with ⟨HO, HP⟩
  iapply (send_ag xa xb K c 24 (by decide) (j := 16) (p := px 3 c) (q := px 4 c) rfl rfl rfl rfl rfl (dev28 c) (slice_at (off67_4 c)) (slice_at (off67_4 c)) rfl rfl) $$ [HG HO HE]
  · isplitl [HG]; · iexact HG
    isplitl [HO]; · iexact HO
    iexact HE
  iintro HG
  iapply (send_ag xa xb K c 25 (by decide) (j := 16) (p := px 1 c) (q := px 4 c) rfl rfl rfl rfl rfl (dev29 c) (slice_at (off67_4 c)) (slice_at (off67_4 c)) rfl rfl) $$ [HG HP HF]
  · isplitl [HG]; · iexact HG
    isplitl [HP]; · iexact HP
    iexact HF
  iintro HG
  iapply wp_done
  iapply HK
  iexact HG

/-- Part 25: rows of group 1 arrive and are passed on to the first of two neighbours. -/
theorem part25 (v2 v797 c0 : BitVec 32) {Q : _ → sProp 𝕄} :
    iprop(Gh xa xb K c 26 16 ∗ OutE (px 4 c) (pb 1 (px 1 c)) 80)
      ⊢ iprop((∀ x, (Gh xa xb K c 27 17 ∗ Out c (pb 1 (px 1 c)) 80 fullShare.right (OUT xa xb)) -∗ Q x) -∗ WP c (onArgs k0_part25 c v2 v797 c0) Q) := by
  rw [k0_part25_eq_skeleton]
  unfold k0_part25_skel
  simp only [onArgs, Prog.lift, Prog.bind_op, Prog.bind_ret, Prog.pure_eq_ret]
  iintro ⟨HG, HE⟩ HK
  iapply (wait_rcv xa xb K c 18 26 16 rfl (by decide) rfl (by rfl)) $$ [HG]
  · iexact HG
  rw [rcv_ag xa xb c 18 (by decide) (q := px 1 c) (a := pb 1 (px 1 c)) (m := 80) rfl rfl rfl]
  iintro ⟨HG, HO⟩
  ihave HO := (out_two c (pb 1 (px 1 c)) 80 (OUT xa xb)).1 $$ HO
  icases HO with ⟨HO, HP⟩
  iapply (send_ag xa xb K c 26 (by decide) (j := 17) (p := px 4 c) (q := px 1 c) rfl rfl rfl rfl rfl (dev30 c) (slice_at (off68_1 c)) (slice_at (off68_1 c)) rfl rfl) $$ [HG HO HE]
  · isplitl [HG]; · iexact HG
    isplitl [HO]; · iexact HO
    iexact HE
  iintro HG
  iapply wp_done
  iapply HK
  isplitl [HG]; · iexact HG
  iexact HP

/-- Part 26: they are passed on to the second one, and rows of group 2 arrive. -/
theorem part26 (v2 v824 v825 v826 v828 c2 : BitVec 32) {Q : _ → sProp 𝕄} :
    iprop(Gh xa xb K c 27 17 ∗ Out c (pb 1 (px 1 c)) 80 fullShare.right (OUT xa xb) ∗ OutE (px 3 c) (pb 1 (px 1 c)) 80)
      ⊢ iprop((∀ x, (Gh xa xb K c 28 18 ∗ Out c (pb 2 (px 3 c)) 80 fullShare (OUT xa xb)) -∗ Q x) -∗ WP c (onArgs k0_part26 c v2 v824 v825 v826 v828 c2) Q) := by
  rw [k0_part26_eq_skeleton]
  unfold k0_part26_skel
  simp only [onArgs, Prog.lift, Prog.bind_op, Prog.bind_ret, Prog.pure_eq_ret]
  iintro H HK
  iapply (send_ag xa xb K c 27 (by decide) (j := 17) (p := px 3 c) (q := px 1 c) rfl rfl rfl rfl rfl (dev31 c) (slice_at (off68_1 c)) (slice_at (off68_1 c)) rfl rfl) $$ [H]
  · iexact H
  iintro HG
  iapply (wait_rcv xa xb K c 21 28 17 rfl (by decide) rfl (by rfl)) $$ [HG]
  · iexact HG
  rw [rcv_ag xa xb c 21 (by decide) (q := px 3 c) (a := pb 2 (px 3 c)) (m := 80) rfl rfl rfl]
  iintro H
  iapply wp_done
  iapply HK
  iexact H

/-- Part 27: the received rows of group 2 are passed on to the first of two neighbours. -/
theorem part27 (v2 v852 v853 v858 v859 : BitVec 32) {Q : _ → sProp 𝕄} :
    iprop(Gh xa xb K c 28 18 ∗ Out c (pb 2 (px 3 c)) 80 fullShare.left (OUT xa xb) ∗ OutE (px 1 c) (pb 2 (px 3 c)) 80)
      ⊢ iprop((∀ x, Gh xa xb K c 29 18 -∗ Q x) -∗ WP c (onArgs k0_part27 c v2 v852 v853 v858 v859) Q) := by
  rw [k0_part27_eq_skeleton]
  unfold k0_part27_skel
  simp only [onArgs, Prog.lift, Prog.bind_op, Prog.bind_ret, Prog.pure_eq_ret]
  iintro H HK
  iapply (send_ag xa xb K c 28 (by decide) (j := 18) (p := px 1 c) (q := px 3 c) rfl rfl rfl rfl rfl (dev32 c) (slice_at (off69_3 c)) (slice_at (off69_3 c)) rfl rfl) $$ [H]
  · iexact H
  iintro HG
  iapply wp_done
  iapply HK
  iexact HG

/-- Part 28: they are passed on to the second one; group 0's second rows arrive and are passed on. -/
theorem part28 (v2 : BitVec 32) {Q : _ → sProp 𝕄} :
    iprop(Gh xa xb K c 29 18 ∗ Out c (pb 2 (px 3 c)) 80 fullShare.right (OUT xa xb) ∗ OutE (px 4 c) (pb 2 (px 3 c)) 80 ∗ OutE (px 1 c) (pb 0 (px 3 c)) 96)
      ⊢ iprop((∀ x, Gh xa xb K c 31 19 -∗ Q x) -∗ WP c (onArgs k0_part28 c v2) Q) := by
  rw [k0_part28_eq_skeleton]
  unfold k0_part28_skel
  simp only [onArgs, Prog.lift, Prog.bind_op, Prog.bind_ret, Prog.pure_eq_ret]
  iintro ⟨HG, HP, HE, HF⟩ HK
  iapply (send_ag xa xb K c 29 (by decide) (j := 18) (p := px 4 c) (q := px 3 c) rfl rfl rfl rfl rfl (dev33 c) (slice_at (off69_3 c)) (slice_at (off69_3 c)) rfl rfl) $$ [HG HP HE]
  · isplitl [HG]; · iexact HG
    isplitl [HP]; · iexact HP
    iexact HE
  iintro HG
  iapply (wait_rcv xa xb K c 16 30 18 rfl (by decide) rfl (by rfl)) $$ [HG]
  · iexact HG
  rw [rcv_ag xa xb c 16 (by decide) (q := px 3 c) (a := pb 0 (px 3 c)) (m := 96) rfl rfl rfl]
  iintro ⟨HG, HO⟩
  iapply (send_ag xa xb K c 30 (by decide) (j := 19) (p := px 1 c) (q := px 3 c) rfl rfl rfl rfl rfl (dev34 c) (slice_at (off67_3 c)) (slice_at (off67_3 c)) rfl rfl) $$ [HG HO HF]
  · isplitl [HG]; · iexact HG
    isplitl [HO]; · iexact HO
    iexact HF
  iintro HG
  iapply wp_done
  iapply HK
  iexact HG

/-- Part 29: group 0's third rows arrive and are passed on. -/
theorem part29 (v2 : BitVec 32) {Q : _ → sProp 𝕄} :
    iprop(Gh xa xb K c 31 19 ∗ OutE (px 1 c) (pb 0 (px 7 c)) 96)
      ⊢ iprop((∀ x, Gh xa xb K c 32 20 -∗ Q x) -∗ WP c (onArgs k0_part29 c v2) Q) := by
  rw [k0_part29_eq_skeleton]
  unfold k0_part29_skel
  simp only [onArgs, Prog.lift, Prog.bind_op, Prog.bind_ret, Prog.pure_eq_ret]
  iintro ⟨HG, HF⟩ HK
  iapply (wait_rcv xa xb K c 24 31 19 rfl (by decide) rfl (by rfl)) $$ [HG]
  · iexact HG
  rw [rcv_ag xa xb c 24 (by decide) (q := px 7 c) (a := pb 0 (px 7 c)) (m := 96) rfl rfl rfl]
  iintro ⟨HG, HO⟩
  iapply (send_ag xa xb K c 31 (by decide) (j := 20) (p := px 1 c) (q := px 7 c) rfl rfl rfl rfl rfl (dev35 c) (slice_at (off70 c)) (slice_at (off70 c)) rfl rfl) $$ [HG HO HF]
  · isplitl [HG]; · iexact HG
    isplitl [HO]; · iexact HO
    iexact HF
  iintro HG
  iapply wp_done
  iapply HK
  iexact HG

/-- Part 30: group 1's second rows arrive and are passed on. -/
theorem part30 (v2 v952 c0 : BitVec 32) {Q : _ → sProp 𝕄} :
    iprop(Gh xa xb K c 32 20 ∗ OutE (px 3 c) (pb 1 (px 4 c)) 80)
      ⊢ iprop((∀ x, Gh xa xb K c 33 21 -∗ Q x) -∗ WP c (onArgs k0_part30 c v2 v952 c0) Q) := by
  rw [k0_part30_eq_skeleton]
  unfold k0_part30_skel
  simp only [onArgs, Prog.lift, Prog.bind_op, Prog.bind_ret, Prog.pure_eq_ret]
  iintro ⟨HG, HF⟩ HK
  iapply (wait_rcv xa xb K c 19 32 20 rfl (by decide) rfl (by rfl)) $$ [HG]
  · iexact HG
  rw [rcv_ag xa xb c 19 (by decide) (q := px 4 c) (a := pb 1 (px 4 c)) (m := 80) rfl rfl rfl]
  iintro ⟨HG, HO⟩
  iapply (send_ag xa xb K c 32 (by decide) (j := 21) (p := px 3 c) (q := px 4 c) rfl rfl rfl rfl rfl (dev36 c) (slice_at (off68_4 c)) (slice_at (off68_4 c)) rfl rfl) $$ [HG HO HF]
  · isplitl [HG]; · iexact HG
    isplitl [HO]; · iexact HO
    iexact HF
  iintro HG
  iapply wp_done
  iapply HK
  iexact HG

/-- Part 31: group 1's third rows arrive and are passed on; group 2's second rows arrive. -/
theorem part31 (v2 : BitVec 32) {Q : _ → sProp 𝕄} :
    iprop(Gh xa xb K c 33 21 ∗ OutE (px 3 c) (pb 1 (px 5 c)) 80)
      ⊢ iprop((∀ x, (Gh xa xb K c 34 23 ∗ Out c (pb 2 (px 1 c)) 80 fullShare (OUT xa xb)) -∗ Q x) -∗ WP c (onArgs k0_part31 c v2) Q) := by
  rw [k0_part31_eq_skeleton]
  unfold k0_part31_skel
  simp only [onArgs, Prog.lift, Prog.bind_op, Prog.bind_ret, Prog.pure_eq_ret]
  iintro ⟨HG, HF⟩ HK
  iapply (wait_rcv xa xb K c 26 33 21 rfl (by decide) rfl (by rfl)) $$ [HG]
  · iexact HG
  rw [rcv_ag xa xb c 26 (by decide) (q := px 5 c) (a := pb 1 (px 5 c)) (m := 80) rfl rfl rfl]
  iintro ⟨HG, HO⟩
  iapply (send_ag xa xb K c 33 (by decide) (j := 22) (p := px 3 c) (q := px 5 c) rfl rfl rfl rfl rfl (dev37 c) (slice_at (off71 c)) (slice_at (off71 c)) rfl rfl) $$ [HG HO HF]
  · isplitl [HG]; · iexact HG
    isplitl [HO]; · iexact HO
    iexact HF
  iintro HG
  iapply (wait_rcv xa xb K c 22 34 22 rfl (by decide) rfl (by rfl)) $$ [HG]
  · iexact HG
  rw [rcv_ag xa xb c 22 (by decide) (q := px 1 c) (a := pb 2 (px 1 c)) (m := 80) rfl rfl rfl]
  iintro H
  iapply wp_done
  iapply HK
  iexact H

/-- Part 32: group 2's second rows are passed on, and its third rows arrive. -/
theorem part32 (v2 : BitVec 32) {Q : _ → sProp 𝕄} :
    iprop(Gh xa xb K c 34 23 ∗ Out c (pb 2 (px 1 c)) 80 fullShare (OUT xa xb) ∗ OutE (px 4 c) (pb 2 (px 1 c)) 80)
      ⊢ iprop((∀ x, (Gh xa xb K c 35 24 ∗ Out c (pb 2 (px 2 c)) 80 fullShare (OUT xa xb)) -∗ Q x) -∗ WP c (onArgs k0_part32 c v2) Q) := by
  rw [k0_part32_eq_skeleton]
  unfold k0_part32_skel
  simp only [onArgs, Prog.lift, Prog.bind_op, Prog.bind_ret, Prog.pure_eq_ret]
  iintro H HK
  iapply (send_ag xa xb K c 34 (by decide) (j := 23) (p := px 4 c) (q := px 1 c) rfl rfl rfl rfl rfl (dev38 c) (slice_at (off69_1 c)) (slice_at (off69_1 c)) rfl rfl) $$ [H]
  · iexact H
  iintro HG
  iapply (wait_rcv xa xb K c 28 35 23 rfl (by decide) rfl (by rfl)) $$ [HG]
  · iexact HG
  rw [rcv_ag xa xb c 28 (by decide) (q := px 2 c) (a := pb 2 (px 2 c)) (m := 80) rfl rfl rfl]
  iintro H
  iapply wp_done
  iapply HK
  iexact H

/-- Part 33: group 2's third rows are passed on; the first of the arrivals that are only kept. -/
theorem part33 (v2 v1042 c4 : BitVec 32) {Q : _ → sProp 𝕄} :
    iprop(Gh xa xb K c 35 24 ∗ Out c (pb 2 (px 2 c)) 80 fullShare (OUT xa xb) ∗ OutE (px 4 c) (pb 2 (px 2 c)) 80)
      ⊢ iprop((∀ x, GhP xa xb K c 25 -∗ Q x) -∗ WP c (onArgs k0_part33 c v2 v1042 c4) Q) := by
  rw [k0_part33_eq_skeleton]
  unfold k0_part33_skel
  simp only [onArgs, Prog.lift, Prog.bind_op, Prog.bind_ret, Prog.pure_eq_ret]
  iintro H HK
  iapply (send_ag xa xb K c 35 (by decide) (j := 24) (p := px 4 c) (q := px 2 c) rfl rfl rfl rfl rfl (dev39 c) (slice_at (off72 c)) (slice_at (off72 c)) rfl rfl) $$ [H]
  · iexact H
  iintro HG
  ihave HG := (ghp_start xa xb K c) $$ [HG]
  · iexact HG
  iapply (keep xa xb K c 17 24 rfl (by decide) rfl (by rfl)) $$ HG
  iintro HG
  iapply wp_done
  iapply HK
  iexact HG

/-- Part 34: four arrivals. -/
theorem part34 (v2 : BitVec 32) {Q : _ → sProp 𝕄} :
    GhP xa xb K c 25 ⊢ iprop((∀ x, GhP xa xb K c 29 -∗ Q x) -∗ WP c (onArgs k0_part34 v2) Q) := by
  rw [k0_part34_eq_skeleton]
  unfold k0_part34_skel
  simp only [onArgs, Prog.lift, Prog.bind_op, Prog.bind_ret, Prog.pure_eq_ret]
  iintro HG HK
  iapply (keep xa xb K c 25 25 rfl (by decide) rfl (by rfl)) $$ HG
  iintro HG
  iapply (keep xa xb K c 30 26 rfl (by decide) rfl (by rfl)) $$ [HG]; · iexact HG
  iintro HG
  iapply (keep xa xb K c 31 27 rfl (by decide) rfl (by rfl)) $$ [HG]; · iexact HG
  iintro HG
  iapply (keep xa xb K c 20 28 rfl (by decide) rfl (by rfl)) $$ [HG]; · iexact HG
  iintro HG
  iapply wp_done
  iapply HK
  iexact HG

/-- Part 35: four more. -/
theorem part35 (v2 : BitVec 32) {Q : _ → sProp 𝕄} :
    GhP xa xb K c 29 ⊢ iprop((∀ x, GhP xa xb K c 33 -∗ Q x) -∗ WP c (onArgs k0_part35 v2) Q) := by
  rw [k0_part35_eq_skeleton]
  unfold k0_part35_skel
  simp only [onArgs, Prog.lift, Prog.bind_op, Prog.bind_ret, Prog.pure_eq_ret]
  iintro HG HK
  iapply (keep xa xb K c 27 29 rfl (by decide) rfl (by rfl)) $$ HG
  iintro HG
  iapply (keep xa xb K c 32 30 rfl (by decide) rfl (by rfl)) $$ [HG]; · iexact HG
  iintro HG
  iapply (keep xa xb K c 33 31 rfl (by decide) rfl (by rfl)) $$ [HG]; · iexact HG
  iintro HG
  iapply (keep xa xb K c 23 32 rfl (by decide) rfl (by rfl)) $$ [HG]; · iexact HG
  iintro HG
  iapply wp_done
  iapply HK
  iexact HG

/-- All arrivals that are only kept: twelve. -/
abbrev kept : Finset (Fin 36) := (lt 36).filter fun p => 24 ≤ p.val

/-- Part 36: the last three arrivals, and the first two closing waits. -/
theorem part36 (v2 : BitVec 32) {Q : _ → sProp 𝕄} :
    GhP xa xb K c 33 ⊢ iprop((∀ x, (DrP xa xb K c 2 ∗ (bigSep Finset.univ fun k => semVal (rcell c k) 0) ∗ bigSep kept fun p => rcvPay xa xb c (wk p)) -∗ Q x) -∗ WP c (onArgs k0_part36 c v2) Q) := by
  rw [k0_part36_eq_skeleton]
  unfold k0_part36_skel
  simp only [onArgs, Prog.lift, Prog.bind_op, Prog.bind_ret, Prog.pure_eq_ret]
  iintro HG HK
  iapply (keep xa xb K c 29 33 rfl (by decide) rfl (by rfl)) $$ HG
  iintro HG
  iapply (keep xa xb K c 34 34 rfl (by decide) rfl (by rfl)) $$ [HG]; · iexact HG
  iintro HG
  iapply (keep xa xb K c 35 35 rfl (by decide) rfl (by rfl)) $$ [HG]; · iexact HG
  iintro HG
  ihave HG := (ghp_end xa xb K c) $$ [HG]
  · iexact HG
  icases HG with ⟨HD, HR⟩
  iapply (drain xa xb K c 0 0 rfl rfl (by rfl)) $$ HD
  iintro HD
  iapply (drain xa xb K c 1 1 rfl rfl (by rfl)) $$ [HD]; · iexact HD
  iintro HD
  iapply wp_done
  iapply HK
  isplitl [HD]; · iexact HD
  iexact HR

end Cert.CubeProof
end
-- ==== Proof.BodyD.lean ====
/-
# The body, part by part: the barrier and the closing waits
-/
module

public import proofs.«01_k».proof.Proof.Compose

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → CA F) (xb : Dev nD → CB F) (K : Dev nD × CI → ℕ) (c : Dev nD)

/-! ## The barrier -/

/-- The five landing regions of device `c` that the neighbour `d` writes. -/
def ownPay (d : Fin 3) : sProp 𝕄 :=
  iprop(RgE c (bk d 0) (px (rm (bk d 0)) c) ∗ RgE c (bk d 1) (px (rm (bk d 1)) c) ∗ RgE c (bk d 2) (px (rm (bk d 2)) c)
    ∗ RgE c (bk d 3) (px (rm (bk d 3)) c) ∗ RgE c (bk d 4) (px (rm (bk d 4)) c))

theorem om_bm (d : Fin 3) (j : Fin 5) (c : Dev nD) : px (om (bk d j)) (px (bm d) c) = px (rm (bk d j)) c := by
  revert d j c; decide

/-- What a device hands its neighbour `d` at the barrier is its own five landing regions. -/
theorem barPay_own (d : Fin 3) : (barPay (px (bm d) c) d : sProp 𝕄) = ownPay (F := F) c d := by
  unfold barPay ownPay
  simp only [px_bm_bm, om_bm]

/-- What a device has at the launch for the semaphores. -/
def Seed : sProp 𝕄 :=
  iprop(records xa xb K ∗ levAts Lv lv ∗ (∃ W, owes (c : Thread nD τ) (O₀ c) W)
    ∗ dutyTok ER (barCell (px 1 c)) 0 0 ∗ dutyTok ER (barCell (px 3 c)) 0 1 ∗ dutyTok ER (barCell (px 4 c)) 0 2
    ∗ atPos ER (barCell c) 0 ∅ 0 ∗ cred (tallyAt (barCell c) () 3)
    ∗ bigSep Finset.univ (tokS c) ∗ bigSep Finset.univ (fun p => tokW c (wk p))
    ∗ bigSep Finset.univ (fun k => atPos ER (scell c k) 0 ∅ 0))

/-- A unit to a neighbour's barrier semaphore, with the landing regions the neighbour will write. -/
theorem signal {α : Type} {Q : α → sProp 𝕄} (d : Fin 3) {p n : Dev nD} (hp : px (bm d) c = p) (hn : n = p) (O : CellTallies nD τ sig Unit)
    {kk : PUnit → Prog (TpuEff nD τ sig (Elt F) Λ₀ .tc) α} :
    iprop(records xa xb K ∗ (∃ W, owes (c : Thread nD τ) (O + tallyAt (barCell p) () (1#32).toNat) W) ∗ dutyTok ER (barCell p) 0 d ∗ ownPay c d)
      ⊢ iprop(((∃ W, owes (c : Thread nD τ) O W) -∗ WP c (kk ⟨⟩) Q)
        -∗ WP c (.op (.semSignal (n : Thread nD τ) barS (1#32).toNat) kk) Q) := by
  subst hn; subst hp
  iintro ⟨#HR, ⟨%W, HO⟩, HT, HP⟩ HK
  iapply (Rounds.wp_signal 𝒱₀ ER (cubeRd xa xb) (c : Thread nD τ) none (dst := (px (bm d) c : Thread nD τ)) (κ := K (px (bm d) c, none))
      (d := d) (by rw [duties_bar]; exact Finset.mem_univ _) ((amount_bar xa xb (px (bm d) c) d).trans (by decide)) () O rfl)
    $$ [HO HT HP]
  · isplitr; · iapply (records_inv xa xb K (px (bm d) c, none)); iexact HR
    isplitl [HO]; · iexact HO
    isplitl [HT]; · iexact HT
    isplitl [HP]; · rw [payload_bar, barPay_own]; iexact HP
    iapply (records_reached xa xb K (px (bm d) c, none)); iexact HR
  iintro HO
  iapply HK
  iexists _
  iexact HO

/-- Part 1: the right operand is copied, and the devices meet at the barrier: each hands every neighbour the landing
regions the neighbour writes, and gets those it writes itself. -/
theorem part1 {f : CB F} {Q : _ → sProp 𝕄} :
    iprop(Seed xa xb K c ∗ Bp c (xb c) ∗ Sp c f ∗ ownPay c 0 ∗ ownPay c 1 ∗ ownPay c 2)
      ⊢ iprop((∀ v2 v3 v5 v7 v8 v9 v26, (Gh xa xb K c 0 0 ∗ Bp c (xb c) ∗ Sp c (xb c) ∗ semVal (barCell c) 0
            ∗ barPay c 0 ∗ barPay c 1 ∗ barPay c 2) -∗ Q ⟨c, v2, v3, v5, v7, v8, v9, v26⟩)
        -∗ WP c (onArgs k0_part1) Q) := by
  rw [k0_part1_eq_skeleton]
  unfold k0_part1_skel
  simp only [onArgs, semSignalWord, semWaitWord, Prog.lift, Prog.bind_op, Prog.bind_ret, Prog.pure_eq_ret, wp_deviceId]
  unfold Seed O₀
  iintro ⟨⟨#HR, #HL, HO, Ht0, Ht1, Ht2, Ha, Hc, HtS, HtW, HtA⟩, HB, HS, Hp0, Hp1, Hp2⟩ HK
  iapply step_load_b $$ HB
  iintro HB
  iapply step_load_s $$ HS
  iintro HS
  have e : k0_pay1 (xb c) = xb c := by unfold k0_pay1; simp only [shapeCast_self]
  rw [e]
  iapply (step_store_s (g := xb c)) $$ HS
  iintro HS
  iapply (signal xa xb K c 0 (p := px 1 c) rfl (dev1 c) (O₂ c)) $$ [HO Ht0 Hp0]
  · isplitr; · iexact HR
    isplitl [HO]; · iexact HO
    isplitl [Ht0]; · iexact Ht0
    iexact Hp0
  iintro HO
  unfold O₂
  iapply (signal xa xb K c 1 (p := px 3 c) rfl (dev2 c) (O₁ c)) $$ [HO Ht1 Hp1]
  · isplitr; · iexact HR
    isplitl [HO]; · iexact HO
    isplitl [Ht1]; · iexact Ht1
    iexact Hp1
  iintro HO
  unfold O₁
  iapply (signal xa xb K c 2 (p := px 4 c) rfl (dev3 c) (Osum c 0)) $$ [HO Ht2 Hp2]
  · isplitr; · iexact HR
    isplitl [HO]; · iexact HO
    isplitl [Ht2]; · iexact Ht2
    iexact Hp2
  iintro ⟨%W, HO⟩
  iapply (Rounds.wp_wait_rest_token 𝒱₀ ER (cubeRd xa xb) (c : Thread nD τ) none (κ := K (c, none))
      (wpE_semWait_eq 𝒱₀ (c : Thread nD τ) none Set.univ) (Set.mem_univ _) () (O := Osum c 0) (W := W) (R := 0) (m := 0) (T := ∅)
      (by rw [expect_bar]; decide)) $$ [Hc HO Ha]
  · isplitr; · iapply (records_inv xa xb K (c, none)); iexact HR
    isplitl [Hc]; · iexact Hc
    isplitl [HO]; · iexact HO
    isplitr; · iapply (mayWait_bar c); iexact HL
    iexact Ha
  iintro ⟨HO, Ha, -, Hpay⟩
  ihave Hp := (Entails.of_eq (rest_bar xa xb c)) $$ Hpay
  imod (Rounds.cell_close ER (cubeRd xa xb) (Set.mem_univ (K (c, none))) (fun h => h) (R := 0 + 1) (duties_later xa xb (barCell c))) $$ [Ha] with HZ
  · isplitr; · iapply (records_inv xa xb K (c, none)); iexact HR
    iexact Ha
  iapply wp_done
  iapply HK
  isplitl [HO HtS HtW HtA]
  · unfold Gh
    rw [ge_zero, lt_zero, bigSep_empty, bigSep_empty]
    isplitr; · iexact HR
    isplitr; · iexact HL
    isplitl [HO]; · iexists _; iexact HO
    isplitl [HtS]; · iexact HtS
    isplitl [HtW]; · iexact HtW
    isplitr; · iempintro
    isplitr; · iempintro
    iexact HtA
  isplitl [HB]; · iexact HB
  isplitl [HS]; · iexact HS
  isplitl [HZ]; · iexact HZ
  iexact Hp

/-! ## The closing waits -/

/-- Part 37: six closing waits. -/
theorem part37 {Q : _ → sProp 𝕄} :
    DrP xa xb K c 2 ⊢ iprop((∀ x, DrP xa xb K c 8 -∗ Q x) -∗ WP c (onArgs k0_part37 c) Q) := by
  rw [k0_part37_eq_skeleton]
  unfold k0_part37_skel
  simp only [onArgs, Prog.lift, Prog.bind_op, Prog.bind_ret, Prog.pure_eq_ret]
  iintro H HK
  iapply (drain xa xb K c 2 2 rfl rfl (by rfl)) $$ [H]; · iexact H
  iintro H
  iapply (drain xa xb K c 3 3 rfl rfl (by rfl)) $$ [H]; · iexact H
  iintro H
  iapply (drain xa xb K c 4 4 rfl rfl (by rfl)) $$ [H]; · iexact H
  iintro H
  iapply (drain xa xb K c 5 5 rfl rfl (by rfl)) $$ [H]; · iexact H
  iintro H
  iapply (drain xa xb K c 6 6 rfl rfl (by rfl)) $$ [H]; · iexact H
  iintro H
  iapply (drain xa xb K c 7 7 rfl rfl (by rfl)) $$ [H]; · iexact H
  iintro H
  iapply wp_done
  iapply HK
  iexact H

/-- Part 38: six more. -/
theorem part38 {Q : _ → sProp 𝕄} :
    DrP xa xb K c 8 ⊢ iprop((∀ x, DrP xa xb K c 14 -∗ Q x) -∗ WP c (onArgs k0_part38 c) Q) := by
  rw [k0_part38_eq_skeleton]
  unfold k0_part38_skel
  simp only [onArgs, Prog.lift, Prog.bind_op, Prog.bind_ret, Prog.pure_eq_ret]
  iintro H HK
  iapply (drain xa xb K c 8 8 rfl rfl (by rfl)) $$ [H]; · iexact H
  iintro H
  iapply (drain xa xb K c 9 9 rfl rfl (by rfl)) $$ [H]; · iexact H
  iintro H
  iapply (drain xa xb K c 10 10 rfl rfl (by rfl)) $$ [H]; · iexact H
  iintro H
  iapply (drain xa xb K c 11 11 rfl rfl (by rfl)) $$ [H]; · iexact H
  iintro H
  iapply (drain xa xb K c 12 12 rfl rfl (by rfl)) $$ [H]; · iexact H
  iintro H
  iapply (drain xa xb K c 15 13 rfl rfl (by rfl)) $$ [H]; · iexact H
  iintro H
  iapply wp_done
  iapply HK
  iexact H

/-- Part 39: six more. -/
theorem part39 {Q : _ → sProp 𝕄} :
    DrP xa xb K c 14 ⊢ iprop((∀ x, DrP xa xb K c 20 -∗ Q x) -∗ WP c (onArgs k0_part39 c) Q) := by
  rw [k0_part39_eq_skeleton]
  unfold k0_part39_skel
  simp only [onArgs, Prog.lift, Prog.bind_op, Prog.bind_ret, Prog.pure_eq_ret]
  iintro H HK
  iapply (drain xa xb K c 16 14 rfl rfl (by rfl)) $$ [H]; · iexact H
  iintro H
  iapply (drain xa xb K c 17 15 rfl rfl (by rfl)) $$ [H]; · iexact H
  iintro H
  iapply (drain xa xb K c 13 16 rfl rfl (by rfl)) $$ [H]; · iexact H
  iintro H
  iapply (drain xa xb K c 18 17 rfl rfl (by rfl)) $$ [H]; · iexact H
  iintro H
  iapply (drain xa xb K c 19 18 rfl rfl (by rfl)) $$ [H]; · iexact H
  iintro H
  iapply (drain xa xb K c 20 19 rfl rfl (by rfl)) $$ [H]; · iexact H
  iintro H
  iapply wp_done
  iapply HK
  iexact H

/-- Part 40: six more. -/
theorem part40 {Q : _ → sProp 𝕄} :
    DrP xa xb K c 20 ⊢ iprop((∀ x, DrP xa xb K c 26 -∗ Q x) -∗ WP c (onArgs k0_part40 c) Q) := by
  rw [k0_part40_eq_skeleton]
  unfold k0_part40_skel
  simp only [onArgs, Prog.lift, Prog.bind_op, Prog.bind_ret, Prog.pure_eq_ret]
  iintro H HK
  iapply (drain xa xb K c 14 20 rfl rfl (by rfl)) $$ [H]; · iexact H
  iintro H
  iapply (drain xa xb K c 21 21 rfl rfl (by rfl)) $$ [H]; · iexact H
  iintro H
  iapply (drain xa xb K c 22 22 rfl rfl (by rfl)) $$ [H]; · iexact H
  iintro H
  iapply (drain xa xb K c 23 23 rfl rfl (by rfl)) $$ [H]; · iexact H
  iintro H
  iapply (drain xa xb K c 24 24 rfl rfl (by rfl)) $$ [H]; · iexact H
  iintro H
  iapply (drain xa xb K c 25 25 rfl rfl (by rfl)) $$ [H]; · iexact H
  iintro H
  iapply wp_done
  iapply HK
  iexact H

/-- Part 41: six more. -/
theorem part41 {Q : _ → sProp 𝕄} :
    DrP xa xb K c 26 ⊢ iprop((∀ x, DrP xa xb K c 32 -∗ Q x) -∗ WP c (onArgs k0_part41 c) Q) := by
  rw [k0_part41_eq_skeleton]
  unfold k0_part41_skel
  simp only [onArgs, Prog.lift, Prog.bind_op, Prog.bind_ret, Prog.pure_eq_ret]
  iintro H HK
  iapply (drain xa xb K c 26 26 rfl rfl (by rfl)) $$ [H]; · iexact H
  iintro H
  iapply (drain xa xb K c 27 27 rfl rfl (by rfl)) $$ [H]; · iexact H
  iintro H
  iapply (drain xa xb K c 28 28 rfl rfl (by rfl)) $$ [H]; · iexact H
  iintro H
  iapply (drain xa xb K c 29 29 rfl rfl (by rfl)) $$ [H]; · iexact H
  iintro H
  iapply (drain xa xb K c 30 30 rfl rfl (by rfl)) $$ [H]; · iexact H
  iintro H
  iapply (drain xa xb K c 31 31 rfl rfl (by rfl)) $$ [H]; · iexact H
  iintro H
  iapply wp_done
  iapply HK
  iexact H

end Cert.CubeProof
end
-- ==== Proof.Body.lean ====
/-
# The body, part by part: the parts in order
-/
module

public import proofs.«01_k».proof.Proof.BodyB
public import proofs.«01_k».proof.Proof.BodyC
public import proofs.«01_k».proof.Proof.BodyD

@[expose] public section

set_option maxRecDepth 65536

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → CA F) (xb : Dev nD → CB F) (K : Dev nD × CI → ℕ) (c : Dev nD)

/-- What the body has when it starts, besides the semaphores' records: the operands, the scratch copy, the output buffer
cut as it is written, and the device's own landing regions. -/
def Start : sProp 𝕄 :=
  iprop(Seed xa xb K c ∗ Ap c (xa c) ∗ Bp c (xb c) ∗ (∃ f, Sp c f) ∗ ownPay c 0 ∗ ownPay c 1 ∗ ownPay c 2
    ∗ OutE c (off 0) 768 ∗ OutE c (off 1) 640 ∗ OutE c (off 2) 640)

/-- What the body has once `s` of the closing waits are over. -/
def End (s : ℕ) : sProp 𝕄 :=
  iprop(DrP xa xb K c s ∗ Ap c (xa c) ∗ Bp c (xb c) ∗ Sp c (xb c) ∗ semVal (barCell c) 0
    ∗ (bigSep Finset.univ fun k => semVal (rcell c k) 0) ∗ (bigSep kept fun p => rcvPay xa xb c (wk p)) ∗ ownPay c 0 ∗ ownPay c 1 ∗ ownPay c 2)

/-- What the neighbours hand over at the barrier, region by region. -/
theorem bar_0 : (barPay c 0 : sProp 𝕄) ⊢ iprop(RgE (px 1 c) 0 (px 2 c) ∗ RgE (px 1 c) 1 (px 1 c) ∗ RgE (px 1 c) 13 (px 1 c)
    ∗ RgE (px 1 c) 10 (px 2 c) ∗ RgE (px 1 c) 11 (px 1 c)) := Entails.of_eq rfl
theorem bar_1 : (barPay c 1 : sProp 𝕄) ⊢ iprop(RgE (px 3 c) 6 (px 7 c) ∗ RgE (px 3 c) 7 (px 3 c) ∗ RgE (px 3 c) 2 (px 7 c)
    ∗ RgE (px 3 c) 3 (px 3 c) ∗ RgE (px 3 c) 14 (px 3 c)) := Entails.of_eq rfl
theorem bar_2 : (barPay c 2 : sProp 𝕄) ⊢ iprop(RgE (px 4 c) 12 (px 4 c) ∗ RgE (px 4 c) 8 (px 5 c) ∗ RgE (px 4 c) 9 (px 4 c)
    ∗ RgE (px 4 c) 4 (px 5 c) ∗ RgE (px 4 c) 5 (px 4 c)) := Entails.of_eq rfl

/-- The output rows of a group, cut as the first exchange writes them: the two quarters sent, and the half kept. -/
theorem cut_out (g : Fin 3) (p0 p1 : Dev nD) (h0 : px (dir g 0) c = p0) (h1 : px (dir g 1) p0 = p1) {M H n : ℕ}
    (hn : 2 * wd g = n) (hH : 4 * wd g = H) (hH' : H = n + n) (hM : M = H + H) :
    (OutE c (off g) M : sProp 𝕄) ⊢ iprop(OutE c (qb g p1) n ∗ OutE c (qb g p0) n ∗ OutE c (hb g c) H) := by
  iintro H
  ihave H := (cute_group g c (q' := p0) h0 hH hM) $$ H
  icases H with ⟨HA, HB⟩
  ihave HA := (cute_half g p0 (q' := p1) h1 hn hH') $$ HA
  icases HA with ⟨HA1, HA2⟩
  isplitl [HA1]; · iexact HA1
  isplitl [HA2]; · iexact HA2
  iexact HB

/-- All but the last two closing waits: every part in turn, from `Start`. -/
theorem part42 {Q : _ → sProp 𝕄} :
    Start xa xb K c ⊢ iprop((End xa xb K c 34 -∗ Q c) -∗ WP c (onArgs k0_part42) Q) := by
  rw [k0_part42_eq_skeleton]
  unfold k0_part42_skel Start
  simp only [onArgs]
  iintro ⟨Hs, A, B, ⟨%f, S⟩, w0, w1, w2, e0, e1, e2⟩ HK
  ihave e0 := (cut_out c 0 (px 1 c) (px 2 c) rfl (by revert c; decide) (H := 384) (n := 192) rfl rfl rfl rfl) $$ e0
  icases e0 with ⟨e0_2, e0_1, e0⟩
  ihave e1 := (cut_out c 1 (px 3 c) (px 7 c) rfl (by revert c; decide) (H := 320) (n := 160) rfl rfl rfl rfl) $$ e1
  icases e1 with ⟨e1_7, e1_3, e1⟩
  ihave e2 := (cut_out c 2 (px 4 c) (px 5 c) rfl (by revert c; decide) (H := 320) (n := 160) rfl rfl rfl rfl) $$ e2
  icases e2 with ⟨e2_5, e2_4, e2⟩
  iapply wp_seq
  iapply (part1 xa xb K c (f := f)) $$ [Hs B S w0 w1 w2]
  · isplitl [Hs]; · iexact Hs
    isplitl [B]; · iexact B
    isplitl [S]; · iexact S
    isplitl [w0]; · iexact w0
    isplitl [w1]; · iexact w1
    iexact w2
  iintro %v2 %v3 %v5 %v7 %v8 %v9 %v26 ⟨G, B, S, Zb, w0, w1, w2⟩
  ihave w0 := (bar_0 c) $$ w0
  icases w0 with ⟨r0, r1, r13, r10, r11⟩
  ihave w1 := (bar_1 c) $$ w1
  icases w1 with ⟨r6, r7, r2, r3, r14⟩
  ihave w2 := (bar_2 c) $$ w2
  icases w2 with ⟨r12, r8, r9, r4, r5⟩
  iapply wp_seq
  iapply (part2 xa xb K c _ _ _) $$ [G A S e0_2 r0]
  · isplitl [G]; · iexact G
    isplitl [A]; · iexact A
    isplitl [S]; · iexact S
    isplitl [e0_2]; · iexact e0_2
    iexact r0
  iintro %a2 %b2 %d2 %e2 ⟨G, A, S⟩
  iapply wp_seq
  iapply (part3 xa xb K c _ _ _ _ _ _) $$ [G A S e0_1 e0 r1]
  · isplitl [G]; · iexact G
    isplitl [A]; · iexact A
    isplitl [S]; · iexact S
    isplitl [e0_1]; · iexact e0_1
    isplitl [e0]; · iexact e0
    iexact r1
  iintro %a3 %b3 %d3 %e3 %f3 %g3 ⟨G, A, S, o0⟩
  rw [show hb 0 c = hb 0 (px 0 c) from by rw [px_zero]]
  ihave o0 := (cut_half 0 (px 0 c) (q' := px 3 c) (n := 192) (by revert c; decide) rfl rfl).1 $$ o0
  icases o0 with ⟨o0a, o0b⟩
  iapply wp_seq
  iapply (part4 xa xb K c _ _ _ _ _ _) $$ [G A S e1_7 e1_3 r2 r3]
  · isplitl [G]; · iexact G
    isplitl [A]; · iexact A
    isplitl [S]; · iexact S
    isplitl [e1_7]; · iexact e1_7
    isplitl [e1_3]; · iexact e1_3
    isplitl [r2]; · iexact r2
    iexact r3
  iintro ⟨G, A, S⟩
  iapply wp_seq
  iapply (part5 xa xb c _ _ _) $$ [A S e1 e2_5]
  · isplitl [A]; · iexact A
    isplitl [S]; · iexact S
    isplitl [e1]; · iexact e1
    iexact e2_5
  iintro %x5 ⟨A, S, o1, o2x⟩
  obtain ⟨v5_0, v5_1, v5_2, v5_3⟩ := x5
  rw [show hb 1 c = hb 1 (px 0 c) from by rw [px_zero]]
  ihave o1 := (cut_half 1 (px 0 c) (q' := px 4 c) (n := 160) (by revert c; decide) rfl rfl).1 $$ o1
  icases o1 with ⟨o1a, o1b⟩
  iapply wp_seq
  iapply (part6 xa xb K c _ _ _ _ _) $$ [G A S o2x e2_4 e2 r4 r5]
  · isplitl [G]; · iexact G
    isplitl [A]; · iexact A
    isplitl [S]; · iexact S
    isplitl [o2x]; · iexact o2x
    isplitl [e2_4]; · iexact e2_4
    isplitl [e2]; · iexact e2
    isplitl [r4]; · iexact r4
    iexact r5
  iintro %x6 ⟨G, A, S, o2⟩
  obtain ⟨v6_0, v6_1, v6_2⟩ := x6
  rw [show hb 2 c = hb 2 (px 0 c) from by rw [px_zero]]
  ihave o2 := (cut_half 2 (px 0 c) (q' := px 1 c) (n := 160) (by revert c; decide) rfl rfl).1 $$ o2
  icases o2 with ⟨o2a, o2b⟩
  iapply wp_seq
  iapply (part7 xa xb K c _ _ _ _ _ _) $$ [G o0a r6]
  · isplitl [G]; · iexact G
    isplitl [o0a]; · iexact o0a
    iexact r6
  iintro %x7 ⟨G, z0, u0_3, p0_3⟩
  obtain ⟨v7_0, v7_1, v7_2, v7_3⟩ := x7
  iapply wp_seq
  iapply (part8 xa xb K c _ _ _ _ _ _ _ _) $$ [G p0_3 r7 o0b]
  · isplitl [G]; · iexact G
    isplitl [p0_3]; · iexact p0_3
    isplitl [r7]; · iexact r7
    iexact o0b
  iintro %x8 ⟨G, o0b, z1, u0_0⟩
  obtain ⟨v8_0, v8_1⟩ := x8
  ihave o0b := (cut_quarter 0 (px 0 c) (q' := px 4 c) (n := 96) (by revert c; decide) rfl rfl).1 $$ o0b
  icases o0b with ⟨p0_4, p0_0⟩
  iapply wp_seq
  iapply (part9 xa xb K c _ _ _ _) $$ [G o1a r8]
  · isplitl [G]; · iexact G
    isplitl [o1a]; · iexact o1a
    iexact r8
  iintro %x9 ⟨G, z2, u1_4, p1_4⟩
  obtain ⟨v9_0, v9_1⟩ := x9
  iapply wp_seq
  iapply (part10 xa xb K c _ _ _ _ _ _) $$ [G p1_4 r9 o1b o2a]
  · isplitl [G]; · iexact G
    isplitl [p1_4]; · iexact p1_4
    isplitl [r9]; · iexact r9
    isplitl [o1b]; · iexact o1b
    iexact o2a
  iintro %a10 %b10 ⟨G, o1b, z3, u1_0, o2a, z4, u2_1⟩
  ihave o1b := (cut_quarter 1 (px 0 c) (q' := px 1 c) (n := 80) (by revert c; decide) rfl rfl).1 $$ o1b
  icases o1b with ⟨p1_1, p1_0⟩
  iapply wp_seq
  iapply (part11 xa xb K c _ _ _ _ _) $$ [G o2a r10 r11]
  · isplitl [G]; · iexact G
    isplitl [o2a]; · iexact o2a
    isplitl [r10]; · iexact r10
    iexact r11
  iintro %x11 G
  obtain ⟨v11_0, v11_1, v11_2⟩ := x11
  iapply wp_seq
  iapply (part12 xa xb K c _ _ _ _ _ _) $$ [G o2b p0_4]
  · isplitl [G]; · iexact G
    isplitl [o2b]; · iexact o2b
    iexact p0_4
  iintro %x12 ⟨G, o2b, z5, u2_0, p0_4, z6, t0_4⟩
  obtain ⟨v12_0, v12_1, v12_2⟩ := x12
  ihave o2b := (cut_quarter 2 (px 0 c) (q' := px 3 c) (n := 80) (by revert c; decide) rfl rfl).1 $$ o2b
  icases o2b with ⟨p2_3, p2_0⟩
  iapply wp_seq
  iapply (part13 xa xb K c _ _ _ _ _ _ _ _) $$ [G p0_4 r12 p0_0]
  · isplitl [G]; · iexact G
    isplitl [p0_4]; · iexact p0_4
    isplitl [r12]; · iexact r12
    iexact p0_0
  iintro %x13 ⟨G, p0_0, z7, t0_0⟩
  obtain ⟨v13_0, v13_1, v13_2⟩ := x13
  iapply wp_seq
  iapply (part14 xa xb K c _ _ _ _ _ _) $$ [G p1_1 r13 p1_0]
  · isplitl [G]; · iexact G
    isplitl [p1_1]; · iexact p1_1
    isplitl [r13]; · iexact r13
    iexact p1_0
  iintro %a14 %b14 ⟨G, z8, t1_1, p1_0, l9, t1_0⟩
  iapply wp_seq
  iapply (part15 xa xb K c _ _ _ _ _ _) $$ [G p1_0 l9 p2_3]
  · isplitl [G]; · iexact G
    isplitl [p1_0]; · iexact p1_0
    isplitl [l9]; · iexact l9
    iexact p2_3
  iintro %x15 ⟨G, p1_0, z9, p2_3, z10, t2_3⟩
  obtain ⟨v15_0, v15_1, v15_2⟩ := x15
  iapply wp_seq
  iapply (part16 xa xb K c _ _ _ _ _ _) $$ [G p2_3 r14 p2_0 p0_0]
  · isplitl [G]; · iexact G
    isplitl [p2_3]; · iexact p2_3
    isplitl [r14]; · iexact r14
    isplitl [p2_0]; · iexact p2_0
    iexact p0_0
  iintro %x16 ⟨G, p2_0, z11, s2_0, p0_0, z12, s0_0⟩
  obtain ⟨v16_0, v16_1, v16_2⟩ := x16
  ihave p0_0 := (finished xa xb c 0 (n := 96) rfl) $$ p0_0
  icases p0_0 with ⟨p0_0a, p0_0b, p0_0c⟩
  iapply wp_seq
  iapply (part17 xa xb K c _ _ _ _) $$ [G p0_0a s0_0]
  · isplitl [G]; · iexact G
    isplitl [p0_0a]; · iexact p0_0a
    iexact s0_0
  iintro %x17 G
  ihave u0_0 := (cute_quarter 0 (px 0 c) (q' := px 4 c) (n := 96) (by revert c; decide) rfl rfl) $$ u0_0
  icases u0_0 with ⟨w0_4, w0_0⟩
  iapply wp_seq
  iapply (part18 xa xb K c _ _ _) $$ [G p0_0b t0_0 p0_0c w0_0]
  · isplitl [G]; · iexact G
    isplitl [p0_0b]; · iexact p0_0b
    isplitl [t0_0]; · iexact t0_0
    isplitl [p0_0c]; · iexact p0_0c
    iexact w0_0
  iintro %x18 ⟨G, l13, s1_0⟩
  iapply wp_seq
  iapply (part19 xa xb K c _ _) $$ [G p1_0 l13 s1_0]
  · isplitl [G]; · iexact G
    isplitl [p1_0]; · iexact p1_0
    isplitl [l13]; · iexact l13
    iexact s1_0
  iintro %x19 ⟨G, z13, p1_0b, p1_0c⟩
  obtain ⟨v19_0, v19_1, v19_2, v19_3, v19_4⟩ := x19
  iapply wp_seq
  iapply (part20 xa xb K c _ _ _ _ _ _) $$ [G p1_0b t1_0]
  · isplitl [G]; · iexact G
    isplitl [p1_0b]; · iexact p1_0b
    iexact t1_0
  iintro %x20 G
  ihave u1_0 := (cute_quarter 1 (px 0 c) (q' := px 1 c) (n := 80) (by revert c; decide) rfl rfl) $$ u1_0
  icases u1_0 with ⟨w1_1, w1_0⟩
  iapply wp_seq
  iapply (part21 xa xb K c _ _ _) $$ [G p1_0c w1_0 p2_0]
  · isplitl [G]; · iexact G
    isplitl [p1_0c]; · iexact p1_0c
    isplitl [w1_0]; · iexact w1_0
    iexact p2_0
  iintro %x21 ⟨G, p2_0, z14, x2_0⟩
  ihave p2_0 := (finished xa xb c 2 (n := 80) rfl) $$ p2_0
  icases p2_0 with ⟨p2_0a, p2_0b, p2_0c⟩
  iapply wp_seq
  iapply (part22 xa xb K c _) $$ [G p2_0a x2_0 p2_0b s2_0]
  · isplitl [G]; · iexact G
    isplitl [p2_0a]; · iexact p2_0a
    isplitl [x2_0]; · iexact x2_0
    isplitl [p2_0b]; · iexact p2_0b
    iexact s2_0
  iintro %x22 G
  obtain ⟨v22_0, v22_1, v22_2, v22_3, v22_4⟩ := x22
  ihave u2_0 := (cute_quarter 2 (px 0 c) (q' := px 3 c) (n := 80) (by revert c; decide) rfl rfl) $$ u2_0
  icases u2_0 with ⟨w2_3, w2_0⟩
  iapply wp_seq
  iapply (part23 xa xb K c _ _ _ _ _ _) $$ [G p2_0c w2_0]
  · isplitl [G]; · iexact G
    isplitl [p2_0c]; · iexact p2_0c
    iexact w2_0
  iintro %x23 ⟨G, q0_4⟩
  iapply wp_seq
  iapply (part24 xa xb K c _ _) $$ [G q0_4 t0_4 w0_4]
  · isplitl [G]; · iexact G
    isplitl [q0_4]; · iexact q0_4
    isplitl [t0_4]; · iexact t0_4
    iexact w0_4
  iintro %x24 G
  obtain ⟨v24_0, v24_1⟩ := x24
  iapply wp_seq
  iapply (part25 xa xb K c _ _ _) $$ [G t1_1]
  · isplitl [G]; · iexact G
    iexact t1_1
  iintro %x25 ⟨G, q1_1⟩
  obtain ⟨v25_0, v25_1, v25_2, v25_3, v25_4⟩ := x25
  iapply wp_seq
  iapply (part26 xa xb K c _ _ _ _ _ _) $$ [G q1_1 w1_1]
  · isplitl [G]; · iexact G
    isplitl [q1_1]; · iexact q1_1
    iexact w1_1
  iintro %x26 ⟨G, q2_3⟩
  obtain ⟨v26_0, v26_1, v26_2, v26_3⟩ := x26
  ihave q2_3 := (out_two c (pb 2 (px 3 c)) 80 (OUT xa xb)).1 $$ q2_3
  icases q2_3 with ⟨q2_3a, q2_3b⟩
  iapply wp_seq
  iapply (part27 xa xb K c _ _ _ _ _) $$ [G q2_3a t2_3]
  · isplitl [G]; · iexact G
    isplitl [q2_3a]; · iexact q2_3a
    iexact t2_3
  iintro %x27 G
  ihave u0_3 := (cute_quarter 0 (px 3 c) (q' := px 7 c) (n := 96) (by revert c; decide) rfl rfl) $$ u0_3
  icases u0_3 with ⟨w0_7, w0_3⟩
  iapply wp_seq
  iapply (part28 xa xb K c _) $$ [G q2_3b w2_3 w0_3]
  · isplitl [G]; · iexact G
    isplitl [q2_3b]; · iexact q2_3b
    isplitl [w2_3]; · iexact w2_3
    iexact w0_3
  iintro %x28 G
  iapply wp_seq
  iapply (part29 xa xb K c _) $$ [G w0_7]
  · isplitl [G]; · iexact G
    iexact w0_7
  iintro %x29 G
  obtain ⟨v29_0, v29_1⟩ := x29
  ihave u1_4 := (cute_quarter 1 (px 4 c) (q' := px 5 c) (n := 80) (by revert c; decide) rfl rfl) $$ u1_4
  icases u1_4 with ⟨w1_5, w1_4⟩
  iapply wp_seq
  iapply (part30 xa xb K c _ _ _) $$ [G w1_4]
  · isplitl [G]; · iexact G
    iexact w1_4
  iintro %x30 G
  iapply wp_seq
  iapply (part31 xa xb K c _) $$ [G w1_5]
  · isplitl [G]; · iexact G
    iexact w1_5
  iintro %x31 ⟨G, q2_1⟩
  ihave u2_1 := (cute_quarter 2 (px 1 c) (q' := px 2 c) (n := 80) (by revert c; decide) rfl rfl) $$ u2_1
  icases u2_1 with ⟨w2_2, w2_1⟩
  iapply wp_seq
  iapply (part32 xa xb K c _) $$ [G q2_1 w2_1]
  · isplitl [G]; · iexact G
    isplitl [q2_1]; · iexact q2_1
    iexact w2_1
  iintro %x32 ⟨G, q2_2⟩
  obtain ⟨v32_0, v32_1⟩ := x32
  iapply wp_seq
  iapply (part33 xa xb K c _ _ _) $$ [G q2_2 w2_2]
  · isplitl [G]; · iexact G
    isplitl [q2_2]; · iexact q2_2
    iexact w2_2
  iintro %x33 G
  iapply wp_seq
  iapply (part34 xa xb K c _) $$ [G]
  · iexact G
  iintro %x34 G
  iapply wp_seq
  iapply (part35 xa xb K c _) $$ [G]
  · iexact G
  iintro %x35 G
  iapply wp_seq
  iapply (part36 xa xb K c _) $$ [G]
  · iexact G
  iintro %x36 ⟨G, Zr, Kp⟩
  iapply wp_seq
  iapply (part37 xa xb K c) $$ [G]
  · iexact G
  iintro %x37 G
  iapply wp_seq
  iapply (part38 xa xb K c) $$ [G]
  · iexact G
  iintro %x38 G
  iapply wp_seq
  iapply (part39 xa xb K c) $$ [G]
  · iexact G
  iintro %x39 G
  iapply wp_seq
  iapply (part40 xa xb K c) $$ [G]
  · iexact G
  iintro %x40 G
  iapply wp_seq
  iapply (part41 xa xb K c) $$ [G]
  · iexact G
  iintro %x41 G
  simp only [Prog.lift, Prog.bind_op, Prog.bind_ret, Prog.pure_eq_ret]
  iapply (drain xa xb K c 32 32 rfl rfl (by rfl)) $$ [G]; · iexact G
  iintro G
  iapply (drain xa xb K c 33 33 rfl rfl (by rfl)) $$ [G]; · iexact G
  iintro G
  iapply wp_done
  iapply HK
  unfold End
  isplitl [G]; · iexact G
  isplitl [A]; · iexact A
  isplitl [B]; · iexact B
  isplitl [S]; · iexact S
  isplitl [Zb]; · iexact Zb
  isplitl [Zr]; · iexact Zr
  isplitl [Kp]; · iexact Kp
  isplitl [z0 z1 z13 z10 z11]
  · unfold ownPay
    isplitl [z0]; · iexact z0
    isplitl [z1]; · iexact z1
    isplitl [z13]; · iexact z13
    isplitl [z10]; · iexact z10
    iexact z11
  isplitl [z6 z7 z2 z3 z14]
  · unfold ownPay
    isplitl [z6]; · iexact z6
    isplitl [z7]; · iexact z7
    isplitl [z2]; · iexact z2
    isplitl [z3]; · iexact z3
    iexact z14
  unfold ownPay
  isplitl [z12]; · iexact z12
  isplitl [z8]; · iexact z8
  isplitl [z9]; · iexact z9
  isplitl [z4]; · iexact z4
  iexact z5

/-- The whole body, from `Start` to `End`. -/
theorem body_run {Q : PUnit → sProp 𝕄} :
    Start xa xb K c ⊢ iprop((End xa xb K c 36 -∗ Q ⟨⟩) -∗ WP c (onArgs cc0_body) Q) := by
  rw [cc0_body_eq_skeleton]
  unfold cc0_body_skel
  simp only [onArgs]
  iintro H HK
  iapply wp_seq
  iapply (part42 xa xb K c) $$ [H]; · iexact H
  unfold End
  iintro ⟨G, H⟩
  simp only [Prog.lift, Prog.bind_op, Prog.bind_ret, Prog.pure_eq_ret]
  iapply (drain xa xb K c 34 34 rfl rfl (by rfl)) $$ [G]; · iexact G
  iintro G
  iapply (drain xa xb K c 35 35 rfl rfl (by rfl)) $$ [G]; · iexact G
  iintro G
  iapply wp_done
  iapply HK
  isplitl [G]; · iexact G
  iexact H

end Cert.CubeProof
end
-- ==== Proof.Finish.lean ====
/-
# The buffers, cut at the start and joined at the end
-/
module

public import proofs.«01_k».proof.Proof.Body

@[expose] public section

set_option maxRecDepth 65536

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xa : Dev nD → CA F) (xb : Dev nD → CB F) (K : Dev nD × CI → ℕ) (c : Dev nD)

/-! ## The landing buffers -/

/-- A memref of device `c`, owned whatever it holds: its elements, whatever they hold. -/
theorem owned_any {s : Shape} (M : Memref sig .tc .vmem s .bf16) :
    (iprop(∃ X, owns (Ix := Unit) (Name := ℕ) (U := UU) (Lvl := ℕ) (c : Thread nD τ) M fullShare X) : sProp 𝕄)
      ⊣⊢ iprop(∃ f : Buf (Elt F) (M.view.loc (c : Thread nD τ)), M.view.loc (c : Thread nD τ) ↦[M.view.set]{fullShare} f) := by
  unfold owns
  constructor
  · iintro ⟨%X, %f, -, H⟩
    iexists f; iexact H
  · iintro ⟨%f, H⟩
    iexists M.view.read (Elt F) f, f
    isplitr; · ipureintro; rfl
    iexact H

theorem whole_one {s : Shape} (M : Memref sig .tc .vmem s .bf16) (hM : M.IsWhole) :
    (iprop(∃ f : Buf (Elt F) (M.view.loc (c : Thread nD τ)), M.view.loc (c : Thread nD τ) ↦{fullShare} f) : sProp 𝕄)
      ⊣⊢ iprop(∃ X, owns (Ix := Unit) (Name := ℕ) (U := UU) (Lvl := ℕ) (c : Thread nD τ) M fullShare X) := by
  have h := owned_any (F := F) c M
  rw [hM.set_eq_univ] at h
  exact ⟨h.2, h.1⟩

/-- A landing buffer of twice `n` rows is its two regions, in either order. -/
theorem whole_two {R n a b : ℕ} (M : Memref sig .tc .vmem (Sh R) .bf16) (hM : M.IsWhole) (hR : R = n + n)
    (hab : (a = 0 ∧ b = n) ∨ (b = 0 ∧ a = n)) {ia ib} :
    (iprop(∃ f : Buf (Elt F) (M.view.loc (c : Thread nD τ)), M.view.loc (c : Thread nD τ) ↦{fullShare} f) : sProp 𝕄)
      ⊣⊢ iprop((∃ X, owns (Ix := Unit) (Name := ℕ) (U := UU) (Lvl := ℕ) (c : Thread nD τ)
            (M.slice (Rect.unit (s := Sh R) ![a, 0] (Sh n).size ia) (fun _ => rfl)) fullShare X)
          ∗ ∃ X, owns (Ix := Unit) (Name := ℕ) (U := UU) (Lvl := ℕ) (c : Thread nD τ)
            (M.slice (Rect.unit (s := Sh R) ![b, 0] (Sh n).size ib) (fun _ => rfl)) fullShare X) := by
  have mem : ∀ {o : ℕ} {io} (i : (Sh R).Idx), i ∈ (Rect.unit (s := Sh R) ![o, 0] (Sh n).size io).set ↔ o ≤ (i 0).val ∧ (i 0).val < o + n := by
    intro o io i
    rw [Rect.mem_set_unit]
    constructor
    · intro h; exact h 0
    · intro h x
      fin_cases x
      · exact h
      · exact ⟨Nat.zero_le _, by have := (i 1).isLt; show (i 1).val < 0 + 2048; have e : (Sh R).size 1 = 2048 := rfl; omega⟩
  have hlt : ∀ i : (Sh R).Idx, (i 0).val < R := fun i => (i 0).isLt
  have hA := View.set_slice M.view (Rect.unit (s := Sh R) ![a, 0] (Sh n).size ia)
  have hB := View.set_slice M.view (Rect.unit (s := Sh R) ![b, 0] (Sh n).size ib)
  have hU : (Finset.univ : Finset (Idx (M.view.loc (c : Thread nD τ)))) = (M.view.slice (Rect.unit (s := Sh R) ![a, 0] (Sh n).size ia)).set
      ∪ (M.view.slice (Rect.unit (s := Sh R) ![b, 0] (Sh n).size ib)).set := by
    rw [hA, hB, ← Finset.map_union, ← hM.set_eq_univ]
    unfold View.set
    congr 1
    ext i
    rw [Finset.mem_union, mem, mem]
    have := hlt i
    simp only [Finset.mem_univ, true_iff]
    omega
  have hD : Disjoint (M.view.slice (Rect.unit (s := Sh R) ![a, 0] (Sh n).size ia)).set (M.view.slice (Rect.unit (s := Sh R) ![b, 0] (Sh n).size ib)).set := by
    rw [hA, hB, Finset.disjoint_map, Finset.disjoint_left]
    intro i
    rw [mem, mem]
    omega
  constructor
  · iintro ⟨%f, H⟩
    rw [hU]
    ihave H := (pointsTo_union hD).1 $$ H
    icases H with ⟨H1, H2⟩
    isplitl [H1]
    · iapply (owned_any c _).2; iexists f; iexact H1
    · iapply (owned_any c _).2; iexists f; iexact H2
  · iintro ⟨H1, H2⟩
    ihave H1 := (owned_any c _).1 $$ H1
    ihave H2 := (owned_any c _).1 $$ H2
    icases H1 with ⟨%f, H1⟩
    icases H2 with ⟨%g, H2⟩
    icombine H1 H2 as H
    ihave H := (pointsTo_join hD) $$ H
    rw [hU]
    iexists _
    iexact H

/-- A buffer of device `c`, whatever it holds. -/
abbrev BufE (c : Dev nD) (b : Ref sig .tc) : sProp 𝕄 :=
  iprop(∃ f : Buf (Elt F) ((c : Thread nD τ).loc b), ((c : Thread nD τ).loc b) ↦{fullShare} f)

/-- The nine landing buffers, each as the regions the copies land in. -/
theorem buf1 : (BufE (F := F) c cc0_scratch1) ⊣⊢ iprop(RgE c 0 (px (rm 0) c) ∗ RgE c 1 (px (rm 1) c)) :=
  whole_two c (Memref.whole cc0_scratch1) (Memref.isWhole_whole _) rfl (by revert c; decide)
theorem buf2 : (BufE (F := F) c cc0_scratch2) ⊣⊢ iprop(RgE c 6 (px (rm 6) c) ∗ RgE c 7 (px (rm 7) c)) :=
  whole_two c (Memref.whole cc0_scratch2) (Memref.isWhole_whole _) rfl (by revert c; decide)
theorem buf3 : (BufE (F := F) c cc0_scratch3) ⊣⊢ RgE c 12 (px (rm 12) c) :=
  whole_one c (Memref.whole cc0_scratch3) (Memref.isWhole_whole _)
theorem buf4 : (BufE (F := F) c cc0_scratch4) ⊣⊢ iprop(RgE c 2 (px (rm 2) c) ∗ RgE c 3 (px (rm 3) c)) :=
  whole_two c (Memref.whole cc0_scratch4) (Memref.isWhole_whole _) rfl (by revert c; decide)
theorem buf5 : (BufE (F := F) c cc0_scratch5) ⊣⊢ iprop(RgE c 8 (px (rm 8) c) ∗ RgE c 9 (px (rm 9) c)) :=
  whole_two c (Memref.whole cc0_scratch5) (Memref.isWhole_whole _) rfl (by revert c; decide)
theorem buf6 : (BufE (F := F) c cc0_scratch6) ⊣⊢ RgE c 13 (px (rm 13) c) :=
  whole_one c (Memref.whole cc0_scratch6) (Memref.isWhole_whole _)
theorem buf7 : (BufE (F := F) c cc0_scratch7) ⊣⊢ iprop(RgE c 4 (px (rm 4) c) ∗ RgE c 5 (px (rm 5) c)) :=
  whole_two c (Memref.whole cc0_scratch7) (Memref.isWhole_whole _) rfl (by revert c; decide)
theorem buf8 : (BufE (F := F) c cc0_scratch8) ⊣⊢ iprop(RgE c 10 (px (rm 10) c) ∗ RgE c 11 (px (rm 11) c)) :=
  whole_two c (Memref.whole cc0_scratch8) (Memref.isWhole_whole _) rfl (by revert c; decide)
theorem buf9 : (BufE (F := F) c cc0_scratch9) ⊣⊢ RgE c 14 (px (rm 14) c) :=
  whole_one c (Memref.whole cc0_scratch9) (Memref.isWhole_whole _)

/-- The nine landing buffers of a device. -/
def Bufs : sProp 𝕄 :=
  iprop(BufE c cc0_scratch1 ∗ BufE c cc0_scratch2 ∗ BufE c cc0_scratch3 ∗ BufE c cc0_scratch4 ∗ BufE c cc0_scratch5
    ∗ BufE c cc0_scratch6 ∗ BufE c cc0_scratch7 ∗ BufE c cc0_scratch8 ∗ BufE c cc0_scratch9)

/-- The nine landing buffers are what the device lends its three neighbours. -/
theorem bufs_cut : (Bufs (F := F) c) ⊢ iprop(ownPay c 0 ∗ ownPay c 1 ∗ ownPay c 2) := by
  unfold Bufs
  iintro ⟨H1, H2, H3, H4, H5, H6, H7, H8, H9⟩
  ihave H1 := (buf1 c).1 $$ H1
  icases H1 with ⟨z0, z1⟩
  ihave H2 := (buf2 c).1 $$ H2
  icases H2 with ⟨z6, z7⟩
  ihave z12 := (buf3 c).1 $$ H3
  ihave H4 := (buf4 c).1 $$ H4
  icases H4 with ⟨z2, z3⟩
  ihave H5 := (buf5 c).1 $$ H5
  icases H5 with ⟨z8, z9⟩
  ihave z13 := (buf6 c).1 $$ H6
  ihave H7 := (buf7 c).1 $$ H7
  icases H7 with ⟨z4, z5⟩
  ihave H8 := (buf8 c).1 $$ H8
  icases H8 with ⟨z10, z11⟩
  ihave z14 := (buf9 c).1 $$ H9
  unfold ownPay
  isplitl [z0 z1 z13 z10 z11]
  · isplitl [z0]; · iexact z0
    isplitl [z1]; · iexact z1
    isplitl [z13]; · iexact z13
    isplitl [z10]; · iexact z10
    iexact z11
  isplitl [z6 z7 z2 z3 z14]
  · isplitl [z6]; · iexact z6
    isplitl [z7]; · iexact z7
    isplitl [z2]; · iexact z2
    isplitl [z3]; · iexact z3
    iexact z14
  isplitl [z12]; · iexact z12
  isplitl [z8]; · iexact z8
  isplitl [z9]; · iexact z9
  isplitl [z4]; · iexact z4
  iexact z5

/-- And back. -/
theorem bufs_join : (iprop(ownPay c 0 ∗ ownPay c 1 ∗ ownPay c 2) : sProp 𝕄) ⊢ Bufs (F := F) c := by
  unfold ownPay Bufs
  iintro ⟨⟨z0, z1, z13, z10, z11⟩, ⟨z6, z7, z2, z3, z14⟩, z12, z8, z9, z4, z5⟩
  isplitl [z0 z1]
  · iapply (buf1 c).2; isplitl [z0]; · iexact z0
    iexact z1
  isplitl [z6 z7]
  · iapply (buf2 c).2; isplitl [z6]; · iexact z6
    iexact z7
  isplitl [z12]; · iapply (buf3 c).2; iexact z12
  isplitl [z2 z3]
  · iapply (buf4 c).2; isplitl [z2]; · iexact z2
    iexact z3
  isplitl [z8 z9]
  · iapply (buf5 c).2; isplitl [z8]; · iexact z8
    iexact z9
  isplitl [z13]; · iapply (buf6 c).2; iexact z13
  isplitl [z4 z5]
  · iapply (buf7 c).2; isplitl [z4]; · iexact z4
    iexact z5
  isplitl [z10 z11]
  · iapply (buf8 c).2; isplitl [z10]; · iexact z10
    iexact z11
  iapply (buf9 c).2; iexact z14

/-! ## The output buffer -/

theorem rowsF_all : rowsF 0 2048 = Finset.univ := by
  ext i
  rw [mem_rowsF]
  have h : (i 0).val < 2048 := (i 0).isLt
  simp only [Finset.mem_univ, iff_true]
  omega

/-- The output buffer is the rows of its three groups. -/
theorem out_groups (f : COut F) : (((c : Thread nD τ).loc cc0_stg2_0) ↦{fullShare} f : sProp 𝕄)
    ⊣⊢ iprop(Out c (off 0) 768 fullShare f ∗ Out c (off 1) 640 fullShare f ∗ Out c (off 2) 640 fullShare f) := by
  have h : (((c : Thread nD τ).loc cc0_stg2_0) ↦{fullShare} f : sProp 𝕄) = Out c 0 (768 + (640 + 640)) fullShare f := by
    unfold Out
    rw [show 768 + (640 + 640) = 2048 from rfl, rowsF_all]
  rw [h]
  have h1 := out_cut (F := F) (p := c) (s := fullShare) (f := f) 0 768 (640 + 640)
  have h2 := out_cut (F := F) (p := c) (s := fullShare) (f := f) (0 + 768) 640 640
  constructor
  · iintro H
    ihave H := h1.1 $$ H
    icases H with ⟨H0, H⟩
    ihave H := h2.1 $$ H
    icases H with ⟨H1, H2⟩
    isplitl [H0]; · iexact H0
    isplitl [H1]; · iexact H1
    iexact H2
  · iintro ⟨H0, H1, H2⟩
    iapply h1.2
    isplitl [H0]; · iexact H0
    iapply h2.2
    isplitl [H1]; · iexact H1
    iexact H2

/-- The distribution's copies of group `g`, slot by slot. -/
def ag : Fin 3 → Fin 7 → Fin 36 :=
  ![![15, 16, 24, 17, 25, 30, 31], ![18, 19, 26, 20, 27, 32, 33], ![21, 22, 28, 23, 29, 34, 35]]

theorem ag_late (g : Fin 3) (s : Fin 7) : ¬ (ag g s).val < 15 := by revert g s; decide
theorem ag_nr (g : Fin 3) (s : Fin 7) : nr (ag g s) = wd g := by revert g s; decide
theorem ag_bs (g : Fin 3) (s : Fin 7) (q : Dev nD) : bs (ag g s) q = pb g q := by revert g s q; decide
theorem ag_own (g : Fin 3) : (px (om (ag g 0)) c = c ∧ px (om (ag g 1)) c = c ∧ px (om (ag g 3)) c = c)
    ∧ px (om (ag g 4)) c = px (om (ag g 2)) c ∧ px (dir g 2) c = px (om (ag g 2)) c ∧ px (dir g 1) c = px (om (ag g 5)) c
    ∧ px (dir g 2) (px (om (ag g 5)) c) = px (om (ag g 6)) c ∧ px (dir g 0) c = px (rm (ag g 3)) c
    ∧ px (dir g 2) (px (rm (ag g 3)) c) = px (rm (ag g 4)) c ∧ px (dir g 1) (px (rm (ag g 3)) c) = px (rm (ag g 5)) c
    ∧ px (dir g 2) (px (rm (ag g 5)) c) = px (rm (ag g 6)) c := by revert g c; decide
theorem ag_shr (g : Fin 3) : shr (ag g 0) = fullShare.left ∧ shr (ag g 1) = fullShare.right.left ∧ shr (ag g 3) = fullShare.right.right
    ∧ shr (ag g 2) = fullShare.left ∧ shr (ag g 4) = fullShare.right ∧ shr (ag g 5) = fullShare ∧ shr (ag g 6) = fullShare := by
  fin_cases g <;> exact ⟨rfl, rfl, rfl, rfl, rfl, rfl, rfl⟩

/-- What the distribution's copies of a group give back and what the last four of them bring are the group's rows,
finished. -/
theorem join_group (g : Fin 3) :
    iprop(sndPay xa xb c (ag g 0) ∗ sndPay xa xb c (ag g 1) ∗ sndPay xa xb c (ag g 2) ∗ sndPay xa xb c (ag g 3)
        ∗ sndPay xa xb c (ag g 4) ∗ sndPay xa xb c (ag g 5) ∗ sndPay xa xb c (ag g 6)
        ∗ rcvPay xa xb c (ag g 3) ∗ rcvPay xa xb c (ag g 4) ∗ rcvPay xa xb c (ag g 5) ∗ rcvPay xa xb c (ag g 6))
      ⊢ Out c (off g) (4 * wd g + 4 * wd g) fullShare (OUT xa xb) := by
  obtain ⟨⟨o0, o1, o3⟩, o4, d2, d1, d12, d0, d02, d01, d012⟩ := ag_own c g
  obtain ⟨s0, s1, s3, s2, s4, s5, s6⟩ := ag_shr g
  rw [snd_ag xa xb c (ag g 0) (ag_late g 0) o0 (ag_bs g 0 _) (ag_nr g 0) s0,
    snd_ag xa xb c (ag g 1) (ag_late g 1) o1 (ag_bs g 1 _) (ag_nr g 1) s1,
    snd_ag xa xb c (ag g 3) (ag_late g 3) o3 (ag_bs g 3 _) (ag_nr g 3) s3,
    snd_ag xa xb c (ag g 2) (ag_late g 2) rfl (ag_bs g 2 _) (ag_nr g 2) s2,
    snd_ag xa xb c (ag g 4) (ag_late g 4) o4 (ag_bs g 4 _) (ag_nr g 4) s4,
    snd_ag xa xb c (ag g 5) (ag_late g 5) rfl (ag_bs g 5 _) (ag_nr g 5) s5,
    snd_ag xa xb c (ag g 6) (ag_late g 6) rfl (ag_bs g 6 _) (ag_nr g 6) s6,
    rcv_ag xa xb c (ag g 3) (ag_late g 3) rfl (ag_bs g 3 _) (ag_nr g 3),
    rcv_ag xa xb c (ag g 4) (ag_late g 4) rfl (ag_bs g 4 _) (ag_nr g 4),
    rcv_ag xa xb c (ag g 5) (ag_late g 5) rfl (ag_bs g 5 _) (ag_nr g 5),
    rcv_ag xa xb c (ag g 6) (ag_late g 6) rfl (ag_bs g 6 _) (ag_nr g 6)]
  iintro ⟨a0, a1, a2, a3, a4, a5, a6, b3, b4, b5, b6⟩
  iapply (cut_group g c d0 rfl rfl).2
  isplitl [b3 b4 b5 b6]
  · iapply (cut_half g (px (rm (ag g 3)) c) d01 rfl (by omega)).2
    isplitl [b5 b6]
    · iapply (cut_quarter g (px (rm (ag g 5)) c) d012 rfl (by omega)).2
      isplitl [b6]; · iexact b6
      iexact b5
    · iapply (cut_quarter g (px (rm (ag g 3)) c) d02 rfl (by omega)).2
      isplitl [b4]; · iexact b4
      iexact b3
  · iapply (cut_half g c d1 rfl (by omega)).2
    isplitl [a5 a6]
    · iapply (cut_quarter g (px (om (ag g 5)) c) d12 rfl (by omega)).2
      isplitl [a6]; · iexact a6
      iexact a5
    · iapply (cut_quarter g c d2 rfl (by omega)).2
      isplitl [a2 a4]
      · iapply (out_two c _ _ _).2
        isplitl [a2]; · iexact a2
        iexact a4
      · iapply (out_three c _ _ _).2
        isplitl [a0]; · iexact a0
        isplitl [a1]; · iexact a1
        iexact a3

/-- All the copies' returned and kept rows are the whole output buffer, finished. -/
theorem join_out : iprop((bigSep (lt 36) fun p => sndPay xa xb c (so p)) ∗ bigSep kept fun p => rcvPay xa xb c (wk p))
    ⊢ (((c : Thread nD τ).loc cc0_stg2_0) ↦{fullShare} (OUT xa xb : COut F) : sProp 𝕄) := by
  rw [lt_end, show bigSep Finset.univ (fun p => sndPay xa xb c (so p)) = bigSep Finset.univ (fun k => sndPay xa xb c k) from (bigSep_univ_equiv soE (fun k => sndPay xa xb c k)).symm,
    show (Finset.univ : Finset (Fin 36)) = {0, 1, 2, 3, 4, 5, 6, 7, 8, 9, 10, 11, 12, 13, 14, 15, 16, 17, 18, 19, 20, 21, 22, 23, 24, 25, 26, 27, 28, 29, 30, 31, 32, 33, 34, 35} from by decide,
    show kept = {24, 25, 26, 27, 28, 29, 30, 31, 32, 33, 34, 35} from by decide]
  repeat rw [bigSep_ins (by decide)]
  rw [bigSep_singleton, bigSep_singleton]
  iintro ⟨⟨-, -, -, -, -, -, -, -, -, -, -, -, -, -, -, s15, s16, s17, s18, s19, s20, s21, s22, s23, s24, s25, s26, s27, s28, s29, s30, s31, s32, s33, s34, s35⟩, r17, r25, r30, r31, r20, r27, r32, r33, r23, r29, r34, r35⟩
  iapply (out_groups c _).2
  isplitl [s15 s16 s24 s17 s25 s30 s31 r17 r25 r30 r31]
  · iapply (join_group xa xb c 0)
    isplitl [s15]; · iexact s15
    isplitl [s16]; · iexact s16
    isplitl [s24]; · iexact s24
    isplitl [s17]; · iexact s17
    isplitl [s25]; · iexact s25
    isplitl [s30]; · iexact s30
    isplitl [s31]; · iexact s31
    isplitl [r17]; · iexact r17
    isplitl [r25]; · iexact r25
    isplitl [r30]; · iexact r30
    iexact r31
  isplitl [s18 s19 s26 s20 s27 s32 s33 r20 r27 r32 r33]
  · iapply (join_group xa xb c 1)
    isplitl [s18]; · iexact s18
    isplitl [s19]; · iexact s19
    isplitl [s26]; · iexact s26
    isplitl [s20]; · iexact s20
    isplitl [s27]; · iexact s27
    isplitl [s32]; · iexact s32
    isplitl [s33]; · iexact s33
    isplitl [r20]; · iexact r20
    isplitl [r27]; · iexact r27
    isplitl [r32]; · iexact r32
    iexact r33
  iapply (join_group xa xb c 2)
  isplitl [s21]; · iexact s21
  isplitl [s22]; · iexact s22
  isplitl [s28]; · iexact s28
  isplitl [s23]; · iexact s23
  isplitl [s29]; · iexact s29
  isplitl [s34]; · iexact s34
  isplitl [s35]; · iexact s35
  isplitl [r23]; · iexact r23
  isplitl [r29]; · iexact r29
  isplitl [r34]; · iexact r34
  iexact r35

end Cert.CubeProof
end
-- ==== Proof.Launch.lean ====
/-
# The launch, and the run

The body's proof starts from a device's buffers and from tokens for its semaphores.  Here the tokens are made: all
devices' semaphores are put under the schedule at once, the tokens of the payments are dealt to the devices that
pay, and what the devices owe each other at launch becomes the credit each of them waits with.  Then every run of
the whole program ends, with each device's result at the sum of the eight products.
-/
module

public import proofs.«01_k».proof.Proof.Finish
public import proofs.«01_k».proof.Proof.Gen.KernelIdeal.Launch
public import Idealize.ShloMosaic.Lib.Pipeline.CollectiveSegs

@[expose] public section

set_option maxRecDepth 65536

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Sums over the semaphores of a device -/

section Cells

theorem swap (P Q : sProp 𝕄) : iprop(P ∗ Q) = iprop(Q ∗ P) := by
  have h (P Q : sProp 𝕄) : iprop(P ∗ Q) ⊢ iprop(Q ∗ P) := by
    iintro ⟨H, H'⟩
    isplitl [H']; · iexact H'
    iexact H
  exact BI.Entails.antisymm (h P Q) (h Q P)

/-- The semaphores of the protocol: the barrier, the send semaphores, the receive semaphores. -/
theorem bigSep_CI (Φ : CI → sProp 𝕄) :
    bigSep Finset.univ Φ = iprop(Φ none ∗ (bigSep Finset.univ fun k => Φ (some (false, k))) ∗ bigSep Finset.univ fun k => Φ (some (true, k))) := by
  have hp (Ψ : Bool × Fin 36 → sProp 𝕄) : bigSep Finset.univ Ψ
      = iprop((bigSep Finset.univ fun k => Ψ (false, k)) ∗ bigSep Finset.univ fun k => Ψ (true, k)) := by
    rw [bigSep_univ_prod, bigSep_univ_eq_bigSepL [false, true] (by decide) (by decide), bigSepL_cons_cons, bigSepL_singleton]
    rfl
  rw [bigSep_univ_equiv (Equiv.optionEquivSumPUnit (Bool × Fin 36)).symm Φ, bigSep_univ_sum, hp,
    show (Finset.univ : Finset PUnit.{1}) = {PUnit.unit} from rfl, bigSep_singleton]
  exact swap _ _

theorem csem_inj : Function.Injective csem := by
  rintro (_ | ⟨_ | _, k⟩) (_ | ⟨_ | _, k'⟩) h
  · rfl
  · exact absurd h (by simp [csem])
  · exact absurd h (by simp [csem])
  · exact absurd h (by simp [csem])
  · exact congrArg (fun k => some (false, k)) (ssem_inj (SemLoc.dma.inj h))
  · exact absurd (SemLoc.dma.inj h) (ssem_ne_rsem k k')
  · exact absurd h (by simp [csem])
  · exact absurd (SemLoc.dma.inj h).symm (ssem_ne_rsem k' k)
  · exact congrArg (fun k => some (true, k)) (rsem_inj (SemLoc.dma.inj h))

theorem kcell_inj : Function.Injective (kcell : Dev nD × CI → GSem nD τ sig) := by
  rintro ⟨c, s⟩ ⟨c', s'⟩ h
  obtain rfl : c = c' := congrArg (fun g : GSem nD τ sig => g.1.1) h
  obtain rfl : s = s' := csem_inj (congrArg Prod.snd h)
  rfl

/-- The kernel's own semaphores: the two of every copy. -/
abbrev osem (p : Bool × Fin 36) : SemLoc sig := csem (some p)

theorem osem_facts : Pipeline.OwnSemFacts cfg0.spec osem where
  isScoped := by decide +kernel
  inj := fun p q h => Option.some.inj (csem_inj h)
  disj := by decide +kernel

theorem ownSems_eq (c : Dev nD) :
    (Pipeline.ownSems0 (Ix := Unit) (Name := ℕ) (U := UU) (Lvl := ℕ) (Val := Elt F) (τ := τ) osem c : sProp 𝕄)
      = iprop((bigSep Finset.univ fun k => semVal (scell c k) 0) ∗ bigSep Finset.univ fun k => semVal (rcell c k) 0) := by
  unfold Pipeline.ownSems0
  rw [bigSep_univ_prod, bigSep_univ_eq_bigSepL [false, true] (by decide) (by decide), bigSepL_cons_cons, bigSepL_singleton]
  rfl

/-- The barrier semaphore is the launch's own. -/
theorem barSem_eq (c : Dev nD) : (unscopedSems0 c : sProp 𝕄) = semVal (barCell c) 0 := by
  unfold unscopedSems0; rw [bigSep_eq_bigSepL_of_eq [SemLoc.reg barS] (by decide +kernel) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun s : CI => semVal (kcell (c, s)) 0 : sProp 𝕄) := by
  rw [ownSems_eq, barSem_eq, bigSep_CI]
  iintro ⟨H, HB⟩
  isplitl [HB]; · iexact HB
  iexact H

end Cells

/-! ## The tokens made at launch -/

section Tokens

/-- The payments of one device's semaphores. -/
abbrev TI : Type := Fin 3 ⊕ Bool × Fin 36
def tokOf (p : Dev nD × TI) : GSem nD τ sig × ℕ × Fin 3 :=
  match p.2 with
  | .inl d => (barCell p.1, 0, d)
  | .inr q => (kcell (p.1, some q), 0, 0)

theorem tokOf_inj : Function.Injective tokOf := by
  rintro ⟨c, s⟩ ⟨c', s'⟩ h
  have hc : c = c' := by
    have := congrArg (fun x : GSem nD τ sig × ℕ × Fin 3 => x.1.1.1) h
    rcases s with s | s <;> rcases s' with s' | s' <;> exact this
  subst hc
  have hs := congrArg (fun x : GSem nD τ sig × ℕ × Fin 3 => (x.1.2, x.2.2)) h
  rcases s with s | s <;> rcases s' with s' | s'
  · exact congrArg (fun d => (c, Sum.inl d)) (congrArg Prod.snd hs)
  · exact absurd (csem_inj (a₁ := none) (a₂ := some s') (congrArg Prod.fst hs)) (by simp)
  · exact absurd (csem_inj (a₁ := some s) (a₂ := none) (congrArg Prod.fst hs)) (by simp)
  · exact congrArg (fun d => (c, Sum.inr d)) (Option.some.inj (csem_inj (congrArg Prod.fst hs)))

def allCells : Finset (GSem nD τ sig) := Finset.univ.map ⟨kcell, kcell_inj⟩
def allToks : Finset (GSem nD τ sig × ℕ × Fin 3) := Finset.univ.map ⟨tokOf, tokOf_inj⟩

def u₀ : UU :=
  (initOf (Pipeline.cells cfgs cellOf_inj) (Pipeline.launchToks cfgs cellOf_inj), initOf allCells allToks)

/-- The payment tokens of device `c`'s own semaphores. -/
def toks (c : Dev nD) : sProp 𝕄 :=
  iprop((dutyTok ER (barCell c) 0 0 ∗ dutyTok ER (barCell c) 0 1 ∗ dutyTok ER (barCell c) 0 2)
    ∗ (bigSep Finset.univ fun k => dutyTok ER (scell c k) 0 0) ∗ bigSep Finset.univ fun k => dutyTok ER (rcell c k) 0 0)

/-- The payment tokens device `c` pays with. -/
def payToks (c : Dev nD) : sProp 𝕄 :=
  iprop((dutyTok ER (barCell (px 1 c)) 0 0 ∗ dutyTok ER (barCell (px 3 c)) 0 1 ∗ dutyTok ER (barCell (px 4 c)) 0 2)
    ∗ (bigSep Finset.univ fun k => dutyTok ER (scell c k) 0 0) ∗ bigSep Finset.univ fun k => dutyTok ER (rcell (px (dm k) c) k) 0 0)

/-- Every copy taken to the device it goes to. -/
def across : Dev nD × Fin 36 ≃ Dev nD × Fin 36 where
  toFun p := (px (dm p.2) p.1, p.2)
  invFun p := (px (dm p.2) p.1, p.2)
  left_inv p := Prod.ext (px_dm_dm p.2 p.1) rfl
  right_inv p := Prod.ext (px_dm_dm p.2 p.1) rfl

/-- The tokens dealt to the devices that pay. -/
theorem toks_dealt : (bigSep Finset.univ fun c : Dev nD => (toks c : sProp 𝕄)) ⊢ bigSep Finset.univ fun c : Dev nD => payToks c := by
  have hr : (bigSep Finset.univ fun c : Dev nD => bigSep Finset.univ fun k : Fin 36 => (dutyTok ER (rcell c k) 0 0 : sProp 𝕄))
      = bigSep Finset.univ fun c : Dev nD => bigSep Finset.univ fun k : Fin 36 => dutyTok ER (rcell (px (dm k) c) k) 0 0 := by
    rw [← bigSep_univ_prod (fun p : Dev nD × Fin 36 => (dutyTok ER (rcell p.1 p.2) 0 0 : sProp 𝕄)),
      ← bigSep_univ_prod (fun p : Dev nD × Fin 36 => (dutyTok ER (rcell (px (dm p.2) p.1) p.2) 0 0 : sProp 𝕄))]
    exact bigSep_univ_equiv across (fun p : Dev nD × Fin 36 => (dutyTok ER (rcell p.1 p.2) 0 0 : sProp 𝕄))
  unfold toks payToks
  simp only [bigSep_sep']
  rw [hr, bigSep_univ_equiv (bacr 0) (fun c : Dev nD => (dutyTok ER (barCell c) 0 0 : sProp 𝕄)),
    bigSep_univ_equiv (bacr 1) (fun c : Dev nD => (dutyTok ER (barCell c) 0 1 : sProp 𝕄)),
    bigSep_univ_equiv (bacr 2) (fun c : Dev nD => (dutyTok ER (barCell c) 0 2 : sProp 𝕄))]
  iintro ⟨⟨H1, H2, H3⟩, H4, H5⟩
  isplitl [H1 H2 H3]
  · isplitl [H1]; · iexact H1
    isplitl [H2]; · iexact H2
    iexact H3
  isplitl [H4]; · iexact H4
  iexact H5

end Tokens

/-! ## The semaphores put under the schedule -/

section Alloc
variable (xa : Dev nD → CA F) (xb : Dev nD → CB F) (K : Dev nD × CI → ℕ) (c : Dev nD)

/-- A device's positions, one on each of its semaphores. -/
def poss : sProp 𝕄 := bigSep Finset.univ fun s : CI => atPos ER (kcell (c, s)) 0 ∅ 0

/-- What the launch element deals device `c`. -/
def G : sProp 𝕄 :=
  iprop((bigSep Finset.univ fun s : CI => roundState ER (cubeRd xa xb) (kcell (c, s)) 0)
    ∗ (poss c ∗ bigSep Finset.univ fun s : CI => reached ER (kcell (c, s)) 0) ∗ toks c)

/-- What a device starts from once all semaphores are under the schedule. -/
def G' : sProp 𝕄 := iprop((∃ K, records xa xb K) ∗ poss c ∗ payToks c)

theorem fund_all : BI.own (ER (initOf allCells allToks)) ⊢ (|==> bigSep Finset.univ (G xa xb) : sProp 𝕄) := by
  have hX (Φ : GSem nD τ sig → sProp 𝕄) :
      bigSep allCells Φ = bigSep Finset.univ fun c : Dev nD => bigSep Finset.univ fun s : CI => Φ (kcell (c, s)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_eq_bigSepL [(0 : Fin 3), 1, 2] (by decide) (by decide), bigSepL_cons_cons, bigSepL_cons_cons,
      bigSepL_singleton, bigSep_univ_prod, bigSep_univ_eq_bigSepL [false, true] (by decide) (by decide), bigSepL_cons_cons, bigSepL_singleton]
    rfl
  iintro HX
  imod (Rounds.fund ER (cubeRd xa xb) allCells allToks) $$ HX with ⟨Hst, Hr, Hat, Htok⟩
  imodintro
  ihave Hst := (Entails.of_eq (hX fun g => roundState ER (cubeRd xa xb) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hat Hr]
  · isplitl [Hat]; · iexact Hat
    iexact Hr
  iexact Htok

/-- One device's semaphores put under the schedule. -/
theorem alloc_one :
    iprop(Pipeline.ownSems0 (Ix := Unit) (Name := ℕ) (U := UU) (Lvl := ℕ) (Val := Elt F) (τ := τ) osem c ∗ unscopedSems0 c ∗ G xa xb c)
      ⊢ |={Set.univ}=> iprop((bigSep Finset.univ fun s => iprop(∃ κ : ℕ, cellInv ER (cubeRd xa xb) κ (kcell (c, s))))
          ∗ (poss c ∗ bigSep Finset.univ fun s : CI => reached ER (kcell (c, s)) 0) ∗ toks c) := by
  have hone : iprop((bigSep Finset.univ fun s : CI => semVal (kcell (c, s)) 0)
        ∗ bigSep Finset.univ fun s : CI => roundState ER (cubeRd xa xb) (kcell (c, s)) 0)
      ⊢ (|={Set.univ}=> bigSep Finset.univ fun s => iprop(∃ κ : ℕ, cellInv ER (cubeRd xa xb) κ (kcell (c, s))) : sProp 𝕄) := by
    rw [← bigSep_sep']
    exact (bigSep_mono fun s _ => (Rounds.body_intro ER (cubeRd xa xb) (kcell (c, s))).trans inv_alloc).trans (bigSep_fupd _ _)
  unfold G
  iintro ⟨Ho, Hu, Hst, Hrest⟩
  ihave Hv := (sems_eq (F := F) c) $$ [Ho Hu]
  · isplitl [Ho]; · iexact Ho
    iexact Hu
  imod hone $$ [Hv Hst] with Hinv
  · isplitl [Hv]; · iexact Hv
    iexact Hst
  imodintro
  isplitl [Hinv]; · iexact Hinv
  iexact Hrest

/-- A fact everyone may copy goes to every device. -/
theorem bigSep_with {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

/-- All devices' semaphores put under the schedule, and the tokens dealt. -/
theorem alloc_all :
    (bigSep Finset.univ fun c => iprop(Pipeline.ownSems0 (Ix := Unit) (Name := ℕ) (U := UU) (Lvl := ℕ) (Val := Elt F) (τ := τ) osem c
        ∗ unscopedSems0 c ∗ G xa xb c) : sProp 𝕄)
      ⊢ |={Set.univ}=> bigSep Finset.univ (G' xa xb) := by
  refine ((bigSep_mono fun c _ => alloc_one xa xb c).trans (bigSep_fupd _ _)).trans (BI.fupd_mono (show (_ : sProp 𝕄) ⊢ bigSep Finset.univ (G' xa xb) from ?_))
  rw [bigSep_sep', bigSep_sep', bigSep_sep', ← bigSep_univ_prod (fun p : Dev nD × CI => iprop(∃ κ : ℕ, cellInv ER (cubeRd xa xb) κ (kcell p))),
    ← bigSep_univ_prod (fun p : Dev nD × CI => (reached ER (kcell p) 0 : sProp 𝕄))]
  iintro ⟨HI, ⟨Hp, #HR⟩, Ht⟩
  ihave HK := (BI.bigSep_exists_pi Finset.univ (fun (p : Dev nD × CI) (κ : ℕ) => (cellInv ER (cubeRd xa xb) κ (kcell p) : sProp 𝕄))) $$ HI
  icases HK with ⟨%K, #HI⟩
  ihave Ht := (toks_dealt (F := F)) $$ Ht
  iapply (bigSep_with (R := records xa xb K) (Φ := fun c => iprop(poss c ∗ payToks c)) fun c => by
    unfold G'
    iintro ⟨#H, H'⟩
    isplitr; · iexists K; iexact H
    iexact H')
  isplitr
  · unfold records
    isplitr; · iexact HI
    iexact HR
  · rw [bigSep_sep']
    isplitl [Hp]; · iexact Hp
    iexact Ht

end Alloc

/-! ## The credit -/

section Credit
variable (c : Dev nD)

/-- What the devices owe device `c` at launch, as credit: three units on its barrier and every copy's receipt. -/
theorem creds : (Pipeline.launchCred O₀ c : sProp 𝕄)
    ⊢ iprop(cred (tallyAt (barCell c) () 3) ∗ bigSep Finset.univ fun k => cred (tallyAt (rcell c k) () (N k))) := by
  have e : (O₀ : Dev nD → CellTallies nD τ sig Unit)
      = fun d => ((∑ k ∈ ge 0, tallyAt (rcell (px (dm k) d) k) () (N k)) + tallyAt (barCell (px 4 d)) () 1
          + tallyAt (barCell (px 3 d)) () 1) + tallyAt (barCell (px 1 d)) () 1 := rfl
  have hb (d : Fin 3) : (Pipeline.launchCred (fun d' => tallyAt (barCell (px (bm d) d')) () 1) c : sProp 𝕄) ⊢ cred (tallyAt (barCell c) () 1) :=
    Pipeline.launchCred_tallyAt (SemLoc.reg barS) (px (bm d)) (px (bm d)) (px_bm_bm d) (px_bm_bm d) () 1 c
  have hk (k : Fin 36) : (Pipeline.launchCred (fun d' => tallyAt (rcell (px (dm k) d') k) () (N k)) c : sProp 𝕄) ⊢ cred (tallyAt (rcell c k) () (N k)) :=
    Pipeline.launchCred_tallyAt (SemLoc.dma (rsem k)) (px (dm k)) (px (dm k)) (px_dm_dm k) (px_dm_dm k) () (N k) c
  rw [e, Pipeline.launchCred_add, Pipeline.launchCred_add, Pipeline.launchCred_add, Pipeline.launchCred_sum, ge_zero]
  iintro ⟨⟨⟨Hk, H4⟩, H3⟩, H1⟩
  ihave H4 := (show (Pipeline.launchCred (fun d => tallyAt (barCell (px 4 d)) () 1) c : sProp 𝕄) ⊢ _ from hb 2) $$ H4
  ihave H3 := (show (Pipeline.launchCred (fun d => tallyAt (barCell (px 3 d)) () 1) c : sProp 𝕄) ⊢ _ from hb 1) $$ H3
  ihave H1 := (show (Pipeline.launchCred (fun d => tallyAt (barCell (px 1 d)) () 1) c : sProp 𝕄) ⊢ _ from hb 0) $$ H1
  isplitl [H4 H3 H1]
  · rw [show (tallyAt (barCell c) () 3 : CellTallies nD τ sig Unit)
        = tallyAt (barCell c) () 1 + tallyAt (barCell c) () 1 + tallyAt (barCell c) () 1 from by rw [tallyAt_add, tallyAt_add]]
    iapply (cred_add _ _).2
    isplitl [H4 H3]
    · iapply (cred_add _ _).2
      isplitl [H4]; · iexact H4
      iexact H3
    iexact H1
  iapply (show (bigSep Finset.univ fun k : Fin 36 => (Pipeline.launchCred (fun d' => tallyAt (rcell (px (dm k) d') k) () (N k)) c : sProp 𝕄)) ⊢ _ from
    bigSep_mono fun k _ => hk k)
  iexact Hk

end Credit

/-! ## The data of the call -/

section Run
variable (m : (ℓ : Loc nD τ sig) → Buf (Elt F) ℓ) (ρ : Dev nD → PrngReg)

/-- The launch memory: any contents, every counter zero. -/
def s₀ : MemSt nD τ sig (Elt F) := ⟨m, fun _ => 0, ρ⟩

/-- Device `c`'s blocks of the two arguments, as the kernel's buffers hold them. -/
def xa (c : Dev nD) : CA F := (win0_0.blk (0 : Fin 1)).view.read (Elt F) (m ((c : Thread nD τ).loc main_arg0))
def xb (c : Dev nD) : CB F := (win0_1.blk (0 : Fin 1)).view.read (Elt F) (m ((c : Thread nD τ).loc main_arg1))

/-- What device `c` starts from, besides its buffers. -/
def start (c : Dev nD) : sProp 𝕄 :=
  iprop(G' (xa m) (xb m) c
    ∗ (cred (tallyAt (barCell c) () 3) ∗ bigSep Finset.univ fun k => cred (tallyAt (rcell c k) () (N k))) ∗ levAts Lv lv)

def Φ₀ (c : Dev nD) : sProp 𝕄 := iprop(start m c ∗ BufE c cc0_scratch0 ∗ Bufs c)
/-- Afterwards: the scratch buffers, and every semaphore at zero again. -/
def Φ₁ (c : Dev nD) : sProp 𝕄 :=
  iprop((BufE c cc0_scratch0 ∗ Bufs (F := F) c)
    ∗ ((bigSep Finset.univ fun k => semVal (scell c k) 0) ∗ bigSep Finset.univ fun k => semVal (rcell c k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xa m c
    | ⟨1, _⟩ => xb m c
    | ⟨2, _⟩ => OUT (xa m) (xb m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xa m c) ∗ stg c cc0_stg1_0 (xb m c)
    ∗ stg c cc0_stg2_0 (OUT (xa m) (xb m)))

theorem fetch_a : (cfg0.win (0 : Fin 3)).fetch t0_0 = true := rfl
theorem fetch_b : (cfg0.win (1 : Fin 3)).fetch t0_0 = true := rfl

/-- What the call hands the body is what the body's proof starts from. -/
theorem pre_start (c : Dev nD) : bodyPre m ρ c ⊢ iprop(∃ K, Start (xa m) (xb m) K c) := by
  unfold bodyPre Φ₀ start G' poss payToks
  rw [bigSep_CI]
  iintro ⟨⟨⟨⟨⟨%K, #HR⟩, ⟨HaB, HaS, HaR⟩, ⟨Ht1, Ht3, Ht4⟩, HtS, HtR⟩, ⟨HcB, HcR⟩, #Hlev⟩, HS, Hbufs⟩, Ho,
    ⟨%d0, %g0, %hg0, HA⟩, ⟨%d1, %g1, %hg1, HB⟩, ⟨%d2, %g2, %hg2, HO⟩⟩
  have ha : g0 = xa m c := by rw [hg0]; unfold Dat.before; rw [if_pos fetch_a]; rfl
  have hb : g1 = xb m c := by rw [hg1]; unfold Dat.before; rw [if_pos fetch_b]; rfl
  subst ha; subst hb
  unfold Dat.owesAt Pipeline.owesWithin
  icases Ho with ⟨%W, %hW, Hw⟩
  rw [show (dats m ρ 0 c).owed t0_0.castSucc = O₀ c from rfl]
  ihave Hbufs := (bufs_cut (F := F) c) $$ Hbufs
  icases Hbufs with ⟨w0, w1, w2⟩
  ihave HO := (out_groups c g2).1 $$ HO
  icases HO with ⟨o0, o1, o2⟩
  iexists K
  unfold Start Seed Ap Bp Sp OutE
  isplitl [Hw Ht1 Ht3 Ht4 HaB HcB HtS HtR HaR HcR HaS]
  · isplitr; · iexact HR
    isplitr; · iexact Hlev
    isplitl [Hw]; · iexists W; iexact Hw
    isplitl [Ht1]; · iexact Ht1
    isplitl [Ht3]; · iexact Ht3
    isplitl [Ht4]; · iexact Ht4
    isplitl [HaB]; · iexact HaB
    isplitl [HcB]; · iexact HcB
    isplitl [HtS HtR]
    · unfold tokS; rw [bigSep_sep']
      isplitl [HtS]; · iexact HtS
      iexact HtR
    isplitl [HaR HcR]
    · rw [show bigSep Finset.univ (fun p => (tokW c (wk p) : sProp 𝕄)) = bigSep Finset.univ (fun k => tokW c k) from
        (bigSep_univ_equiv wkE (fun k => (tokW c k : sProp 𝕄))).symm]
      unfold tokW; rw [bigSep_sep']
      isplitl [HaR]; · iexact HaR
      iexact HcR
    iexact HaS
  isplitl [HA]; · iexact HA
  isplitl [HB]; · iexact HB
  isplitl [HS]; · iexact HS
  isplitl [w0]; · iexact w0
  isplitl [w1]; · iexact w1
  isplitl [w2]; · iexact w2
  isplitl [o0]; · iexists g2; iexact o0
  isplitl [o1]; · iexists g2; iexact o1
  iexists g2; iexact o2

/-- What the body's proof ends with is what the call expects back. -/
theorem end_post (K : Dev nD × CI → ℕ) (c : Dev nD) : End (xa m) (xb m) K c 36 ⊢ bodyPost m ρ c := by
  unfold End DrP Dr Ap Bp Sp
  rw [lt_end, show bigSep Finset.univ (fun p => (semVal (scell c (so p)) 0 : sProp 𝕄)) = bigSep Finset.univ (fun k => semVal (scell c k) 0) from
    (bigSep_univ_equiv soE (fun k => (semVal (scell c k) 0 : sProp 𝕄))).symm]
  iintro ⟨⟨⟨-, -, ⟨%W, Hw⟩, -, Hzs⟩, Hsnd⟩, HA, HB, HS, HzB, Hzr, Hrcv, w0, w1, w2⟩
  ihave HO := (join_out (xa m) (xb m) c) $$ [Hsnd Hrcv]
  · rw [lt_end]
    isplitl [Hsnd]; · iexact Hsnd
    iexact Hrcv
  ihave Hbufs := (bufs_join (F := F) c) $$ [w0 w1 w2]
  · isplitl [w0]; · iexact w0
    isplitl [w1]; · iexact w1
    iexact w2
  unfold bodyPost Φ₁ Dat.owesAt Pipeline.owesWithin
  rw [show (dats m ρ 0 c).owed t0_0.succ = 0 from rfl]
  isplitl [HS Hbufs Hzs Hzr HzB]
  · isplitl [HS Hbufs]
    · isplitl [HS]; · iexists (xb m c); iexact HS
      iexact Hbufs
    isplitl [Hzs Hzr]
    · isplitl [Hzs]; · iexact Hzs
      iexact Hzr
    iexact HzB
  isplitl [Hw]
  · iexists W
    isplitr; · ipureintro; exact fun _ _ => Or.inl trivial
    iexact Hw
  isplitl [HA]
  · iexists _; isplitr; · (ipureintro; rfl)
    iexact HA
  isplitl [HB]
  · iexists _; isplitr; · (ipureintro; rfl)
    iexact HB
  iexists _; isplitr; · (ipureintro; rfl)
  iexact HO

/-- The body runs on core `c` as the call needs. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show bodyPre m ρ c ⊢ WP c (onArgs cc0_body) (fun _ => bodyPost m ρ c)
  refine (pre_start m ρ c).trans ?_
  iintro ⟨%K, H⟩
  iapply (body_run (xa m) (xb m) K c) $$ H
  iintro H
  iapply (end_post m ρ K c)
  iexact H

/-! ## The side conditions of the launch -/

theorem start_intro (c : Dev nD) :
    iprop(Pipeline.unscopedRestP Pipeline.Prefetch.none cfg0.spec c (fun b => m ((c : Thread nD τ).loc b)) ∗ levAts Lv lv
        ∗ Pipeline.launchCred O₀ c ∗ prngReg c (ρ c) ∗ G' (xa m) (xb m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, barSem_eq]
  unfold Φ₁ Bufs
  iintro ⟨Hr, Hz, HzB⟩
  isplitl [HzB]; · iexact HzB
  isplitl [Hz]; · iexact Hz
  iexact Hr

theorem waits (c : Dev nD) : (levAts Lv lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array of the call's argument or result `w` holds at the end. -/
def finalA (c : Dev nD) (w : Fin cfg0.W) : Buf (Elt F) ((cfg0.win w).arr.view.loc (c : Thread nD τ)) := (dats m ρ 0 c).arrAt w cfg0.N

/-- From any memory with zero counters, every run of the program on the eight devices ends; each array then holds
    its final contents, and every semaphore reads zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := fun c => (body_obligation m ρ c)) (hne := fun w => by fin_cases w <;> exact Nat.succ_pos _)
    (harr := arr_whole0) (hstage := stage_whole0) (hshare := share_eq m ρ) (hdistinct := winFacts0.arr_inj)
    (O₀ := O₀) (howed₀ := fun _ => rfl) (howedN := fun _ => rfl)
    (L := Lv) (lv := lv) (hL := Lv_of_ne) (hwaits := waits m ρ)
    (G := G (xa m) (xb m)) (G' := G' (xa m) (xb m)) (u₀ := u₀)
    (hu₀ := by
      unfold u₀
      iintro Hu
      ihave H := (ownU_pair _ _) $$ Hu
      icases H with ⟨HP, HX⟩
      imod (fund_all (xa m) (xb m)) $$ HX with HG
      imodintro
      isplitl [HP] <;> iassumption)
    (hglob := alloc_all (xa m) (xb m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Run

end Cert.CubeProof

end
-- ==== Proof.Value.lean ====
/-
# The value the kernel leaves, at the ideal values

At the ideal values every rounding is the identity and addition is commutative and associative.  So a row of a
device's own product is a sum over that device's 1024 columns, the three exchanges add the eight devices' sums, and
the whole is the sum over all 8192 columns: the product of the two whole matrices, which is the reference's value.
-/
module

public import proofs.«01_k».proof.Proof.Launch
public import Idealize.ShloMosaic.Lib.ValueIdxCore
public import Idealize.ShloMosaic.Lib.StackMember
public import Idealize.ShloMosaic.Lib.Layout

@[expose] public section

set_option maxRecDepth 65536

noncomputable section

namespace Cert.CubeProof

open Cert.KernelIdeal Cert.KernelIdeal.Gen

open Idealize.ShloMosaic
open Idealize.ShloMosaic.TcCoe
open Idealize.SL.Sem
open Idealize.ShloMosaic.ValueIdx

/-! ## The arrays after the run -/

section Arrays

variable {F : FTy → Type} [FloatOps F]
variable (m : (ℓ : Loc nD τ sig) → Buf (Elt F) ℓ) (ρ : Dev nD → PrngReg)

/-- The left operand's array holds after the run what it held before. -/
theorem finalA_left (c : Dev nD) : finalA m ρ c (0 : Fin 3) = m ((c : Thread nD τ).loc main_arg0) :=
  (dats m ρ 0 c).arrAt_in (0 : Fin 3) rfl _

/-- The right operand's array holds after the run what it held before. -/
theorem finalA_right (c : Dev nD) : finalA m ρ c (1 : Fin 3) = m ((c : Thread nD τ).loc main_arg1) :=
  (dats m ρ 0 c).arrAt_in (1 : Fin 3) rfl _

/-- What the kernel finds in its left staging buffer is the device's whole left argument. -/
theorem xa_eq (c : Dev nD) : xa m c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide)
    (fun a => by fin_cases a <;> decide) _

/-- What the kernel finds in its right staging buffer is the device's whole right argument. -/
theorem xb_eq (c : Dev nD) : xb m c = m ((c : Thread nD τ).loc main_arg1) :=
  Memref.read_access_unit_zero (Elt F) main_arg1
    (show (fun a => (win0_1.index (0 : Fin 1)) a * main_arg1.ty.shape.size a) = fun _ => 0 from
      funext fun a => by fin_cases a <;> decide)
    (fun a => by fin_cases a <;> decide) _

/-- The result array's one block, read back after the run, is the finished rows. -/
theorem finalA_block (c : Dev nD) :
    (win0_2.blk (0 : Fin 1)).view.read (Elt F) (finalA m ρ c (2 : Fin 3)) = OUT (xa m) (xb m) := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The result array holds after the run the finished rows, on every device. -/
theorem finalA_out (c : Dev nD) : finalA m ρ c (2 : Fin 3) = OUT (xa m) (xb m) :=
  (Memref.read_access_unit_zero (Elt F) main_v1
    (show (fun a => (win0_2.index (0 : Fin 1)) a * main_v1.ty.shape.size a) = fun _ => 0 from
      funext fun a => by fin_cases a <;> decide)
    (fun a => by fin_cases a <;> decide) _).symm.trans (finalA_block m ρ c)

end Arrays

/-! ## The eight devices of a sum -/

/-- The devices whose products device `c` has added after three exchanges, in the order of the additions. -/
def seen (g : Fin 3) (c : Dev nD) : Fin 8 → Dev nD :=
  ![c, px (dir g 0) c, px (dir g 1) c, px (dir g 0) (px (dir g 1) c),
    px (dir g 2) c, px (dir g 0) (px (dir g 2) c), px (dir g 1) (px (dir g 2) c),
    px (dir g 0) (px (dir g 1) (px (dir g 2) c))]

theorem seen_apart (g : Fin 3) (c : Dev nD) (i j : Fin 8) : seen g c i = seen g c j → i = j := by
  revert g c i j; decide +kernel

/-- No device is missed and none is added twice. -/
theorem seen_bijective (g : Fin 3) (c : Dev nD) : Function.Bijective (seen g c) :=
  Finite.injective_iff_bijective.mp fun i j => seen_apart g c i j

/-- Three exchanges, each adding what the partner holds, add up all eight devices. -/
theorem sum_seen (f : Dev nD → EReal) (g : Fin 3) (c : Dev nD) :
    ((f c + f (px (dir g 0) c)) + (f (px (dir g 1) c) + f (px (dir g 0) (px (dir g 1) c))))
      + ((f (px (dir g 2) c) + f (px (dir g 0) (px (dir g 2) c)))
        + (f (px (dir g 1) (px (dir g 2) c)) + f (px (dir g 0) (px (dir g 1) (px (dir g 2) c)))))
      = ∑ d : Dev nD, f d := by
  rw [← (seen_bijective g c).sum_comp f, Fin.sum_univ_eight]
  simp only [seen, ← add_assoc]
  rfl

/-! ## A row of a product -/

theorem blk_row (c : Dev nD) (r : Fin 2048) :
    (blk c r.val).1 ≤ r.val ∧ r.val < (blk c r.val).1 + (blk c r.val).2 ∧ (blk c r.val).1 + (blk c r.val).2 ≤ 2048 := by
  revert c r; decide +kernel

/-- Row `r` of one matrix times column `s` of another. -/
def rowcol {M K N : ℕ} (A : (⟨2, ![M, K]⟩ : Shape).Idx → EReal) (B : (⟨2, ![K, N]⟩ : Shape).Idx → EReal)
    (r : Fin M) (s : Fin N) : EReal :=
  ∑ k : Fin K, A (ix2 r k) * B (ix2 k s)

/-- Row and column determine the sum. -/
theorem rowcol_congr {M M' K N : ℕ} {A : (⟨2, ![M, K]⟩ : Shape).Idx → EReal} {A' : (⟨2, ![M', K]⟩ : Shape).Idx → EReal}
    (B : (⟨2, ![K, N]⟩ : Shape).Idx → EReal) {r : Fin M} {r' : Fin M'} (s : Fin N)
    (h : ∀ k, A (ix2 r k) = A' (ix2 r' k)) : rowcol A B r s = rowcol A' B r' s :=
  Finset.sum_congr rfl fun k _ => by rw [h k]

/-- An element of a product of a block of rows is the sum of the products along its row and its column. -/
theorem prod_apply (n : ℕ) (A : (ShA n).Idx → Elt Ideal .bf16) (B : CB Ideal) (r : Fin n) (s : Fin 2048) :
    prod n A B (ix2 r s) = rowcol (M := n) (K := 1024) (N := 2048) A B r s := by
  refine (Ideal.matmul_plain_apply (φ₁ := .bf16) (φ₂ := .bf16) none A B (constant (F := Ideal) (Sh n) .f32 0x00000000#32) r s).trans ?_
  show Ideal.ofBits .f32 0x00000000#32 + _ = _
  rw [Ideal.ofBits_zero_f32, zero_add]
  rfl

section Sums

variable (ya : Dev nD → CA Ideal) (yb : Dev nD → CB Ideal)

/-- A device's own product, whichever block it was computed in. -/
theorem V0_apply (c : Dev nD) (r s : Fin 2048) :
    V ya yb 0 c (ix2 r s) = rowcol (M := 2048) (K := 1024) (N := 2048) (ya c) (yb c) r s := by
  obtain ⟨h1, h2, h3⟩ := blk_row c r
  show PB ya yb c (blk c r.val) (ix2 r s) = _
  generalize blk c r.val = b at h1 h2 h3
  obtain ⟨a, n⟩ := b
  dsimp only at h1 h2 h3
  have hi : (ix2 r s : S2048x2048.Idx) = (rectO a n h3).emb (ix2 ⟨r.val - a, by omega⟩ s) := by
    funext x
    apply Fin.ext
    fin_cases x
    · show r.val = a + 1 * (r.val - a)
      omega
    · show s.val = 0 + 1 * s.val
      omega
  have hp : rd a n h3 (PB ya yb c (a, n)) = prod n (rdA a n h3 (ya c)) (yb c) := by
    unfold PB
    rw [dif_pos h3]
    exact View.read_write_univ _ _
  rw [hi]
  show rd a n h3 (PB ya yb c (a, n)) (ix2 ⟨r.val - a, by omega⟩ s) = _
  rw [hp, prod_apply]
  refine rowcol_congr _ s fun k => ?_
  show ya c ((rectA a n h3).emb (ix2 ⟨r.val - a, _⟩ k)) = ya c (ix2 r k)
  congr 1
  funext x
  apply Fin.ext
  fin_cases x
  · show a + 1 * (r.val - a) = r.val
    omega
  · show 0 + 1 * k.val = k.val
    omega

/-- The finished rows are, element by element, the sum of the eight devices' products. -/
theorem OUT_apply (r s : Fin 2048) :
    OUT ya yb (ix2 r s) = ∑ d : Dev nD, rowcol (M := 2048) (K := 1024) (N := 2048) (ya d) (yb d) r s := by
  refine (sum_seen (fun d => V ya yb 0 d (ix2 r s)) (gOf r.val) (own r.val)).trans ?_
  exact Finset.sum_congr rfl fun d _ => V0_apply ya yb d r s

end Sums

/-! ## The whole product -/

/-- The columns of the whole left matrix are the devices' columns, one device after the other; so a sum over all
    8192 is the sum over the devices of the sums over their 1024. -/
theorem rowcol_blocks (A : (⟨2, ![2048, 8192]⟩ : Shape).Idx → EReal) (B : (⟨2, ![8192, 2048]⟩ : Shape).Idx → EReal)
    (r s : Fin 2048) :
    ∑ d : Dev nD, rowcol (Layout.block ⟨2, ![2048, 1024]⟩ ⟨2, ![2048, 8192]⟩ 1 8 d A)
      (Layout.block ⟨2, ![1024, 2048]⟩ ⟨2, ![8192, 2048]⟩ 0 8 d B) r s = rowcol A B r s := by
  unfold rowcol
  rw [← Fintype.sum_prod_type', ← Equiv.sum_comp (finProdFinEquiv (m := 8) (n := 1024))]
  refine Finset.sum_congr rfl fun p _ => ?_
  obtain ⟨d, k⟩ := p
  have hv : (finProdFinEquiv (m := 8) (n := 1024) (d, k)).val = k.val + 1024 * d.val := rfl
  congr 1
  · rw [Layout.block_apply]
    congr 1
    funext x
    apply Fin.ext
    rw [Layout.Tiles.idx_val]
    fin_cases x
    · rfl
    · show d.val * 1024 + k.val = (finProdFinEquiv (m := 8) (n := 1024) (d, k)).val
      omega
  · rw [Layout.block_apply]
    congr 1
    funext x
    apply Fin.ext
    rw [Layout.Tiles.idx_val]
    fin_cases x
    · show d.val * 1024 + k.val = (finProdFinEquiv (m := 8) (n := 1024) (d, k)).val
      omega
    · rfl

end Cert.CubeProof
end
-- ==== Proof.lean ====
/-
# The certificate's claims

Every run of the program ends, with the arguments as they were and every semaphore counter at zero; and at the
ideal values the result each device ends with is the product of the two whole matrices, which is what the
reference computes.  The program and its ideal reading are the same text, so one run serves both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 65536

noncomputable section

namespace Cert.Proof

open Idealize.ShloMosaic Idealize.SL.Sem Cert.Kernel
open Idealize.ShloMosaic.ValueIdx Cert.CubeProof

/-- Every run of the program, over any floats, ends with its arguments unchanged and its counters at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c (0 : Fin 3)).trans (finalA_left m ρ c),
      (h.1 c (1 : Fin 3)).trans (finalA_right m ρ c)⟩, h.2⟩)
    (run_main m ρ)

/-- The kernel's body is the same program under both names. -/
theorem body_same : Cert.Kernel.defs₀ (F := Bits) = Cert.KernelIdeal.defs₀ (F := Bits) := by
  refine congrArg (Defs.onTc (nD := Cert.Kernel.nD) (τ := Cert.Kernel.τ) (sig := Cert.Kernel.sig) (Val := Elt Bits)
    (Λ := Cert.Kernel.Λ₀)) ?_
  funext l p
  obtain ⟨l, hl⟩ := l
  obtain rfl : l = 0 := Nat.lt_one_iff.mp hl
  obtain ⟨t, s⟩ := p
  exact rfl

/-- So is the kernel with its staging. -/
theorem defs_same : Cert.Kernel.defs (F := Bits) = Cert.KernelIdeal.defs (F := Bits) :=
  congrArg (Pipeline.defs (Cert.Kernel.pcfgs (F := Bits))) body_same

/-- The kernel at the bit-exact floats. -/
theorem frame_kernel : Cert.quiescent_Kernel := fun m ρ _ => by
  rw [defs_same]
  exact frame_any (F := Bits) m ρ

/-- The kernel at the ideal values. -/
theorem frame_ideal : Cert.quiescent_KernelIdeal := fun m ρ _ => frame_any (F := Ideal) m ρ

/-- Every run of the reference ends with its arguments unchanged; it has no semaphore. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's operations, from the arguments to the result. -/
def refOut (A : FVec Ideal Cert.ReferenceIdeal.S2048x8192 .bf16) (B : FVec Ideal Cert.ReferenceIdeal.S8192x2048 .bf16) :
    FVec Ideal Cert.ReferenceIdeal.S2048x2048 .bf16 :=
  truncf .bf16 (Host.dotGeneral Cert.ReferenceIdeal.dot_S2048x8192_S8192x2048_S2048x2048_1_0_0_1_n_n none
    (extf .f32 A Cert.ReferenceIdeal.Facts₀.bitsLt_bf16_f32) (extf .f32 B Cert.ReferenceIdeal.Facts₀.bitsLt_bf16_f32))
    Cert.ReferenceIdeal.Facts₀.bitsLt_bf16_f32

/-- An element of the reference's result is a row of the left matrix times a column of the right one. -/
theorem refOut_apply (A : FVec Ideal Cert.ReferenceIdeal.S2048x8192 .bf16)
    (B : FVec Ideal Cert.ReferenceIdeal.S8192x2048 .bf16) (r s : Fin 2048) :
    refOut A B (ix2 r s) = rowcol (M := 2048) (K := 8192) (N := 2048) A B r s :=
  StackMember.dotGeneral_plain_apply (m := 2048) (k := 8192) (n := 2048) (φ₁ := .f32) (φ₂ := .f32) none A B r s

/-- When every device holds its blocks of the two matrices, the finished rows are the reference's result. -/
theorem out_eq_refOut (A : FVec Ideal Cert.ReferenceIdeal.S2048x8192 .bf16)
    (B : FVec Ideal Cert.ReferenceIdeal.S8192x2048 .bf16)
    (ya : Dev Cert.KernelIdeal.nD → CA Ideal) (yb : Dev Cert.KernelIdeal.nD → CB Ideal)
    (ha : ∀ c, ya c = Layout.block ⟨2, ![2048, 1024]⟩ ⟨2, ![2048, 8192]⟩ 1 8 c A)
    (hb : ∀ c, yb c = Layout.block ⟨2, ![1024, 2048]⟩ ⟨2, ![8192, 2048]⟩ 0 8 c B) :
    OUT ya yb = refOut A B := by
  funext i
  obtain ⟨r, s, rfl⟩ : ∃ r s : Fin 2048, i = ix2 r s := ⟨i 0, i 1, eq_ix2 i⟩
  refine (OUT_apply ya yb r s).trans (Eq.trans ?_ ((rowcol_blocks A B r s).trans (refOut_apply A B r s).symm))
  exact congrArg (fun f : Dev Cert.KernelIdeal.nD → EReal => ∑ d, f d) (funext fun d => by rw [ha d, hb d])

/-- At the ideal values, on every device, the kernel's result is the reference's. -/
theorem value : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨((h.1 c (2 : Fin 3)).trans (finalA_out m ρ c)).trans ?_,
      (h.1 c (0 : Fin 3)).trans (finalA_left m ρ c), (h.1 c (1 : Fin 3)).trans (finalA_right m ρ c)⟩)
      (run_main (F := Ideal) m ρ)
    exact out_eq_refOut _ _ _ _ (fun d => (xa_eq m d).trans (hagree d).1) (fun d => (xb_eq m d).trans (hagree d).2)
  · exact (θ_run Cert.ReferenceIdeal.defs _ _).mono (fun _ h => h 0) (Cert.ReferenceIdeal.Value.run (F := Ideal) m' ρ')

/-- The certificate: the three programs' runs, the program's text kept, and the value. -/
theorem claim : Cert.Claim := ⟨Cert.Kernel.Gen.facts, Cert.KernelIdeal.Gen.facts, Cert.ReferenceIdeal.Gen.facts,
  frame_kernel, frame_ideal, frame_ref, trivial, value⟩

end Cert.Proof

end
